-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_counted : Cert.Pre_counted.Facts] (m : (ℓ : Loc Cert.Kernel2.nD Cert.Kernel2.τ Cert.Kernel2.sig) → Buf (Elt Bits) ℓ) : Prop :=
  ∀ c : Dev Cert.Kernel2.nD,
    (Cert.Pre_counted.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_counted : Cert.Pre_counted.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counted.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_counted : Cert.Pre_counted.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counted.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_placed : Cert.Pre_placed.Facts] (m : (ℓ : Loc Cert.Kernel3.nD Cert.Kernel3.τ Cert.Kernel3.sig) → Buf (Elt Bits) ℓ) : Prop :=
  ∀ c : Dev Cert.Kernel3.nD,
    (Cert.Pre_placed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_placed : Cert.Pre_placed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_placed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal [hPre_placed : Cert.Pre_placed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_placed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_counted : Cert.Pre_counted.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_counted : Cert.Pre_counted.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_placed : Cert.Pre_placed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] [hPre_placed : Cert.Pre_placed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def bitexact_Kernel_Reference_on_rows_in_use [hKernel : Cert.Kernel.Facts] [hReference : Cert.Reference.Facts] [hPre_routed : Cert.Pre_routed.Facts] [hOn_rows_in_use : Cert.On_rows_in_use.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v10)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![1114112, 128]⟩ : Shape).Idx, (Cert.On_rows_in_use.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) i = 1#1 → r.2.mem ((c.tc : Thread Cert.Kernel.nD Cert.Kernel.τ).loc Cert.Kernel.main_v10) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![1114112, 128]⟩ : Shape).Idx, (Cert.On_rows_in_use.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) i = 1#1 → r.2.mem ((c.tc : Thread Cert.Reference.nD Cert.Reference.τ).loc Cert.Reference.main_v12) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal_on_rows_in_use [hKernelIdeal : Cert.KernelIdeal.Facts] [hReferenceIdeal : Cert.ReferenceIdeal.Facts] [hPre_routed : Cert.Pre_routed.Facts] [hOn_rows_in_use : Cert.On_rows_in_use.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1114112, 128]⟩ : Shape).Idx, (Cert.On_rows_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v10) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1114112, 128]⟩ : Shape).Idx, (Cert.On_rows_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v12) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_on_tiles_in_use [hKernel2Ideal : Cert.Kernel2Ideal.Facts] [hReference2Ideal : Cert.Reference2Ideal.Facts] [hPre_counted : Cert.Pre_counted.Facts] [hOn_tiles_in_use : Cert.On_tiles_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![1114112, 128]⟩ : Shape).Idx, (Cert.On_tiles_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v31) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![1114112, 128]⟩ : Shape).Idx, (Cert.On_tiles_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v66) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_counted : Cert.Pre_counted.Facts) (hPre_placed : Cert.Pre_placed.Facts) (hOn_rows_in_use : Cert.On_rows_in_use.Facts) (hOn_tiles_in_use : Cert.On_tiles_in_use.Facts),
    quiescent_Kernel (hKernel := hKernel) (hPre_routed := hPre_routed)
    ∧ quiescent_KernelIdeal (hKernelIdeal := hKernelIdeal) (hPre_routed := hPre_routed)
    ∧ quiescent_Reference (hReference := hReference) (hPre_routed := hPre_routed)
    ∧ quiescent_ReferenceIdeal (hReferenceIdeal := hReferenceIdeal) (hPre_routed := hPre_routed)
    ∧ quiescent_Kernel2 (hKernel2 := hKernel2) (hPre_counted := hPre_counted)
    ∧ quiescent_Kernel2Ideal (hKernel2Ideal := hKernel2Ideal) (hPre_counted := hPre_counted)
    ∧ quiescent_Reference2Ideal (hReference2Ideal := hReference2Ideal) (hPre_counted := hPre_counted)
    ∧ quiescent_Kernel3 (hKernel3 := hKernel3) (hPre_placed := hPre_placed)
    ∧ quiescent_Kernel3Ideal (hKernel3Ideal := hKernel3Ideal) (hPre_placed := hPre_placed)
    ∧ quiescent_Reference3Ideal (hReference3Ideal := hReference3Ideal) (hPre_placed := hPre_placed)
    ∧ preserves_Kernel_KernelIdeal
    ∧ bitexact_Kernel_Reference_on_rows_in_use (hKernel := hKernel) (hReference := hReference) (hPre_routed := hPre_routed) (hOn_rows_in_use := hOn_rows_in_use)
    ∧ algebraic_KernelIdeal_ReferenceIdeal_on_rows_in_use (hKernelIdeal := hKernelIdeal) (hReferenceIdeal := hReferenceIdeal) (hPre_routed := hPre_routed) (hOn_rows_in_use := hOn_rows_in_use)
    ∧ preserves_Kernel2_Kernel2Ideal
    ∧ algebraic_Kernel2Ideal_Reference2Ideal_on_tiles_in_use (hKernel2Ideal := hKernel2Ideal) (hReference2Ideal := hReference2Ideal) (hPre_counted := hPre_counted) (hOn_tiles_in_use := hOn_tiles_in_use)
    ∧ preserves_Kernel3_Kernel3Ideal
    ∧ algebraic_Kernel3Ideal_Reference3Ideal (hKernel3Ideal := hKernel3Ideal) (hReference3Ideal := hReference3Ideal) (hPre_placed := hPre_placed)
-- ==== On_rows_in_use.lean ====
abbrev S262144x128 : Shape := ⟨2, ![262144, 128]⟩
abbrev S32768x4 : Shape := ⟨2, ![32768, 4]⟩
abbrev S32 : Shape := ⟨1, ![32]⟩
abbrev S_ : Shape := ⟨0, ![]⟩
abbrev S1114112x128 : Shape := ⟨2, ![1114112, 128]⟩
abbrev S32x1x1 : Shape := ⟨3, ![32, 1, 1]⟩
abbrev S1x1114112x128 : Shape := ⟨3, ![1, 1114112, 128]⟩
abbrev S32x1114112x128 : Shape := ⟨3, ![32, 1114112, 128]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S1114112x128 : S_.BroadcastsInDim S1114112x128 (![] : Fin 0 → Fin S1114112x128.rank)
  bcast_S32_S32x1x1_0 : S32.BroadcastsInDim S32x1x1 (![0] : Fin 1 → Fin S32x1x1.rank)
  bcast_S1114112x128_S1x1114112x128_1_2 : S1114112x128.BroadcastsInDim S1x1114112x128 (![1, 2] : Fin 2 → Fin S1x1114112x128.rank)
  bcast_S32x1x1_S32x1114112x128_0_1_2 : S32x1x1.BroadcastsInDim S32x1114112x128 (![0, 1, 2] : Fin 3 → Fin S32x1114112x128.rank)
  bcast_S1x1114112x128_S32x1114112x128_0_1_2 : S1x1114112x128.BroadcastsInDim S32x1114112x128 (![0, 1, 2] : Fin 3 → Fin S32x1114112x128.rank)
  reducesTo_S32x1114112x128_S1114112x128_d0 : S32x1114112x128.ReducesTo [0] S1114112x128

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S1114112x128 1) (arg1 : IVec S1114112x128 32) (arg2 : IVec S1114112x128 32) : IVec S1114112x128 32 :=
  let v0 : IVec S1114112x128 32 := select arg0 arg1 arg2
  v0

def fn_floor_divide_1 {F : FTy → Type} [FloatOps F] (arg0 : IVec S1114112x128 32) (arg1 : IVec S_ 32) : IVec S1114112x128 32 :=
  let v0 : IVec S_ 32 := id arg1
  let v1 : IVec S1114112x128 32 := broadcastInDim S1114112x128 ![] bcast_S_S1114112x128 v0
  let v2 : IVec S1114112x128 32 := Host.divsi arg0 v1
  let v3 : IVec S1114112x128 32 := signi arg0
  let v4 : IVec S_ 32 := signi v0
  let v5 : IVec S1114112x128 32 := broadcastInDim S1114112x128 ![] bcast_S_S1114112x128 v4
  let v6 : IVec S1114112x128 1 := cmpi .ne v3 v5
  let v7 : IVec S1114112x128 32 := broadcastInDim S1114112x128 ![] bcast_S_S1114112x128 v0
  let v8 : IVec S1114112x128 32 := Host.remsi arg0 v7
  let c : IVec S_ 32 := constantI S_ 32 0#32
  let v9 : IVec S1114112x128 32 := broadcastInDim S1114112x128 ![] bcast_S_S1114112x128 c
  let v10 : IVec S1114112x128 1 := cmpi .ne v8 v9
  let v11 : IVec S1114112x128 1 := andi v6 v10
  let c_0 : IVec S_ 32 := constantI S_ 32 1#32
  let v12 : IVec S1114112x128 32 := broadcastInDim S1114112x128 ![] bcast_S_S1114112x128 c_0
  let v13 : IVec S1114112x128 32 := subi v2 v12
  let v14 : IVec S1114112x128 32 := fn_where_2 (F := F) v11 v13 v2
  v14

def fn_part1 {F : FTy → Type} [FloatOps F] (main_v8 : IVec S32 32) (main_v15 : IVec S32 32) : IVec S1114112x128 1 :=
  let main_v16 : IVec S32 32 := addi main_v8 main_v15
  let main_v17 : IVec S1114112x128 32 := iotaInDim S1114112x128 32 0
  let main_c_7 : IVec S_ 32 := constantI S_ 32 8#32
  let main_v18 : IVec S1114112x128 32 := fn_floor_divide_1 (F := F) main_v17 main_c_7
  let main_v19 : IVec S32x1x1 32 := broadcastInDim S32x1x1 ![0] bcast_S32_S32x1x1_0 main_v8
  let main_v20 : IVec S1x1114112x128 32 := broadcastInDim S1x1114112x128 ![1, 2] bcast_S1114112x128_S1x1114112x128_1_2 main_v18
  let main_v21 : IVec S32x1114112x128 32 := broadcastInDim S32x1114112x128 ![0, 1, 2] bcast_S32x1x1_S32x1114112x128_0_1_2 main_v19
  let main_v22 : IVec S32x1114112x128 32 := broadcastInDim S32x1114112x128 ![0, 1, 2] bcast_S1x1114112x128_S32x1114112x128_0_1_2 main_v20
  let main_v23 : IVec S32x1114112x128 1 := cmpi .sle main_v21 main_v22
  let main_v24 : IVec S32x1x1 32 := broadcastInDim S32x1x1 ![0] bcast_S32_S32x1x1_0 main_v16
  let main_v25 : IVec S1x1114112x128 32 := broadcastInDim S1x1114112x128 ![1, 2] bcast_S1114112x128_S1x1114112x128_1_2 main_v18
  let main_v26 : IVec S32x1114112x128 32 := broadcastInDim S32x1114112x128 ![0, 1, 2] bcast_S1x1114112x128_S32x1114112x128_0_1_2 main_v25
  let main_v27 : IVec S32x1114112x128 32 := broadcastInDim S32x1114112x128 ![0, 1, 2] bcast_S32x1x1_S32x1114112x128_0_1_2 main_v24
  let main_v28 : IVec S32x1114112x128 1 := cmpi .slt main_v26 main_v27
  let main_v29 : IVec S32x1114112x128 1 := andi main_v23 main_v28
  let main_c_8 : IVec S_ 1 := constantI S_ 1 0#1
  let main_v30 : IVec S1114112x128 1 := (fun x v => Host.reduce IntOp.ori x v reducesTo_S32x1114112x128_S1114112x128_d0 h_S_) main_v29 main_c_8
  main_v30

def fn {F : FTy → Type} [FloatOps F] (main_arg0 : FVec F S262144x128 .f32) (main_arg1 : IVec S32768x4 32) (main_arg2 : IVec S32 32) : IVec S1114112x128 1 :=
  let main_c : IVec S_ 32 := constantI S_ 32 256#32
  let main_v0 : IVec S32 32 := broadcastInDim S32 ![] bcast_S_S32 main_c
  let main_v1 : IVec S32 32 := addi main_arg2 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 256#32
  let main_v4 : IVec S32 32 := fn_floor_divide (F := F) main_v3 main_c_1
  let main_v5 : IVec S32 32 := fn_cumsum (F := F) main_v4
  let main_v6 : IVec S32 32 := subi main_v5 main_v4
  let main_c_2 : IVec S_ 32 := constantI S_ 32 256#32
  let main_v7 : IVec S32 32 := broadcastInDim S32 ![] bcast_S_S32 main_c_2
  let main_v8 : IVec S32 32 := muli main_v6 main_v7
  let main_c_3 : IVec S_ 32 := constantI S_ 32 256#32
  let main_v9 : IVec S32 32 := broadcastInDim S32 ![] bcast_S_S32 main_c_3
  let main_v10 : IVec S32 32 := addi main_arg2 main_v9
  let main_c_4 : IVec S_ 32 := constantI S_ 32 1#32
  let main_v11 : IVec S32 32 := broadcastInDim S32 ![] bcast_S_S32 main_c_4
  let main_v12 : IVec S32 32 := subi main_v10 main_v11
  let main_c_5 : IVec S_ 32 := constantI S_ 32 256#32
  let main_v13 : IVec S32 32 := fn_floor_divide (F := F) main_v12 main_c_5
  let main_c_6 : IVec S_ 32 := constantI S_ 32 256#32
  let main_v14 : IVec S32 32 := broadcastInDim S32 ![] bcast_S_S32 main_c_6
  let main_v15 : IVec S32 32 := muli main_v13 main_v14
  fn_part1 (F := F) main_v8 main_v15
-- ==== On_tiles_in_use.lean ====
abbrev S1114112x128 : Shape := ⟨2, ![1114112, 128]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S1114112x128 : S_.BroadcastsInDim S1114112x128 (![] : Fin 0 → Fin S1114112x128.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_where_1 {F : FTy → Type} [FloatOps F] (arg0 : IVec S1114112x128 1) (arg1 : IVec S1114112x128 32) (arg2 : IVec S1114112x128 32) : IVec S1114112x128 32 :=
  let v0 : IVec S1114112x128 32 := select arg0 arg1 arg2
  v0

def fn_floor_divide_0 {F : FTy → Type} [FloatOps F] (arg0 : IVec S1114112x128 32) (arg1 : IVec S_ 32) : IVec S1114112x128 32 :=
  let v0 : IVec S_ 32 := id arg1
  let v1 : IVec S1114112x128 32 := broadcastInDim S1114112x128 ![] bcast_S_S1114112x128 v0
  let v2 : IVec S1114112x128 32 := Host.divsi arg0 v1
  let v3 : IVec S1114112x128 32 := signi arg0
  let v4 : IVec S_ 32 := signi v0
  let v5 : IVec S1114112x128 32 := broadcastInDim S1114112x128 ![] bcast_S_S1114112x128 v4
  let v6 : IVec S1114112x128 1 := cmpi .ne v3 v5
  let v7 : IVec S1114112x128 32 := broadcastInDim S1114112x128 ![] bcast_S_S1114112x128 v0
  let v8 : IVec S1114112x128 32 := Host.remsi arg0 v7
  let c : IVec S_ 32 := constantI S_ 32 0#32
  let v9 : IVec S1114112x128 32 := broadcastInDim S1114112x128 ![] bcast_S_S1114112x128 c
  let v10 : IVec S1114112x128 1 := cmpi .ne v8 v9
  let v11 : IVec S1114112x128 1 := andi v6 v10
  let c_0 : IVec S_ 32 := constantI S_ 32 1#32
  let v12 : IVec S1114112x128 32 := broadcastInDim S1114112x128 ![] bcast_S_S1114112x128 c_0
  let v13 : IVec S1114112x128 32 := subi v2 v12
  let v14 : IVec S1114112x128 32 := fn_where_1 (F := F) v11 v13 v2
  v14

def fn {F : FTy → Type} [FloatOps F] (main_arg0 : FVec F S1114112x128 .f32) (main_arg1 : IVec S32 32) (main_arg2 : FVec F S32x1024x2048 .f32) (main_arg3 : FVec F S32x2048 .f32) (main_arg4 : FVec F S32x1024x1024 .f32) (main_arg5 : FVec F S32x1024 .f32) : IVec S1114112x128 1 :=
  let main_c : IVec S_ 32 := constantI S_ 32 256#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 256#32
  let main_v4 : IVec S32 32 := fn_floor_divide (F := F) main_v3 main_c_1
  let main_c_2 : IVec S_ 32 := constantI S_ 32 256#32
  let main_v5 : IVec S32 32 := broadcastInDim S32 ![] bcast_S_S32 main_c_2
  let main_v6 : IVec S32 32 := muli main_v4 main_v5
  let main_c_3 : IVec S_ 32 := constantI S_ 32 0#32
  let main_v7 : IVec S_ 32 := (fun x v => Host.reduce IntOp.addi x v reducesTo_S32_S_d0 h_S_) main_v6 main_c_3
  let main_v8 : IVec S1114112x128 32 := iotaInDim S1114112x128 32 0
  let main_c_4 : IVec S_ 32 := constantI S_ 32 8#32
  let main_v9 : IVec S1114112x128 32 := fn_floor_divide_0 (F := F) main_v8 main_c_4
  let main_v10 : IVec S1114112x128 32 := broadcastInDim S1114112x128 ![] bcast_S_S1114112x128 main_v7
  let main_v11 : IVec S1114112x128 1 := cmpi .slt main_v9 main_v10
  main_v11
-- ==== Pre_counted.lean ====
abbrev S1114112x128 : Shape := ⟨2, ![1114112, 128]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S1114112x128 .f32) (main_arg1 : IVec S32 32) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 131072#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S32 32 := broadcastInDim S32 ![] bcast_S_S32 main_c_2
  let main_v7 : IVec S32 1 := cmpi .sgt main_arg1 main_v6
  let main_c_3 : IVec S_ 1 := constantI S_ 1 0#1
  let main_v8 : IVec S_ 1 := (fun x v => Host.reduce IntOp.ori x v reducesTo_S32_S_d0 h_S_) main_v7 main_c_3
  let main_v9 : IVec S_ 1 := andi main_v5 main_v8
  main_v9
-- ==== Pre_placed.lean ====
abbrev S1114112x128 : Shape := ⟨2, ![1114112, 128]⟩
abbrev S32768x4 : Shape := ⟨2, ![32768, 4]⟩
abbrev S32768x1024 : Shape := ⟨2, ![32768, 1024]⟩
abbrev S_ : Shape := ⟨0, ![]⟩

class Facts : Prop where
  bcast_S_S32768x4 : S_.BroadcastsInDim S32768x4 (![] : Fin 0 → Fin S32768x4.rank)
  reducesTo_S32768x4_S_d0_1 : S32768x4.ReducesTo [0, 1] S_
  h_S_ : 0 < S_.numel

variable [Facts]

def fn {F : FTy → Type} [FloatOps F] (main_arg0 : FVec F S1114112x128 .f32) (main_arg1 : IVec S32768x4 32) (main_arg2 : FVec F S32768x1024 .f32) (main_arg3 : FVec F S32768x4 .f32) : IVec S_ 1 :=
  let main_c : IVec S_ 32 := constantI S_ 32 0#32
  let main_v0 : IVec S32768x4 32 := broadcastInDim S32768x4 ![] bcast_S_S32768x4 main_c
  let main_v1 : IVec S32768x4 1 := cmpi .sge main_arg1 main_v0
  let main_c_0 : IVec S_ 32 := constantI S_ 32 139264#32
  let main_v2 : IVec S32768x4 32 := broadcastInDim S32768x4 ![] bcast_S_S32768x4 main_c_0
  let main_v3 : IVec S32768x4 1 := cmpi .slt main_arg1 main_v2
  let main_v4 : IVec S32768x4 1 := andi main_v1 main_v3
  let main_c_1 : IVec S_ 1 := constantI S_ 1 1#1
  let main_v5 : IVec S_ 1 := (fun x v => Host.reduce IntOp.andi x v reducesTo_S32768x4_S_d0_1 h_S_) main_v4 main_c_1
  main_v5
-- ==== Pre_routed.lean ====
abbrev S262144x128 : Shape := ⟨2, ![262144, 128]⟩
abbrev S32768x4 : Shape := ⟨2, ![32768, 4]⟩
abbrev S32 : Shape := ⟨1, ![32]⟩
abbrev S_ : Shape := ⟨0, ![]⟩
abbrev S139264x32 : Shape := ⟨2, ![139264, 32]⟩
abbrev S1x32 : Shape := ⟨2, ![1, 32]⟩
abbrev S139264 : Shape := ⟨1, ![139264]⟩
abbrev S131072 : Shape := ⟨1, ![131072]⟩
abbrev S131072x1 : Shape := ⟨2, ![131072, 1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S32_S1x32_1 : S32.BroadcastsInDim S1x32 (![1] : Fin 1 → Fin S1x32.rank)
  bcast_S1x32_S139264x32_0_1 : S1x32.BroadcastsInDim S139264x32 (![0, 1] : Fin 2 → Fin S139264x32.rank)
  reducesTo_S139264x32_S139264_d1 : S139264x32.ReducesTo [1] S139264
  natLt_1_32 : 1 < 32
  bcast_S_S139264 : S_.BroadcastsInDim S139264 (![] : Fin 0 → Fin S139264.rank)
  shapeCasts_S32768x4_S131072 : S32768x4.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  bcast_S_S32768x4 : S_.BroadcastsInDim S32768x4 (![] : Fin 0 → Fin S32768x4.rank)
  reducesTo_S32_S_d0 : S32.ReducesTo [0] S_
  reducesTo_S32768x4_S_d0_1 : S32768x4.ReducesTo [0, 1] S_
  reducesTo_S139264_S_d0 : S139264.ReducesTo [0] S_
  scatter_S139264_S131072x1_S131072_n_0_0_1_wf : ScatterDims.WF S139264 S131072x1 S131072 [] [0] [0] 1

variable [Facts]

def scatter_S139264_S131072x1_S131072_n_0_0_1 : ScatterDims S139264 S131072x1 S131072 where
  updateWindowDims := []
  insertedWindowDims := [0]
  scatterDimsToOperandDims := [0]
  indexVectorDim := 1
  wf := scatter_S139264_S131072x1_S131072_n_0_0_1_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_part3 {F : FTy → Type} [FloatOps F] (main_arg1 : IVec S32768x4 32) (main_v24 : IVec S32 1) (main_v49 : IVec S139264 1) (main_v51 : IVec S32768x4 1) (main_v52 : IVec S32768x4 32) : IVec S_ 1 :=
  let main_v53 : IVec S32768x4 1 := cmpi .slt main_arg1 main_v52
  let main_v54 : IVec S32768x4 1 := andi main_v51 main_v53
  let main_c_18 : IVec S_ 1 := constantI S_ 1 1#1
  let main_v55 : IVec S_ 1 := (fun x v => Host.reduce IntOp.andi x v reducesTo_S32_S_d0 h_S_) main_v24 main_c_18
  let main_c_19 : IVec S_ 1 := constantI S_ 1 1#1
  let main_v56 : IVec S_ 1 := (fun x v => Host.reduce IntOp.andi x v reducesTo_S32768x4_S_d0_1 h_S_) main_v54 main_c_19
  let main_v57 : IVec S_ 1 := andi main_v55 main_v56
  let main_c_20 : IVec S_ 1 := constantI S_ 1 1#1
  let main_v58 : IVec S_ 1 := (fun x v => Host.reduce IntOp.andi x v reducesTo_S139264_S_d0 h_S_) main_v49 main_c_20
  let main_v59 : IVec S_ 1 := andi main_v57 main_v58
  main_v59

def fn_part2 {F : FTy → Type} [FloatOps F] (main_arg1 : IVec S32768x4 32) (main_v24 : IVec S32 1) (main_v35 : IVec S139264 32) : IVec S_ 1 :=
  let main_c_11 : IVec S_ 32 := constantI S_ 32 0#32
  let main_v36 : IVec S139264 32 := broadcastInDim S139264 ![] bcast_S_S139264 main_c_11
  let main_v37 : IVec S131072 32 := shapeCast S131072 main_arg1 shapeCasts_S32768x4_S131072
  let main_c_12 : IVec S_ 32 := constantI S_ 32 0#32
  let main_v38 : IVec S131072 32 := broadcastInDim S131072 ![] bcast_S_S131072 main_c_12
  let main_v39 : IVec S131072 1 := cmpi .slt main_v37 main_v38
  let main_c_13 : IVec S_ 32 := constantI S_ 32 139264#32
  let main_v40 : IVec S131072 32 := broadcastInDim S131072 ![] bcast_S_S131072 main_c_13
  let main_v41 : IVec S131072 32 := addi main_v37 main_v40
  let main_v42 : IVec S131072 32 := select main_v39 main_v41 main_v37
  let main_v43 : IVec S131072x1 32 := broadcastInDim S131072x1 ![0] bcast_S131072_S131072x1_0 main_v42
  let main_c_14 : IVec S_ 32 := constantI S_ 32 1#32
  let main_v44 : IVec S131072 32 := broadcastInDim S131072 ![] bcast_S_S131072 main_c_14
  let main_v45 : IVec S139264 32 := (fun x i u => Host.scatter scatter_S139264_S131072x1_S131072_n_0_0_1 IntOp.addi x i u) main_v36 main_v43 main_v44
  let main_v46 : IVec S139264 1 := cmpi .sle main_v35 main_v45
  let main_c_15 : IVec S_ 32 := constantI S_ 32 1#32
  let main_v47 : IVec S139264 32 := broadcastInDim S139264 ![] bcast_S_S139264 main_c_15
  let main_v48 : IVec S139264 1 := cmpi .sle main_v45 main_v47
  let main_v49 : IVec S139264 1 := andi main_v46 main_v48
  let main_c_16 : IVec S_ 32 := constantI S_ 32 0#32
  let main_v50 : IVec S32768x4 32 := broadcastInDim S32768x4 ![] bcast_S_S32768x4 main_c_16
  let main_v51 : IVec S32768x4 1 := cmpi .sge main_arg1 main_v50
  let main_c_17 : IVec S_ 32 := constantI S_ 32 139264#32
  let main_v52 : IVec S32768x4 32 := broadcastInDim S32768x4 ![] bcast_S_S32768x4 main_c_17
  fn_part3 (F := F) main_arg1 main_v24 main_v49 main_v51 main_v52

def fn_part1 {F : FTy → Type} [FloatOps F] (main_arg1 : IVec S32768x4 32) (main_arg2 : IVec S32 32) (main_v8 : IVec S32 32) (main_v13 : IVec S32 1) (main_v15 : IVec S32 32) (main_c_6 : IVec S_ 32) : IVec S_ 1 :=
  let main_v16 : IVec S32 32 := broadcastInDim S32 ![] bcast_S_S32 main_c_6
  let main_v17 : IVec S32 32 := subi main_v15 main_v16
  let main_c_7 : IVec S_ 32 := constantI S_ 32 256#32
  let main_v18 : IVec S32 32 := fn_floor_divide (F := F) main_v17 main_c_7
  let main_c_8 : IVec S_ 32 := constantI S_ 32 256#32
  let main_v19 : IVec S32 32 := broadcastInDim S32 ![] bcast_S_S32 main_c_8
  let main_v20 : IVec S32 32 := muli main_v18 main_v19
  let main_v21 : IVec S32 32 := addi main_v8 main_v20
  let main_c_9 : IVec S_ 32 := constantI S_ 32 139264#32
  let main_v22 : IVec S32 32 := broadcastInDim S32 ![] bcast_S_S32 main_c_9
  let main_v23 : IVec S32 1 := cmpi .sle main_v21 main_v22
  let main_v24 : IVec S32 1 := andi main_v13 main_v23
  let main_v25 : IVec S139264x32 32 := iotaInDim S139264x32 32 0
  let main_v26 : IVec S1x32 32 := broadcastInDim S1x32 ![1] bcast_S32_S1x32_1 main_v8
  let main_v27 : IVec S139264x32 32 := broadcastInDim S139264x32 ![0, 1] bcast_S1x32_S139264x32_0_1 main_v26
  let main_v28 : IVec S139264x32 1 := cmpi .sle main_v27 main_v25
  let main_v29 : IVec S32 32 := addi main_v8 main_arg2
  let main_v30 : IVec S1x32 32 := broadcastInDim S1x32 ![1] bcast_S32_S1x32_1 main_v29
  let main_v31 : IVec S139264x32 32 := broadcastInDim S139264x32 ![0, 1] bcast_S1x32_S139264x32_0_1 main_v30
  let main_v32 : IVec S139264x32 1 := cmpi .slt main_v25 main_v31
  let main_v33 : IVec S139264x32 1 := andi main_v28 main_v32
  let main_c_10 : IVec S_ 1 := constantI S_ 1 0#1
  let main_v34 : IVec S139264 1 := (fun x v => Host.reduce IntOp.ori x v reducesTo_S139264x32_S139264_d1 h_S_) main_v33 main_c_10
  let main_v35 : IVec S139264 32 := (extui 32 · natLt_1_32) main_v34
  fn_part2 (F := F) main_arg1 main_v24 main_v35

def fn {F : FTy → Type} [FloatOps F] (main_arg0 : FVec F S262144x128 .f32) (main_arg1 : IVec S32768x4 32) (main_arg2 : IVec S32 32) : IVec S_ 1 :=
  let main_c : IVec S_ 32 := constantI S_ 32 256#32
  let main_v0 : IVec S32 32 := broadcastInDim S32 ![] bcast_S_S32 main_c
  let main_v1 : IVec S32 32 := addi main_arg2 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 256#32
  let main_v4 : IVec S32 32 := fn_floor_divide (F := F) main_v3 main_c_1
  let main_v5 : IVec S32 32 := fn_cumsum (F := F) main_v4
  let main_v6 : IVec S32 32 := subi main_v5 main_v4
  let main_c_2 : IVec S_ 32 := constantI S_ 32 256#32
  let main_v7 : IVec S32 32 := broadcastInDim S32 ![] bcast_S_S32 main_c_2
  let main_v8 : IVec S32 32 := muli main_v6 main_v7
  let main_c_3 : IVec S_ 32 := constantI S_ 32 0#32
  let main_v9 : IVec S32 32 := broadcastInDim S32 ![] bcast_S_S32 main_c_3
  let main_v10 : IVec S32 1 := cmpi .sge main_arg2 main_v9
  let main_c_4 : IVec S_ 32 := constantI S_ 32 131072#32
  let main_v11 : IVec S32 32 := broadcastInDim S32 ![] bcast_S_S32 main_c_4
  let main_v12 : IVec S32 1 := cmpi .sle main_arg2 main_v11
  let main_v13 : IVec S32 1 := andi main_v10 main_v12
  let main_c_5 : IVec S_ 32 := constantI S_ 32 256#32
  let main_v14 : IVec S32 32 := broadcastInDim S32 ![] bcast_S_S32 main_c_5
  let main_v15 : IVec S32 32 := addi main_arg2 main_v14
  let main_c_6 : IVec S_ 32 := constantI S_ 32 1#32
  fn_part1 (F := F) main_arg1 main_arg2 main_v8 main_v13 main_v15 main_c_6
-- ==== Kernel.lean ====
abbrev S262144x128 : Shape := ⟨2, ![262144, 128]⟩
abbrev S32768x4 : Shape := ⟨2, ![32768, 4]⟩
abbrev S32 : Shape := ⟨1, ![32]⟩
abbrev S_ : Shape := ⟨0, ![]⟩
abbrev S32x1x4096 : Shape := ⟨3, ![32, 1, 4096]⟩
abbrev S1114112x128 : Shape := ⟨2, ![1114112, 128]⟩
abbrev S1x1x4096 : Shape := ⟨3, ![1, 1, 4096]⟩
abbrev S8x128 : Shape := ⟨2, ![8, 128]⟩
abbrev S1 : Shape := ⟨1, ![1]⟩
abbrev S1x1x1 : Shape := ⟨3, ![1, 1, 1]⟩

abbrev nBuf : Space → Nat
  | .hbm => 34
  | .vmem => 1
  | .smem => 4
  | _ => 0

abbrev bufTy : (tb : Table) → Fin (tcTables nBuf tb) → BufTy
  | .hbm, ⟨0, _⟩ => ⟨S262144x128, .f32⟩
  | .hbm, ⟨1, _⟩ => ⟨S32768x4, .i32⟩
  | .hbm, ⟨2, _⟩ => ⟨S_, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32x1x4096, .i32⟩
  | .hbm, ⟨33, _⟩ => ⟨S1114112x128, .f32⟩
  | .local _ .vmem, ⟨0, _⟩ => ⟨S8x128, .f32⟩
  | .local _ .smem, ⟨0, _⟩ => ⟨S32, .i32⟩
  | .local _ .smem, ⟨1, _⟩ => ⟨S32, .i32⟩
  | .local _ .smem, ⟨2, _⟩ => ⟨S1x1x4096, .i32⟩
  | .local _ .smem, ⟨3, _⟩ => ⟨S1x1x4096, .i32⟩
  | _, _ => ⟨S262144x128, .f32⟩

abbrev bufScoped : (cs : CoreSpace) → Fin (nBuf (.core cs)) → Bool
  | .vmem, ⟨0, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_call1_call0_c : Ref sig .tc := ⟨.hbm, 26, rfl⟩
abbrev main_call1_call0_v0 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v9 : Ref sig .tc := ⟨.hbm, 32, rfl⟩
abbrev main_v10 : Ref sig .tc := ⟨.hbm, 33, rfl⟩
abbrev main_arg2 : Ref sig .tc := ⟨.smem, 0, rfl⟩
abbrev main_v8 : Ref sig .tc := ⟨.smem, 1, rfl⟩
abbrev cc0_scratch0 : Ref sig .tc := ⟨.vmem, 0, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg2.idx, main_v8.idx], fun | 0 => main_arg2.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c32_i32 : BitVec 32 := 32#32
  let v9 : BitVec 32 := Scalar.addi c0_i32_8 c32_i32
  let c1_i32_9 : BitVec 32 := 1#32
  ⟨c0_i32_8, v9, c1_i32_9⟩
def k0_off1 (k0_t1 : Fin k0_t1_loop.trips) : Fin 1 → Nat :=
  let c0_i32_8 : BitVec 32 := 0#32
  let c1_i32_9 : BitVec 32 := 1#32
  let arg9 : BitVec 32 := Scf.iv c0_i32_8 c1_i32_9 k0_t1
  let v18 : Index := Scalar.indexCast arg9
  ![v18.toNat]
@[reducible] def k0_t2_loop (v19 : BitVec 32) : Scf.Loop 32 :=
  let c0_i32_28 : BitVec 32 := 0#32
  let c256_i32_21 : BitVec 32 := 256#32
  let c256_i32 : BitVec 32 := 256#32
  let c0_i32_16 : BitVec 32 := 0#32
  let v20 : BitVec 1 := Scalar.cmpi .eq c256_i32 c0_i32_16
  let c1_i32_17 : BitVec 32 := 1#32
  let v21 : BitVec 32 := Scalar.select v20 c1_i32_17 c256_i32
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let v30 : BitVec 32 := Scalar.subi c256_i32_21 v29
  let c256_i32_22 : BitVec 32 := 256#32
  let c0_i32_23 : BitVec 32 := 0#32
  let v31 : BitVec 1 := Scalar.cmpi .eq c256_i32_22 c0_i32_23
  let c1_i32_24 : BitVec 32 := 1#32
  let v32 : BitVec 32 := Scalar.select v31 c1_i32_24 c256_i32_22
  let v33 : BitVec 32 := Scalar.remsi v30 v32
  let c0_i32_26 : BitVec 32 := 0#32
  let v35 : BitVec 1 := Scalar.cmpi .slt v33 c0_i32_26
  let c0_i32_27 : BitVec 32 := 0#32
  let v36 : BitVec 1 := Scalar.cmpi .slt v32 c0_i32_27
  let v37 : BitVec 1 := Scalar.xori v35 v36
  let c0_i32_25 : BitVec 32 := 0#32
  let v34 : BitVec 1 := Scalar.cmpi .ne v33 c0_i32_25
  let v38 : BitVec 1 := Scalar.andi v37 v34
  let v39 : BitVec 32 := Scalar.addi v33 v32
  let v40 : BitVec 32 := Scalar.select v38 v39 v33
  let v44 : BitVec 32 := Scalar.subi v40 c0_i32_28
  let c1_i32_30 : BitVec 32 := 1#32
  let v46 : BitVec 32 := Scalar.divsi v44 c1_i32_30
  let v47 : BitVec 32 := Scalar.muli v46 c1_i32_30
  let v48 : BitVec 32 := Scalar.addi c0_i32_28 v47
  let c1_i32_31 : BitVec 32 := 1#32
  ⟨c0_i32_28, v48, c1_i32_31⟩

def k0_mult1 : BitVec 32 :=
  let c0_i32_33 : BitVec 32 := 0#32
  c0_i32_33
def k0_mult2 (v19 : BitVec 32) (v42 : BitVec 32) (k0_t2 : Fin (k0_t2_loop v19).trips) : BitVec 32 :=
  let v43 : BitVec 32 := Scalar.addi v42 v19
  let c0_i32_28 : BitVec 32 := 0#32
  let c1_i32_31 : BitVec 32 := 1#32
  let arg11 : BitVec 32 := Scf.iv c0_i32_28 c1_i32_31 k0_t2
  let v52 : BitVec 32 := Scalar.addi v43 arg11
  let c8_i32 : BitVec 32 := 8#32
  let v54 : BitVec 32 := Scalar.muli v52 c8_i32
  v54

def k0_off2 (v19 : BitVec 32) (v42 : BitVec 32) (k0_t2 : Fin (k0_t2_loop v19).trips) : Fin 2 → Nat :=
  let v43 : BitVec 32 := Scalar.addi v42 v19
  let c0_i32_28 : BitVec 32 := 0#32
  let c1_i32_31 : BitVec 32 := 1#32
  let arg11 : BitVec 32 := Scf.iv c0_i32_28 c1_i32_31 k0_t2
  let v52 : BitVec 32 := Scalar.addi v43 arg11
  let c8_i32 : BitVec 32 := 8#32
  let v54 : BitVec 32 := Scalar.muli v52 c8_i32
  let v55 : BitVec 32 := v54
  let c0_i32_34 : BitVec 32 := 0#32
  ![v55.toNat, 0]
@[reducible] def k0_t3_loop (v19 : BitVec 32) : Scf.Loop 32 :=
  let c0_i32_28 : BitVec 32 := 0#32
  let c256_i32_21 : BitVec 32 := 256#32
  let c256_i32 : BitVec 32 := 256#32
  let c0_i32_16 : BitVec 32 := 0#32
  let v20 : BitVec 1 := Scalar.cmpi .eq c256_i32 c0_i32_16
  let c1_i32_17 : BitVec 32 := 1#32
  let v21 : BitVec 32 := Scalar.select v20 c1_i32_17 c256_i32
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let v30 : BitVec 32 := Scalar.subi c256_i32_21 v29
  let c256_i32_22 : BitVec 32 := 256#32
  let c0_i32_23 : BitVec 32 := 0#32
  let v31 : BitVec 1 := Scalar.cmpi .eq c256_i32_22 c0_i32_23
  let c1_i32_24 : BitVec 32 := 1#32
  let v32 : BitVec 32 := Scalar.select v31 c1_i32_24 c256_i32_22
  let v33 : BitVec 32 := Scalar.remsi v30 v32
  let c0_i32_26 : BitVec 32 := 0#32
  let v35 : BitVec 1 := Scalar.cmpi .slt v33 c0_i32_26
  let c0_i32_27 : BitVec 32 := 0#32
  let v36 : BitVec 1 := Scalar.cmpi .slt v32 c0_i32_27
  let v37 : BitVec 1 := Scalar.xori v35 v36
  let c0_i32_25 : BitVec 32 := 0#32
  let v34 : BitVec 1 := Scalar.cmpi .ne v33 c0_i32_25
  let v38 : BitVec 1 := Scalar.andi v37 v34
  let v39 : BitVec 32 := Scalar.addi v33 v32
  let v40 : BitVec 32 := Scalar.select v38 v39 v33
  let v44 : BitVec 32 := Scalar.subi v40 c0_i32_28
  let c1_i32_30 : BitVec 32 := 1#32
  let v46 : BitVec 32 := Scalar.divsi v44 c1_i32_30
  let v47 : BitVec 32 := Scalar.muli v46 c1_i32_30
  let v48 : BitVec 32 := Scalar.addi c0_i32_28 v47
  let v45 : BitVec 32 := Scalar.addi c0_i32_28 v44
  let c1_i32_32 : BitVec 32 := 1#32
  ⟨v48, v45, c1_i32_32⟩

def k0_chk1 (i : grid0.Coords) (v19 : BitVec 32) : Prop :=
  (∀ (k0_h1 : k0_cond1 i = 1#1), (k0_t2_loop v19).OK) ∧
  (∀ (k0_h1 : k0_cond1 i = 1#1), (k0_t3_loop v19).OK)
theorem k0_t2_ok : ∀ (i : grid0.Coords) (v19 : BitVec 32) (k0_hw1 : k0_chk1 i v19), ∀ (k0_h1 : k0_cond1 i = 1#1), (k0_t2_loop v19).OK := fun i v19 k0_hw1 k0_h1 => k0_hw1.1 k0_h1
theorem k0_t3_ok : ∀ (i : grid0.Coords) (v19 : BitVec 32) (k0_hw1 : k0_chk1 i v19), ∀ (k0_h1 : k0_cond1 i = 1#1), (k0_t3_loop v19).OK := fun i v19 k0_hw1 k0_h1 => k0_hw1.2 k0_h1

def k0_mult3 : BitVec 32 :=
  let c0_i32_33 : BitVec 32 := 0#32
  c0_i32_33
def k0_mult4 (v19 : BitVec 32) (v42 : BitVec 32) (k0_t3 : Fin (k0_t3_loop v19).trips) : BitVec 32 :=
  let v43 : BitVec 32 := Scalar.addi v42 v19
  let c0_i32_28 : BitVec 32 := 0#32
  let c256_i32_21 : BitVec 32 := 256#32
  let c256_i32 : BitVec 32 := 256#32
  let c0_i32_16 : BitVec 32 := 0#32
  let v20 : BitVec 1 := Scalar.cmpi .eq c256_i32 c0_i32_16
  let c1_i32_17 : BitVec 32 := 1#32
  let v21 : BitVec 32 := Scalar.select v20 c1_i32_17 c256_i32
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let v30 : BitVec 32 := Scalar.subi c256_i32_21 v29
  let c256_i32_22 : BitVec 32 := 256#32
  let c0_i32_23 : BitVec 32 := 0#32
  let v31 : BitVec 1 := Scalar.cmpi .eq c256_i32_22 c0_i32_23
  let c1_i32_24 : BitVec 32 := 1#32
  let v32 : BitVec 32 := Scalar.select v31 c1_i32_24 c256_i32_22
  let v33 : BitVec 32 := Scalar.remsi v30 v32
  let c0_i32_26 : BitVec 32 := 0#32
  let v35 : BitVec 1 := Scalar.cmpi .slt v33 c0_i32_26
  let c0_i32_27 : BitVec 32 := 0#32
  let v36 : BitVec 1 := Scalar.cmpi .slt v32 c0_i32_27
  let v37 : BitVec 1 := Scalar.xori v35 v36
  let c0_i32_25 : BitVec 32 := 0#32
  let v34 : BitVec 1 := Scalar.cmpi .ne v33 c0_i32_25
  let v38 : BitVec 1 := Scalar.andi v37 v34
  let v39 : BitVec 32 := Scalar.addi v33 v32
  let v40 : BitVec 32 := Scalar.select v38 v39 v33
  let v44 : BitVec 32 := Scalar.subi v40 c0_i32_28
  let c1_i32_30 : BitVec 32 := 1#32
  let v46 : BitVec 32 := Scalar.divsi v44 c1_i32_30
  let v47 : BitVec 32 := Scalar.muli v46 c1_i32_30
  let v48 : BitVec 32 := Scalar.addi c0_i32_28 v47
  let c1_i32_32 : BitVec 32 := 1#32
  let arg11 : BitVec 32 := Scf.iv v48 c1_i32_32 k0_t3
  let v52 : BitVec 32 := Scalar.addi v43 arg11
  let c8_i32 : BitVec 32 := 8#32
  let v54 : BitVec 32 := Scalar.muli v52 c8_i32
  v54
def k0_off3 (v19 : BitVec 32) (v42 : BitVec 32) (k0_t3 : Fin (k0_t3_loop v19).trips) : Fin 2 → Nat :=
  let v43 : BitVec 32 := Scalar.addi v42 v19
  let c0_i32_28 : BitVec 32 := 0#32
  let c256_i32_21 : BitVec 32 := 256#32
  let c256_i32 : BitVec 32 := 256#32
  let c0_i32_16 : BitVec 32 := 0#32
  let v20 : BitVec 1 := Scalar.cmpi .eq c256_i32 c0_i32_16
  let c1_i32_17 : BitVec 32 := 1#32
  let v21 : BitVec 32 := Scalar.select v20 c1_i32_17 c256_i32
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let v30 : BitVec 32 := Scalar.subi c256_i32_21 v29
  let c256_i32_22 : BitVec 32 := 256#32
  let c0_i32_23 : BitVec 32 := 0#32
  let v31 : BitVec 1 := Scalar.cmpi .eq c256_i32_22 c0_i32_23
  let c1_i32_24 : BitVec 32 := 1#32
  let v32 : BitVec 32 := Scalar.select v31 c1_i32_24 c256_i32_22
  let v33 : BitVec 32 := Scalar.remsi v30 v32
  let c0_i32_26 : BitVec 32 := 0#32
  let v35 : BitVec 1 := Scalar.cmpi .slt v33 c0_i32_26
  let c0_i32_27 : BitVec 32 := 0#32
  let v36 : BitVec 1 := Scalar.cmpi .slt v32 c0_i32_27
  let v37 : BitVec 1 := Scalar.xori v35 v36
  let c0_i32_25 : BitVec 32 := 0#32
  let v34 : BitVec 1 := Scalar.cmpi .ne v33 c0_i32_25
  let v38 : BitVec 1 := Scalar.andi v37 v34
  let v39 : BitVec 32 := Scalar.addi v33 v32
  let v40 : BitVec 32 := Scalar.select v38 v39 v33
  let v44 : BitVec 32 := Scalar.subi v40 c0_i32_28
  let c1_i32_30 : BitVec 32 := 1#32
  let v46 : BitVec 32 := Scalar.divsi v44 c1_i32_30
  let v47 : BitVec 32 := Scalar.muli v46 c1_i32_30
  let v48 : BitVec 32 := Scalar.addi c0_i32_28 v47
  let c1_i32_32 : BitVec 32 := 1#32
  let arg11 : BitVec 32 := Scf.iv v48 c1_i32_32 k0_t3
  let v52 : BitVec 32 := Scalar.addi v43 arg11
  let c8_i32 : BitVec 32 := 8#32
  let v54 : BitVec 32 := Scalar.muli v52 c8_i32
  let v55 : BitVec 32 := v54
  let c0_i32_34 : BitVec 32 := 0#32
  ![v55.toNat, 0]

def k0_chk2 (i : grid0.Coords) (v19 : BitVec 32) (v42 : BitVec 32) : Prop :=
  (∀ k0_t2 : Fin (k0_t2_loop v19).trips, ∀ (k0_h1 : k0_cond1 i = 1#1), 8 ∣ (k0_mult2 v19 v42 k0_t2).toNat) ∧
  (∀ k0_t2 : Fin (k0_t2_loop v19).trips, ∀ (k0_h1 : k0_cond1 i = 1#1), ∀ a, (k0_off2 v19 v42 k0_t2) a + S8x128.size a ≤ S1114112x128.size a) ∧
  (∀ k0_t3 : Fin (k0_t3_loop v19).trips, ∀ (k0_h1 : k0_cond1 i = 1#1), 8 ∣ (k0_mult4 v19 v42 k0_t3).toNat) ∧
  (∀ k0_t3 : Fin (k0_t3_loop v19).trips, ∀ (k0_h1 : k0_cond1 i = 1#1), ∀ a, (k0_off3 v19 v42 k0_t3) a + S8x128.size a ≤ S1114112x128.size a)
theorem k0_mult2_dvd : ∀ (i : grid0.Coords) (v19 : BitVec 32) (v42 : BitVec 32) (k0_hw2 : k0_chk2 i v19 v42) (k0_t2 : Fin (k0_t2_loop v19).trips), ∀ (k0_h1 : k0_cond1 i = 1#1), 8 ∣ (k0_mult2 v19 v42 k0_t2).toNat := fun i v19 v42 k0_hw2 k0_t2 k0_h1 => k0_hw2.1 k0_t2 k0_h1
theorem k0_off2_inb : ∀ (i : grid0.Coords) (v19 : BitVec 32) (v42 : BitVec 32) (k0_hw2 : k0_chk2 i v19 v42) (k0_t2 : Fin (k0_t2_loop v19).trips), ∀ (k0_h1 : k0_cond1 i = 1#1), ∀ a, (k0_off2 v19 v42 k0_t2) a + S8x128.size a ≤ S1114112x128.size a := fun i v19 v42 k0_hw2 k0_t2 k0_h1 => k0_hw2.2.1 k0_t2 k0_h1
theorem k0_mult4_dvd : ∀ (i : grid0.Coords) (v19 : BitVec 32) (v42 : BitVec 32) (k0_hw2 : k0_chk2 i v19 v42) (k0_t3 : Fin (k0_t3_loop v19).trips), ∀ (k0_h1 : k0_cond1 i = 1#1), 8 ∣ (k0_mult4 v19 v42 k0_t3).toNat := fun i v19 v42 k0_hw2 k0_t3 k0_h1 => k0_hw2.2.2.1 k0_t3 k0_h1
theorem k0_off3_inb : ∀ (i : grid0.Coords) (v19 : BitVec 32) (v42 : BitVec 32) (k0_hw2 : k0_chk2 i v19 v42) (k0_t3 : Fin (k0_t3_loop v19).trips), ∀ (k0_h1 : k0_cond1 i = 1#1), ∀ a, (k0_off3 v19 v42 k0_t3) a + S8x128.size a ≤ S1114112x128.size a := fun i v19 v42 k0_hw2 k0_t3 k0_h1 => k0_hw2.2.2.2 k0_t3 k0_h1

@[reducible] def k0_t4_loop (v10 : BitVec 32) : Scf.Loop 32 :=
  let c0_i32_11 : BitVec 32 := 0#32
  let v11 : BitVec 32 := Scalar.subi v10 c0_i32_11
  let c1_i32_13 : BitVec 32 := 1#32
  let v13 : BitVec 32 := Scalar.divsi v11 c1_i32_13
  let v14 : BitVec 32 := Scalar.muli v13 c1_i32_13
  let v15 : BitVec 32 := Scalar.addi c0_i32_11 v14
  let c1_i32_14 : BitVec 32 := 1#32
  ⟨c0_i32_11, v15, c1_i32_14⟩

def k0_mult5 : BitVec 32 :=
  let c0_i32_16 : BitVec 32 := 0#32
  c0_i32_16
def k0_mult6 : BitVec 32 :=
  let c0_i32_17 : BitVec 32 := 0#32
  c0_i32_17
@[reducible] def k0_t5_loop (v10 : BitVec 32) : Scf.Loop 32 :=
  let c0_i32_11 : BitVec 32 := 0#32
  let v11 : BitVec 32 := Scalar.subi v10 c0_i32_11
  let c1_i32_13 : BitVec 32 := 1#32
  let v13 : BitVec 32 := Scalar.divsi v11 c1_i32_13
  let v14 : BitVec 32 := Scalar.muli v13 c1_i32_13
  let v15 : BitVec 32 := Scalar.addi c0_i32_11 v14
  let v12 : BitVec 32 := Scalar.addi c0_i32_11 v11
  let c1_i32_15 : BitVec 32 := 1#32
  ⟨v15, v12, c1_i32_15⟩

def k0_chk3 (i : grid0.Coords) (v10 : BitVec 32) : Prop :=
  (∀ (k0_h1 : k0_cond1 i = 1#1), (k0_t4_loop v10).OK) ∧
  (∀ (k0_h1 : k0_cond1 i = 1#1), (k0_t5_loop v10).OK)
theorem k0_t4_ok : ∀ (i : grid0.Coords) (v10 : BitVec 32) (k0_hw3 : k0_chk3 i v10), ∀ (k0_h1 : k0_cond1 i = 1#1), (k0_t4_loop v10).OK := fun i v10 k0_hw3 k0_h1 => k0_hw3.1 k0_h1
theorem k0_t5_ok : ∀ (i : grid0.Coords) (v10 : BitVec 32) (k0_hw3 : k0_chk3 i v10), ∀ (k0_h1 : k0_cond1 i = 1#1), (k0_t5_loop v10).OK := fun i v10 k0_hw3 k0_h1 => k0_hw3.2 k0_h1

def k0_mult7 : BitVec 32 :=
  let c0_i32_16 : BitVec 32 := 0#32
  c0_i32_16
def k0_mult8 : BitVec 32 :=
  let c0_i32_17 : BitVec 32 := 0#32
  c0_i32_17
@[reducible] def k0_t6_loop : Scf.Loop 32 :=
  let c0_i32_1 : BitVec 32 := 0#32
  let c4096_i32 : BitVec 32 := 4096#32
  let v3 : BitVec 32 := Scalar.addi c0_i32_1 c4096_i32
  let c1_i32 : BitVec 32 := 1#32
  ⟨c0_i32_1, v3, c1_i32⟩
def k0_off4 (k0_t6 : Fin k0_t6_loop.trips) : Fin 3 → Nat :=
  let c0 : Index := 0#32
  let c0_12 : Index := 0#32
  let c0_i32_1 : BitVec 32 := 0#32
  let c1_i32 : BitVec 32 := 1#32
  let arg9 : BitVec 32 := Scf.iv c0_i32_1 c1_i32 k0_t6
  let v24 : Index := Scalar.indexCast arg9
  ![0, 0, v24.toNat]
def k0_mult9 (i : grid0.Coords) (k0_t6 : Fin k0_t6_loop.trips) : BitVec 32 :=
  let arg0 : BitVec 32 := BitVec.ofNat 32 (i 0).val
  let c1024_i32 : BitVec 32 := 1024#32
  let v5 : BitVec 32 := Scalar.muli arg0 c1024_i32
  let c0_i32_1 : BitVec 32 := 0#32
  let c1_i32 : BitVec 32 := 1#32
  let arg9 : BitVec 32 := Scf.iv c0_i32_1 c1_i32 k0_t6
  let c0_i32_6 : BitVec 32 := 0#32
  let v7 : BitVec 1 := Scalar.cmpi .sgt arg9 c0_i32_6
  let v8 : BitVec 32 := Scalar.extui v7
  let c0_i32_7 : BitVec 32 := 0#32
  let v9 : BitVec 1 := Scalar.cmpi .slt arg9 c0_i32_7
  let v10 : BitVec 32 := Scalar.extui v9
  let v11 : BitVec 32 := Scalar.subi v8 v10
  let c4_i32 : BitVec 32 := 4#32
  let c0_i32_8 : BitVec 32 := 0#32
  let v12 : BitVec 1 := Scalar.cmpi .sgt c4_i32 c0_i32_8
  let v13 : BitVec 32 := Scalar.extui v12
  let c0_i32_9 : BitVec 32 := 0#32
  let v14 : BitVec 1 := Scalar.cmpi .slt c4_i32 c0_i32_9
  let v15 : BitVec 32 := Scalar.extui v14
  let v16 : BitVec 32 := Scalar.subi v13 v15
  let v17 : BitVec 1 := Scalar.cmpi .ne v11 v16
  let v18 : BitVec 32 := Scalar.remsi arg9 c4_i32
  let c0_i32_10 : BitVec 32 := 0#32
  let v19 : BitVec 1 := Scalar.cmpi .ne v18 c0_i32_10
  let v20 : BitVec 1 := Scalar.andi v17 v19
  let v6 : BitVec 32 := Scalar.divsi arg9 c4_i32
  let c1_i32_11 : BitVec 32 := 1#32
  let v21 : BitVec 32 := Scalar.subi v6 c1_i32_11
  let v22 : BitVec 32 := Scalar.select v20 v21 v6
  let v23 : BitVec 32 := Scalar.addi v5 v22
  let c8_i32 : BitVec 32 := 8#32
  let v26 : BitVec 32 := Scalar.muli v23 c8_i32
  v26
def k0_mult10 (v25 : BitVec 32) : BitVec 32 :=
  let c8_i32_13 : BitVec 32 := 8#32
  let v28 : BitVec 32 := Scalar.muli v25 c8_i32_13
  v28

def k0_off5 (v25 : BitVec 32) : Fin 2 → Nat :=
  let c8_i32_13 : BitVec 32 := 8#32
  let v28 : BitVec 32 := Scalar.muli v25 c8_i32_13
  let v29 : BitVec 32 := v28
  let c0_i32_14 : BitVec 32 := 0#32
  ![v29.toNat, 0]

def k0_chk4 (v25 : BitVec 32) : Prop :=
  (8 ∣ (k0_mult10 v25).toNat) ∧
  (∀ a, (k0_off5 v25) a + S8x128.size a ≤ S1114112x128.size a)
theorem k0_mult10_dvd : ∀ (v25 : BitVec 32) (k0_hw4 : k0_chk4 v25), 8 ∣ (k0_mult10 v25).toNat := fun v25 k0_hw4 => k0_hw4.1
theorem k0_off5_inb : ∀ (v25 : BitVec 32) (k0_hw4 : k0_chk4 v25), ∀ a, (k0_off5 v25) a + S8x128.size a ≤ S1114112x128.size a := fun v25 k0_hw4 => k0_hw4.2

def k0_off6 (i : grid0.Coords) (k0_t6 : Fin k0_t6_loop.trips) : Fin 2 → Nat :=
  let arg0 : BitVec 32 := BitVec.ofNat 32 (i 0).val
  let c1024_i32 : BitVec 32 := 1024#32
  let v5 : BitVec 32 := Scalar.muli arg0 c1024_i32
  let c0_i32_1 : BitVec 32 := 0#32
  let c1_i32 : BitVec 32 := 1#32
  let arg9 : BitVec 32 := Scf.iv c0_i32_1 c1_i32 k0_t6
  let c0_i32_6 : BitVec 32 := 0#32
  let v7 : BitVec 1 := Scalar.cmpi .sgt arg9 c0_i32_6
  let v8 : BitVec 32 := Scalar.extui v7
  let c0_i32_7 : BitVec 32 := 0#32
  let v9 : BitVec 1 := Scalar.cmpi .slt arg9 c0_i32_7
  let v10 : BitVec 32 := Scalar.extui v9
  let v11 : BitVec 32 := Scalar.subi v8 v10
  let c4_i32 : BitVec 32 := 4#32
  let c0_i32_8 : BitVec 32 := 0#32
  let v12 : BitVec 1 := Scalar.cmpi .sgt c4_i32 c0_i32_8
  let v13 : BitVec 32 := Scalar.extui v12
  let c0_i32_9 : BitVec 32 := 0#32
  let v14 : BitVec 1 := Scalar.cmpi .slt c4_i32 c0_i32_9
  let v15 : BitVec 32 := Scalar.extui v14
  let v16 : BitVec 32 := Scalar.subi v13 v15
  let v17 : BitVec 1 := Scalar.cmpi .ne v11 v16
  let v18 : BitVec 32 := Scalar.remsi arg9 c4_i32
  let c0_i32_10 : BitVec 32 := 0#32
  let v19 : BitVec 1 := Scalar.cmpi .ne v18 c0_i32_10
  let v20 : BitVec 1 := Scalar.andi v17 v19
  let v6 : BitVec 32 := Scalar.divsi arg9 c4_i32
  let c1_i32_11 : BitVec 32 := 1#32
  let v21 : BitVec 32 := Scalar.subi v6 c1_i32_11
  let v22 : BitVec 32 := Scalar.select v20 v21 v6
  let v23 : BitVec 32 := Scalar.addi v5 v22
  let c8_i32 : BitVec 32 := 8#32
  let v26 : BitVec 32 := Scalar.muli v23 c8_i32
  let v27 : BitVec 32 := v26
  let c0_i32_15 : BitVec 32 := 0#32
  ![v27.toNat, 0]
@[reducible] def k0_t7_loop : Scf.Loop 32 :=
  let c0_i32_3 : BitVec 32 := 0#32
  let c4096_i32_4 : BitVec 32 := 4096#32
  let v4 : BitVec 32 := Scalar.addi c0_i32_3 c4096_i32_4
  let c1_i32_5 : BitVec 32 := 1#32
  ⟨c0_i32_3, v4, c1_i32_5⟩
def k0_mult11 : BitVec 32 :=
  let c0_i32_6 : BitVec 32 := 0#32
  c0_i32_6
def k0_mult12 : BitVec 32 :=
  let c0_i32_7 : BitVec 32 := 0#32
  c0_i32_7
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S262144x128 : Shape := ⟨2, ![262144, 128]⟩
abbrev S32768x4 : Shape := ⟨2, ![32768, 4]⟩
abbrev S32 : Shape := ⟨1, ![32]⟩
abbrev S32768x1024 : Shape := ⟨2, ![32768, 1024]⟩
abbrev S_ : Shape := ⟨0, ![]⟩
abbrev S139264x1024 : Shape := ⟨2, ![139264, 1024]⟩
abbrev S131072 : Shape := ⟨1, ![131072]⟩
abbrev S32768x4x1024 : Shape := ⟨3, ![32768, 4, 1024]⟩
abbrev S131072x1024 : Shape := ⟨2, ![131072, 1024]⟩
abbrev S131072x1 : Shape := ⟨2, ![131072, 1]⟩
abbrev S1114112x128 : Shape := ⟨2, ![1114112, 128]⟩

abbrev nBuf : Space → Nat
  | .hbm => 19
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S32768x4, .i32⟩
  | .hbm, ⟨2, _⟩ => ⟨S32, .i32⟩
  | .hbm, ⟨3, _⟩ => ⟨S32768x1024, .f32⟩
  | .hbm, ⟨4, _⟩ => ⟨S_, .f32⟩
  | .hbm, ⟨5, _⟩ => ⟨S139264x1024, .f32⟩
  | .hbm, ⟨6, _⟩ => ⟨S131072, .i32⟩
  | .hbm, ⟨7, _⟩ => ⟨S32768x4x1024, .f32⟩
  | .hbm, ⟨8, _⟩ => ⟨S131072x1024, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S139264x1024, .f32⟩
  | .hbm, ⟨18, _⟩ => ⟨S1114112x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel2.lean ====
abbrev S1114112x128 : Shape := ⟨2, ![1114112, 128]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S544 : Shape := ⟨1, ![544]⟩
abbrev S1x32 : Shape := ⟨2, ![1, 32]⟩
abbrev S544x1 : Shape := ⟨2, ![544, 1]⟩
abbrev S544x32 : Shape := ⟨2, ![544, 32]⟩
abbrev S32x1x1024 : Shape := ⟨3, ![32, 1, 1024]⟩
abbrev S2048x128 : Shape := ⟨2, ![2048, 128]⟩
abbrev S1x1024x1024 : Shape := ⟨3, ![1, 1024, 1024]⟩
abbrev S1x1x1024 : Shape := ⟨3, ![1, 1, 1024]⟩
abbrev S256x128 : Shape := ⟨2, ![256, 128]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 60
  | .vmem => 16
  | .smem => 2
  | _ => 0

abbrev bufTy : (tb : Table) → Fin (tcTables nBuf tb) → BufTy
  | .hbm, ⟨0, _⟩ => ⟨S1114112x128, .f32⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S544, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S544, .i32⟩
  | .hbm, ⟨38, _⟩ => ⟨S544, .i32⟩
  | .hbm, ⟨39, _⟩ => ⟨S1x32, .i32⟩
  | .hbm, ⟨40, _⟩ => ⟨S544x1, .i32⟩
  | .hbm, ⟨41, _⟩ => ⟨S544x32, .i32⟩
  | .hbm, ⟨42, _⟩ => ⟨S544x32, .i32⟩
  | .hbm, ⟨43, _⟩ => ⟨S544x32, .i1⟩
  | .hbm, ⟨44, _⟩ => ⟨S544x32, .i32⟩
  | .hbm, ⟨45, _⟩ => ⟨S_, .i32⟩
  | .hbm, ⟨46, _⟩ => ⟨S544, .i32⟩
  | .hbm, ⟨47, _⟩ => ⟨S_, .i32⟩
  | .hbm, ⟨48, _⟩ => ⟨S544, .i32⟩
  | .hbm, ⟨49, _⟩ => ⟨S32x1024x1024, .f32⟩
  | .hbm, ⟨50, _⟩ => ⟨S32x1024x1024, .bf16⟩
  | .hbm, ⟨51, _⟩ => ⟨S32x1024x1024, .f32⟩
  | .hbm, ⟨52, _⟩ => ⟨S32x1024x1024, .bf16⟩
  | .hbm, ⟨53, _⟩ => ⟨S32x1024, .f32⟩
  | .hbm, ⟨54, _⟩ => ⟨S32x1x1024, .f32⟩
  | .hbm, ⟨55, _⟩ => ⟨S32x1024, .f32⟩
  | .hbm, ⟨56, _⟩ => ⟨S32x1x1024, .f32⟩
  | .hbm, ⟨57, _⟩ => ⟨S32x1024x1024, .bf16⟩
  | .hbm, ⟨58, _⟩ => ⟨S32x1x1024, .f32⟩
  | .hbm, ⟨59, _⟩ => ⟨S1114112x128, .f32⟩
  | .local _ .vmem, ⟨0, _⟩ => ⟨S2048x128, .f32⟩
  | .local _ .vmem, ⟨1, _⟩ => ⟨S2048x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S2048x128, .f32⟩
  | .local _ .vmem, ⟨15, _⟩ => ⟨S2048x128, .f32⟩
  | .local _ .smem, ⟨0, _⟩ => ⟨S544, .i32⟩
  | .local _ .smem, ⟨1, _⟩ => ⟨S1, .i32⟩
  | _, _ => ⟨S1114112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v20 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_v20.idx, main_v6.idx], fun | 0 => main_v20.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S1114112x128 : Shape := ⟨2, ![1114112, 128]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S139264x1024 : Shape := ⟨2, ![139264, 1024]⟩
abbrev S_ : Shape := ⟨0, ![]⟩
abbrev S139264 : Shape := ⟨1, ![139264]⟩
abbrev S1x32 : Shape := ⟨2, ![1, 32]⟩
abbrev S139264x1 : Shape := ⟨2, ![139264, 1]⟩
abbrev S139264x32 : Shape := ⟨2, ![139264, 32]⟩
abbrev S139264x1024x2048 : Shape := ⟨3, ![139264, 1024, 2048]⟩
abbrev S139264x2048 : Shape := ⟨2, ![139264, 2048]⟩
abbrev S139264x1024x1024 : Shape := ⟨3, ![139264, 1024, 1024]⟩

abbrev nBuf : Space → Nat
  | .hbm => 116
  | .vmem => 0
  | .smem => 0
  | _ => 0

abbrev bufTy : (tb : Table) → Fin (tcTables nBuf tb) → BufTy
  | .hbm, ⟨0, _⟩ => ⟨S1114112x128, .f32⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S139264x1024, .f32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S32, .i1⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S32, .i32⟩
  | .hbm, ⟨37, _⟩ => ⟨S139264, .i32⟩
  | .hbm, ⟨38, _⟩ => ⟨S1x32, .i32⟩
  | .hbm, ⟨39, _⟩ => ⟨S139264x1, .i32⟩
  | .hbm, ⟨40, _⟩ => ⟨S139264x32, .i32⟩
  | .hbm, ⟨41, _⟩ => ⟨S139264x32, .i32⟩
  | .hbm, ⟨42, _⟩ => ⟨S139264x32, .i1⟩
  | .hbm, ⟨43, _⟩ => ⟨S139264x32, .i32⟩
  | .hbm, ⟨44, _⟩ => ⟨S_, .i32⟩
  | .hbm, ⟨45, _⟩ => ⟨S139264, .i32⟩
  | .hbm, ⟨46, _⟩ => ⟨S_, .i32⟩
  | .hbm, ⟨47, _⟩ => ⟨S139264, .i32⟩
  | .hbm, ⟨48, _⟩ => ⟨S139264, .i1⟩
  | .hbm, ⟨49, _⟩ => ⟨S_, .i32⟩
  | .hbm, ⟨50, _⟩ => ⟨S139264, .i32⟩
  | .hbm, ⟨51, _⟩ => ⟨S139264, .i32⟩
  | .hbm, ⟨52, _⟩ => ⟨S139264, .i32⟩
  | .hbm, ⟨53, _⟩ => ⟨S139264x1, .i32⟩
  | .hbm, ⟨54, _⟩ => ⟨S139264x1024x2048, .f32⟩
  | .hbm, ⟨55, _⟩ => ⟨S139264x2048, .f32⟩
  | .hbm, ⟨56, _⟩ => ⟨S_, .i32⟩
  | .hbm, ⟨57, _⟩ => ⟨S139264, .i32⟩
  | .hbm, ⟨58, _⟩ => ⟨S139264, .i1⟩
  | .hbm, ⟨59, _⟩ => ⟨S_, .i32⟩
  | .hbm, ⟨60, _⟩ => ⟨S139264, .i32⟩
  | .hbm, ⟨61, _⟩ => ⟨S139264, .i32⟩
  | .hbm, ⟨62, _⟩ => ⟨S139264, .i32⟩
  | .hbm, ⟨63, _⟩ => ⟨S139264x1, .i32⟩
  | .hbm, ⟨64, _⟩ => ⟨S139264x2048, .f32⟩
  | .hbm, ⟨65, _⟩ => ⟨S139264x2048, .f32⟩
  | .hbm, ⟨66, _⟩ => ⟨S139264x1024, .f32⟩
  | .hbm, ⟨67, _⟩ => ⟨S_, .f32⟩
  | .hbm, ⟨68, _⟩ => ⟨S139264x1024, .f32⟩
  | .hbm, ⟨69, _⟩ => ⟨S139264x1024, .f32⟩
  | .hbm, ⟨70, _⟩ => ⟨S139264x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S139264x1024, .f32⟩
  | .hbm, ⟨75, _⟩ => ⟨S139264x1024, .f32⟩
  | .hbm, ⟨76, _⟩ => ⟨S_, .f32⟩
  | .hbm, ⟨77, _⟩ => ⟨S139264x1024, .f32⟩
  | .hbm, ⟨78, _⟩ => ⟨S139264x1024, .f32⟩
  | .hbm, ⟨79, _⟩ => ⟨S_, .f32⟩
  | .hbm, ⟨80, _⟩ => ⟨S139264x1024, .f32⟩
  | .hbm, ⟨81, _⟩ => ⟨S139264x1024, .f32⟩
  | .hbm, ⟨82, _⟩ => ⟨S139264x1024, .f32⟩
  | .hbm, ⟨83, _⟩ => ⟨S139264x1024, .f32⟩
  | .hbm, ⟨84, _⟩ => ⟨S_, .f32⟩
  | .hbm, ⟨85, _⟩ => ⟨S139264x1024, .f32⟩
  | .hbm, ⟨86, _⟩ => ⟨S139264x1024, .f32⟩
  | .hbm, ⟨87, _⟩ => ⟨S_, .f32⟩
  | .hbm, ⟨88, _⟩ => ⟨S139264x1024, .f32⟩
  | .hbm, ⟨89, _⟩ => ⟨S139264x1024, .f32⟩
  | .hbm, ⟨90, _⟩ => ⟨S139264x1024, .f32⟩
  | .hbm, ⟨91, _⟩ => ⟨S_, .f32⟩
  | .hbm, ⟨92, _⟩ => ⟨S139264x1024, .f32⟩
  | .hbm, ⟨93, _⟩ => ⟨S139264x1024, .f32⟩
  | .hbm, ⟨94, _⟩ => ⟨S139264x1024, .f32⟩
  | .hbm, ⟨95, _⟩ => ⟨S_, .i32⟩
  | .hbm, ⟨96, _⟩ => ⟨S139264, .i32⟩
  | .hbm, ⟨97, _⟩ => ⟨S139264, .i1⟩
  | .hbm, ⟨98, _⟩ => ⟨S_, .i32⟩
  | .hbm, ⟨99, _⟩ => ⟨S139264, .i32⟩
  | .hbm, ⟨100, _⟩ => ⟨S139264, .i32⟩
  | .hbm, ⟨101, _⟩ => ⟨S139264, .i32⟩
  | .hbm, ⟨102, _⟩ => ⟨S139264x1, .i32⟩
  | .hbm, ⟨103, _⟩ => ⟨S139264x1024x1024, .f32⟩
  | .hbm, ⟨104, _⟩ => ⟨S139264x1024, .f32⟩
  | .hbm, ⟨105, _⟩ => ⟨S_, .i32⟩
  | .hbm, ⟨106, _⟩ => ⟨S139264, .i32⟩
  | .hbm, ⟨107, _⟩ => ⟨S139264, .i1⟩
  | .hbm, ⟨108, _⟩ => ⟨S_, .i32⟩
  | .hbm, ⟨109, _⟩ => ⟨S139264, .i32⟩
  | .hbm, ⟨110, _⟩ => ⟨S139264, .i32⟩
  | .hbm, ⟨111, _⟩ => ⟨S139264, .i32⟩
  | .hbm, ⟨112, _⟩ => ⟨S139264x1, .i32⟩
  | .hbm, ⟨113, _⟩ => ⟨S139264x1024, .f32⟩
  | .hbm, ⟨114, _⟩ => ⟨S139264x1024, .f32⟩
  | .hbm, ⟨115, _⟩ => ⟨S1114112x128, .f32⟩
  | _, _ => ⟨S1114112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_call1_call0_c : Ref sig .tc := ⟨.hbm, 34, rfl⟩
abbrev main_call1_call0_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v37 : Ref sig .tc := ⟨.hbm, 78, rfl⟩
abbrev main_cst_10 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_11 : Ref sig .tc := ⟨.hbm, 84, rfl⟩
abbrev main_v42 : Ref sig .tc := ⟨.hbm, 85, rfl⟩
abbrev main_v43 : Ref sig .tc := ⟨.hbm, 86, rfl⟩
abbrev main_cst_12 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_13 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_14 : Ref sig .tc := ⟨.hbm, 95, rfl⟩
abbrev main_v50 : Ref sig .tc := ⟨.hbm, 96, rfl⟩
abbrev main_v51 : Ref sig .tc := ⟨.hbm, 97, rfl⟩
abbrev main_c_15 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_16 : Ref sig .tc := ⟨.hbm, 105, rfl⟩
abbrev main_v58 : Ref sig .tc := ⟨.hbm, 106, rfl⟩
abbrev main_v59 : Ref sig .tc := ⟨.hbm, 107, rfl⟩
abbrev main_c_17 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩

abbrev nD : Nat := 1
abbrev τ : Topo := Topo.v7x

variable {F : FTy → Type} [FloatOps F]
-- ==== Kernel3.lean ====
abbrev S1114112x128 : Shape := ⟨2, ![1114112, 128]⟩
abbrev S32768x4 : Shape := ⟨2, ![32768, 4]⟩
abbrev S32768x1024 : Shape := ⟨2, ![32768, 1024]⟩
abbrev S128x1x1024 : Shape := ⟨3, ![128, 1, 1024]⟩
abbrev S1x1x1024 : Shape := ⟨3, ![1, 1, 1024]⟩
abbrev S256x1024 : Shape := ⟨2, ![256, 1024]⟩
abbrev S256x4 : Shape := ⟨2, ![256, 4]⟩
abbrev S8192x128 : Shape := ⟨2, ![8192, 128]⟩
abbrev S_ : Shape := ⟨0, ![]⟩
abbrev S1x1x1 : Shape := ⟨3, ![1, 1, 1]⟩
abbrev S8x128 : Shape := ⟨2, ![8, 128]⟩
abbrev S256x128 : Shape := ⟨2, ![256, 128]⟩
abbrev S256x1 : Shape := ⟨2, ![256, 1]⟩

abbrev nBuf : Space → Nat
  | .hbm => 6
  | .vmem => 7
  | .smem => 2
  | _ => 0

abbrev bufTy : (tb : Table) → Fin (tcTables nBuf tb) → BufTy
  | .hbm, ⟨0, _⟩ => ⟨S1114112x128, .f32⟩
  | .hbm, ⟨1, _⟩ => ⟨S32768x4, .i32⟩
  | .hbm, ⟨2, _⟩ => ⟨S32768x1024, .f32⟩
  | .hbm, ⟨3, _⟩ => ⟨S32768x4, .f32⟩
  | .hbm, ⟨4, _⟩ => ⟨S128x1x1024, .i32⟩
  | .hbm, ⟨5, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x4, .f32⟩
  | .local _ .vmem, ⟨3, _⟩ => ⟨S256x4, .f32⟩
  | .local _ .vmem, ⟨4, _⟩ => ⟨S256x1024, .f32⟩
  | .local _ .vmem, ⟨5, _⟩ => ⟨S256x1024, .f32⟩
  | .local _ .vmem, ⟨6, _⟩ => ⟨S8192x128, .f32⟩
  | .local _ .smem, ⟨0, _⟩ => ⟨S1x1x1024, .i32⟩
  | .local _ .smem, ⟨1, _⟩ => ⟨S1x1x1024, .i32⟩
  | _, _ => ⟨S1114112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 3 → Nat :=
  let c0_75 : Index := 0#32
  let c0_76 : Index := 0#32
  let c0_i32 : BitVec 32 := 0#32
  let c1_i32 : BitVec 32 := 1#32
  let arg8 : BitVec 32 := Scf.iv c0_i32 c1_i32 k0_t1
  let v208 : Index := Scalar.indexCast arg8
  ![0, 0, v208.toNat]
def k0_mult1 (v209 : BitVec 32) : BitVec 32 :=
  let c8_i32 : BitVec 32 := 8#32
  let v210 : BitVec 32 := Scalar.muli v209 c8_i32
  v210

def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let c0_i32_63 : BitVec 32 := 0#32
  let v179 : BitVec 1 := Scalar.cmpi .eq c4_i32 c0_i32_63
  let c1_i32_64 : BitVec 32 := 1#32
  let v180 : BitVec 32 := Scalar.select v179 c1_i32_64 c4_i32
  let v181 : BitVec 32 := Scalar.remsi arg8 v180
  let c0_i32_66 : BitVec 32 := 0#32
  let v183 : BitVec 1 := Scalar.cmpi .slt v181 c0_i32_66
  let c0_i32_67 : BitVec 32 := 0#32
  let v184 : BitVec 1 := Scalar.cmpi .slt v180 c0_i32_67
  let v185 : BitVec 1 := Scalar.xori v183 v184
  let c0_i32_65 : BitVec 32 := 0#32
  let v182 : BitVec 1 := Scalar.cmpi .ne v181 c0_i32_65
  let v186 : BitVec 1 := Scalar.andi v185 v182
  let v187 : BitVec 32 := Scalar.addi v181 v180
  let v188 : BitVec 32 := Scalar.select v186 v187 v181
  let c256_i32 : BitVec 32 := 256#32
  let v189 : BitVec 32 := Scalar.muli v188 c256_i32
  let c0_i32_69 : BitVec 32 := 0#32
  let v191 : BitVec 1 := Scalar.cmpi .sgt arg8 c0_i32_69
  let v192 : BitVec 32 := Scalar.extui v191
  let c0_i32_70 : BitVec 32 := 0#32
  let v193 : BitVec 1 := Scalar.cmpi .slt arg8 c0_i32_70
  let v194 : BitVec 32 := Scalar.extui v193
  let v195 : BitVec 32 := Scalar.subi v192 v194
  let c4_i32_68 : BitVec 32 := 4#32
  let c0_i32_71 : BitVec 32 := 0#32
  let v196 : BitVec 1 := Scalar.cmpi .sgt c4_i32_68 c0_i32_71
  let v197 : BitVec 32 := Scalar.extui v196
  let c0_i32_72 : BitVec 32 := 0#32
  let v198 : BitVec 1 := Scalar.cmpi .slt c4_i32_68 c0_i32_72
  let v199 : BitVec 32 := Scalar.extui v198
  let v200 : BitVec 32 := Scalar.subi v197 v199
  let v201 : BitVec 1 := Scalar.cmpi .ne v195 v200
  let v202 : BitVec 32 := Scalar.remsi arg8 c4_i32_68
  let c0_i32_73 : BitVec 32 := 0#32
  let v203 : BitVec 1 := Scalar.cmpi .ne v202 c0_i32_73
  let v204 : BitVec 1 := Scalar.andi v201 v203
  let v190 : BitVec 32 := Scalar.divsi arg8 c4_i32_68
  let c1_i32_74 : BitVec 32 := 1#32
  let v205 : BitVec 32 := Scalar.subi v190 c1_i32_74
  let v206 : BitVec 32 := Scalar.select v204 v205 v190
  let v207 : BitVec 32 := Scalar.addi v189 v206
  let c8_i32_77 : BitVec 32 := 8#32
  let v212 : BitVec 32 := Scalar.muli v207 c8_i32_77
  v212
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let c0_i32_63 : BitVec 32 := 0#32
  let v179 : BitVec 1 := Scalar.cmpi .eq c4_i32 c0_i32_63
  let c1_i32_64 : BitVec 32 := 1#32
  let v180 : BitVec 32 := Scalar.select v179 c1_i32_64 c4_i32
  let v181 : BitVec 32 := Scalar.remsi arg8 v180
  let c0_i32_66 : BitVec 32 := 0#32
  let v183 : BitVec 1 := Scalar.cmpi .slt v181 c0_i32_66
  let c0_i32_67 : BitVec 32 := 0#32
  let v184 : BitVec 1 := Scalar.cmpi .slt v180 c0_i32_67
  let v185 : BitVec 1 := Scalar.xori v183 v184
  let c0_i32_65 : BitVec 32 := 0#32
  let v182 : BitVec 1 := Scalar.cmpi .ne v181 c0_i32_65
  let v186 : BitVec 1 := Scalar.andi v185 v182
  let v187 : BitVec 32 := Scalar.addi v181 v180
  let v188 : BitVec 32 := Scalar.select v186 v187 v181
  let c256_i32 : BitVec 32 := 256#32
  let v189 : BitVec 32 := Scalar.muli v188 c256_i32
  let c0_i32_69 : BitVec 32 := 0#32
  let v191 : BitVec 1 := Scalar.cmpi .sgt arg8 c0_i32_69
  let v192 : BitVec 32 := Scalar.extui v191
  let c0_i32_70 : BitVec 32 := 0#32
  let v193 : BitVec 1 := Scalar.cmpi .slt arg8 c0_i32_70
  let v194 : BitVec 32 := Scalar.extui v193
  let v195 : BitVec 32 := Scalar.subi v192 v194
  let c4_i32_68 : BitVec 32 := 4#32
  let c0_i32_71 : BitVec 32 := 0#32
  let v196 : BitVec 1 := Scalar.cmpi .sgt c4_i32_68 c0_i32_71
  let v197 : BitVec 32 := Scalar.extui v196
  let c0_i32_72 : BitVec 32 := 0#32
  let v198 : BitVec 1 := Scalar.cmpi .slt c4_i32_68 c0_i32_72
  let v199 : BitVec 32 := Scalar.extui v198
  let v200 : BitVec 32 := Scalar.subi v197 v199
  let v201 : BitVec 1 := Scalar.cmpi .ne v195 v200
  let v202 : BitVec 32 := Scalar.remsi arg8 c4_i32_68
  let c0_i32_73 : BitVec 32 := 0#32
  let v203 : BitVec 1 := Scalar.cmpi .ne v202 c0_i32_73
  let v204 : BitVec 1 := Scalar.andi v201 v203
  let v190 : BitVec 32 := Scalar.divsi arg8 c4_i32_68
  let c1_i32_74 : BitVec 32 := 1#32
  let v205 : BitVec 32 := Scalar.subi v190 c1_i32_74
  let v206 : BitVec 32 := Scalar.select v204 v205 v190
  let v207 : BitVec 32 := Scalar.addi v189 v206
  let c8_i32_77 : BitVec 32 := 8#32
  let v212 : BitVec 32 := Scalar.muli v207 c8_i32_77
  let v213 : BitVec 32 := v212
  let c0_i32_78 : BitVec 32 := 0#32
  ![v213.toNat, 0]
def k0_off3 (v209 : BitVec 32) : Fin 2 → Nat :=
  let c8_i32 : BitVec 32 := 8#32
  let v210 : BitVec 32 := Scalar.muli v209 c8_i32
  let v211 : BitVec 32 := v210
  let c0_i32_79 : BitVec 32 := 0#32
  ![v211.toNat, 0]

def k0_chk1 (v209 : BitVec 32) : Prop :=
  (8 ∣ (k0_mult1 v209).toNat) ∧
  (∀ a, (k0_off3 v209) a + S8x128.size a ≤ S1114112x128.size a)
theorem k0_mult1_dvd : ∀ (v209 : BitVec 32) (k0_hw1 : k0_chk1 v209), 8 ∣ (k0_mult1 v209).toNat := fun v209 k0_hw1 => k0_hw1.1
theorem k0_off3_inb : ∀ (v209 : BitVec 32) (k0_hw1 : k0_chk1 v209), ∀ a, (k0_off3 v209) a + S8x128.size a ≤ S1114112x128.size a := fun v209 k0_hw1 => k0_hw1.2

@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def k0_mult3 : BitVec 32 :=
  let c0_i32_63 : BitVec 32 := 0#32
  c0_i32_63
def k0_mult4 : BitVec 32 :=
  let c0_i32_64 : BitVec 32 := 0#32
  c0_i32_64
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S1114112x128 : Shape := ⟨2, ![1114112, 128]⟩
abbrev S32768x4 : Shape := ⟨2, ![32768, 4]⟩
abbrev S32768x1024 : Shape := ⟨2, ![32768, 1024]⟩
abbrev S139264x1024 : Shape := ⟨2, ![139264, 1024]⟩
abbrev S_ : Shape := ⟨0, ![]⟩
abbrev S32768x4x1 : Shape := ⟨3, ![32768, 4, 1]⟩
abbrev S32768x4x1024 : Shape := ⟨3, ![32768, 4, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1114112x128, .f32⟩
  | .hbm, ⟨1, _⟩ => ⟨S32768x4, .i32⟩
  | .hbm, ⟨2, _⟩ => ⟨S32768x1024, .f32⟩
  | .hbm, ⟨3, _⟩ => ⟨S32768x4, .f32⟩
  | .hbm, ⟨4, _⟩ => ⟨S139264x1024, .f32⟩
  | .hbm, ⟨5, _⟩ => ⟨S_, .i32⟩
  | .hbm, ⟨6, _⟩ => ⟨S32768x4, .i32⟩
  | .hbm, ⟨7, _⟩ => ⟨S32768x4, .i1⟩
  | .hbm, ⟨8, _⟩ => ⟨S_, .i32⟩
  | .hbm, ⟨9, _⟩ => ⟨S32768x4, .i32⟩
  | .hbm, ⟨10, _⟩ => ⟨S32768x4, .i32⟩
  | .hbm, ⟨11, _⟩ => ⟨S32768x4, .i32⟩
  | .hbm, ⟨12, _⟩ => ⟨S32768x4x1, .i32⟩
  | .hbm, ⟨13, _⟩ => ⟨S32768x4x1024, .f32⟩
  | .hbm, ⟨14, _⟩ => ⟨S32768x4x1, .f32⟩
  | .hbm, ⟨15, _⟩ => ⟨S32768x4x1024, .f32⟩
  | .hbm, ⟨16, _⟩ => ⟨S32768x4x1024, .f32⟩
  | .hbm, ⟨17, _⟩ => ⟨S_, .f32⟩
  | .hbm, ⟨18, _⟩ => ⟨S32768x1024, .f32⟩
  | .hbm, ⟨19, _⟩ => ⟨S32768x1024, .f32⟩
  | _, _ => ⟨S1114112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Scat.lean ====
module

public import proofs.«01_k».proof.Proof.Gen.Pre_routed
public import proofs.«01_k».proof.Proof.Gen.ReferenceIdeal
public import Idealize.ShloMosaic.Lib.Routing.Ops
public import Idealize.ShloMosaic.Lib.Routing.OpsPair
public import Idealize.ShloMosaic.Lib.Routing.OpsSet

@[expose] public section

noncomputable section

/-! # Where an update of the two scatters lands

The precondition counts, at each row, the pairs whose position is that row; the reference writes each pair's row at its
position. -/

namespace Cert.Routed

open Idealize.ShloMosaic Idealize.ShloMosaic.Routing Idealize.ShloMosaic.ValueIdx

/-- Update `k` of the counting scatter lands at row `x` exactly when its index word, read signed, is `x`. -/
theorem hits_lands (k : Cert.Pre_routed.S131072.Idx) (x : Fin 139264) (idx : IVec Cert.Pre_routed.S131072x1 32) :
    (Cert.Pre_routed.scatter_S139264_S131072x1_S131072_n_0_0_1).resultIdx? k idx = some (ix1 x)
      ↔ (idx (ix2 (k 0) (0 : Fin 1))).toInt = (x.val : Int) := by
  have hs : (Cert.Pre_routed.scatter_S139264_S131072x1_S131072_n_0_0_1).start k idx 0 = (idx (ix2 (k 0) (0 : Fin 1))).toInt := by
    refine congrArg (fun j => (idx j).toInt) (funext fun b => ?_)
    match b with
    | ⟨0, _⟩ => rfl
    | ⟨1, _⟩ => rfl
  have hw : (Cert.Pre_routed.scatter_S139264_S131072x1_S131072_n_0_0_1).window k 0 = 0 := rfl
  refine (resultIdx?_ix1 _ k idx x).trans ?_
  rw [hs, hw]
  exact ⟨fun h => by simpa using h, fun h => by simpa using h⟩

/-- Update `k` of the reference's scatter lands at row `r`, column `y` exactly when its index word, read signed, is `r` and
    its own column is `y`. -/
theorem row_lands (k : Cert.ReferenceIdeal.S131072x1024.Idx) (r : Fin 139264) (y : Fin 1024) (idx : IVec Cert.ReferenceIdeal.S131072x1 32) :
    (Cert.ReferenceIdeal.scatter_S139264x1024_S131072x1_S131072x1024_1_0_0_1).resultIdx? k idx = some (ix2 r y)
      ↔ (idx (ix2 (k 0) (0 : Fin 1))).toInt = (r.val : Int) ∧ k 1 = y := by
  have hs : (Cert.ReferenceIdeal.scatter_S139264x1024_S131072x1_S131072x1024_1_0_0_1).start k idx 0 = (idx (ix2 (k 0) (0 : Fin 1))).toInt := by
    refine congrArg (fun j => (idx j).toInt) (funext fun b => ?_)
    match b with
    | ⟨0, _⟩ => rfl
    | ⟨1, _⟩ => rfl
  have hw : (Cert.ReferenceIdeal.scatter_S139264x1024_S131072x1_S131072x1024_1_0_0_1).window k 0 = 0 := rfl
  have hs1 : (Cert.ReferenceIdeal.scatter_S139264x1024_S131072x1_S131072x1024_1_0_0_1).start k idx 1 = 0 := rfl
  have hw1 : (Cert.ReferenceIdeal.scatter_S139264x1024_S131072x1_S131072x1024_1_0_0_1).window k 1 = (k 1).val := rfl
  refine (resultIdx?_ix2 _ k idx r y).trans ?_
  rw [hs, hw, hs1, hw1]
  have e : (k 1 = y) ↔ (k 1).val = y.val := Fin.ext_iff
  rw [e]
  constructor
  · rintro ⟨h1, h2⟩; exact ⟨by simpa using h1, by omega⟩
  · rintro ⟨h1, h2⟩; exact ⟨by simpa using h1, by omega⟩

/-- A fold that adds one at each marked place counts the marked places. -/
theorem foldl_ones {ι : Type} (hit : ι → Prop) [DecidablePred hit] (l : List ι) (z : ℕ) (w : BitVec 32) (hw : w = BitVec.ofNat 32 z) :
    l.foldl (fun a n => if hit n then IntOp.addi a 1#32 else a) w = BitVec.ofNat 32 (z + l.countP (fun n => decide (hit n))) := by
  induction l generalizing z w with
  | nil => simpa using hw
  | cons n l ih =>
    rw [List.foldl_cons]
    by_cases h : hit n
    · rw [if_pos h, ih (z + 1) _ (by subst hw; exact (BitVec.ofNat_add ..).symm), List.countP_cons_of_pos (by simpa using h)]
      exact congrArg _ (by omega)
    · rw [if_neg h, ih z w hw, List.countP_cons_of_neg (by simpa using h)]

/-- Two different marked places of the numbers below `N` count at least two. -/
theorem two_le_countP {N : ℕ} (p : Fin N → Bool) (i j : Fin N) (hij : i ≠ j) (hi : p i = true) (hj : p j = true) :
    2 ≤ (List.finRange N).countP p := by
  rw [List.countP_eq_length_filter]
  have hn : ((List.finRange N).filter p).Nodup := (List.nodup_finRange N).filter _
  have hs : [i, j].Subperm ((List.finRange N).filter p) := by
    refine List.subperm_of_subset (by simpa using hij) ?_
    intro x hx
    rcases List.mem_cons.1 hx with rfl | hx
    · exact List.mem_filter.2 ⟨List.mem_finRange _, hi⟩
    · rcases List.mem_singleton.1 hx with rfl
      exact List.mem_filter.2 ⟨List.mem_finRange _, hj⟩
  exact hs.length_le

/-- A fold by `or` from zero is one exactly when some entry is. -/
theorem foldl_ori {ι : Type} (f : ι → BitVec 1) (l : List ι) (z : BitVec 1) :
    l.foldl (fun r n => IntOp.ori r (f n)) z = 1#1 ↔ z = 1#1 ∨ ∃ n ∈ l, f n = 1#1 := by
  induction l generalizing z with
  | nil => simp
  | cons a l ih =>
    rw [List.foldl_cons, ih]
    have e : IntOp.ori z (f a) = 1#1 ↔ z = 1#1 ∨ f a = 1#1 := by
      generalize f a = y
      revert z y; decide
    rw [e]
    simp only [List.mem_cons, exists_eq_or_imp, or_assoc]

/-- `jnp.any` along some axes is one at `j` exactly when it meets a one at an index that reduces into `j`. -/
theorem reduce_ori {s t u : Shape} {axes : List (Fin s.rank)} (x : s.Idx → BitVec 1) (init : u.Idx → BitVec 1) (h : s.ReducesTo axes t)
    (hu : 0 < u.numel) (hi : init (Shape.Idx.first hu) = 0#1) (j : t.Idx) :
    Host.reduce IntOp.ori x init h hu j = 1#1 ↔ ∃ i : s.Idx, h.drop i = j ∧ x i = 1#1 := by
  rw [Host.reduce_eq_foldl, foldl_ori x, hi]
  constructor
  · rintro (h0 | ⟨n, hn, h1⟩)
    · exact absurd h0 (by decide)
    · exact ⟨n, by simpa using (List.mem_filter.1 hn).2, h1⟩
  · rintro ⟨i, hd, h1⟩
    refine Or.inr ⟨i, List.mem_filter.2 ⟨List.mem_map.2 ⟨s.rowMajor i, List.mem_finRange _, Equiv.symm_apply_apply _ _⟩, by simp [hd]⟩, h1⟩

end Cert.Routed

end
-- ==== Proof.Pre.lean ====
module

public import proofs.«01_k».proof.Proof.Scat
public import proofs.«01_k».proof.Proof.Gen.On_rows_in_use
public import Idealize.ShloMosaic.Lib.Routing.Words
public import Idealize.ShloMosaic.Lib.ReduceAll

@[expose] public section

noncomputable section

/-! # The precondition and the mask, read

From the precondition's one word: the experts' counts and first rows as natural numbers, the pairs' positions as natural
numbers below the number of rows, no two pairs at one position, and every row an expert counts at some pair's position. -/

namespace Cert.Routed

open Idealize.ShloMosaic Idealize.ShloMosaic.Routing Idealize.ShloMosaic.ValueIdx Cert.Pre_routed

variable {F : FTy → Type} [FloatOps F]

/-- Expert `e`'s count, a number. -/
def cn (cnt : S32.Idx → BitVec 32) (e : ℕ) : ℕ := if h : e < 32 then (cnt (ix1 ⟨e, h⟩)).toNat else 0
/-- Expert `e`'s tiles of 256 rows. -/
def tl (cnt : S32.Idx → BitVec 32) (e : ℕ) : ℕ := (cn cnt e + 255) / 256
/-- Expert `e`'s first row. -/
def bs (cnt : S32.Idx → BitVec 32) (e : ℕ) : ℕ := 256 * ((List.range e).map (tl cnt)).sum
/-- Pair `q`'s row. -/
def pn (pos : S32768x4.Idx → BitVec 32) (q : ℕ) : ℕ := if h : q < 131072 then (pos (ix2 ⟨q / 4, by omega⟩ ⟨q % 4, by omega⟩)).toNat else 0

theorem bs_succ (cnt : S32.Idx → BitVec 32) (e : ℕ) : bs cnt (e + 1) = bs cnt e + 256 * tl cnt e := by
  unfold bs
  rw [List.range_succ, List.map_append, List.sum_append]
  simp [Nat.mul_add]

theorem bs_mono (cnt : S32.Idx → BitVec 32) (e n : ℕ) : bs cnt e ≤ bs cnt (e + n) := by
  induction n with
  | zero => exact le_rfl
  | succ n ih => exact ih.trans (by rw [← Nat.add_assoc, bs_succ]; omega)

theorem cn_word (cnt : S32.Idx → BitVec 32) (e : Fin 32) : cnt (ix1 e) = BitVec.ofNat 32 (cn cnt e.val) := by
  unfold cn
  rw [dif_pos e.isLt]
  exact BitVec.eq_of_toNat_eq (by rw [BitVec.toNat_ofNat, Nat.mod_eq_of_lt (cnt (ix1 e)).isLt])

/-- The counts' tiles, as the programs compute them. -/
def tilesW (F : FTy → Type) [FloatOps F] (cnt : IVec S32 32) : IVec S32 32 :=
  fn_floor_divide (F := F) (subi (addi cnt (broadcastInDim S32 ![] Facts.bcast_S_S32 (constantI S_ 32 256#32)))
    (broadcastInDim S32 ![] Facts.bcast_S_S32 (constantI S_ 32 1#32))) (constantI S_ 32 256#32)

/-- The experts' first rows, as the programs compute them. -/
def baseW (F : FTy → Type) [FloatOps F] (cnt : IVec S32 32) : IVec S32 32 :=
  muli (subi (fn_cumsum (F := F) (tilesW F cnt)) (tilesW F cnt)) (broadcastInDim S32 ![] Facts.bcast_S_S32 (constantI S_ 32 256#32))

/-- Row `r` is one an expert counts: the word the precondition computes. -/
def liveW (F : FTy → Type) [FloatOps F] (cnt : IVec S32 32) : IVec S139264 1 :=
  Host.reduce IntOp.ori
    (andi (cmpi .sle (broadcastInDim S139264x32 ![0, 1] Facts.bcast_S1x32_S139264x32_0_1 (broadcastInDim S1x32 ![1] Facts.bcast_S32_S1x32_1 (baseW F cnt)))
        (iotaInDim S139264x32 32 0))
      (cmpi .slt (iotaInDim S139264x32 32 0) (broadcastInDim S139264x32 ![0, 1] Facts.bcast_S1x32_S139264x32_0_1
        (broadcastInDim S1x32 ![1] Facts.bcast_S32_S1x32_1 (addi (baseW F cnt) cnt)))))
    (constantI S_ 1 0#1) Facts.reducesTo_S139264x32_S139264_d1 Facts.h_S_

/-- The pairs' index words. -/
def idxW (pos : IVec S32768x4 32) : IVec S131072x1 32 :=
  broadcastInDim S131072x1 ![0] Facts.bcast_S131072_S131072x1_0
    (select (cmpi .slt (shapeCast S131072 pos Facts.shapeCasts_S32768x4_S131072) (broadcastInDim S131072 ![] Facts.bcast_S_S131072 (constantI S_ 32 0#32)))
      (addi (shapeCast S131072 pos Facts.shapeCasts_S32768x4_S131072) (broadcastInDim S131072 ![] Facts.bcast_S_S131072 (constantI S_ 32 139264#32)))
      (shapeCast S131072 pos Facts.shapeCasts_S32768x4_S131072))

/-- How many pairs are at each row: the word the precondition computes. -/
def hitsW (pos : IVec S32768x4 32) : IVec S139264 32 :=
  Host.scatter scatter_S139264_S131072x1_S131072_n_0_0_1 IntOp.addi (broadcastInDim S139264 ![] Facts.bcast_S_S139264 (constantI S_ 32 0#32))
    (idxW pos) (broadcastInDim S131072 ![] Facts.bcast_S_S131072 (constantI S_ 32 1#32))

instance : Subsingleton S_.Idx := ⟨fun _ _ => funext fun a => a.elim0⟩

/-- The precondition's three parts, at an index. -/
theorem parts (A : FVec F S262144x128 .f32) (pos : IVec S32768x4 32) (cnt : IVec S32 32) (h : fn (F := F) A pos cnt = fun _ => 1#1) :
    (∀ e : Fin 32, IntOp.andi (IntOp.andi (IntOp.cmpi .sge (cnt (ix1 e)) 0#32) (IntOp.cmpi .sle (cnt (ix1 e)) 131072#32))
        (IntOp.cmpi .sle (baseW F cnt (ix1 e) + tilesW F cnt (ix1 e) * 256#32) 139264#32) = 1#1)
    ∧ (∀ (t : Fin 32768) (k : Fin 4), IntOp.andi (IntOp.cmpi .sge (pos (ix2 t k)) 0#32) (IntOp.cmpi .slt (pos (ix2 t k)) 139264#32) = 1#1)
    ∧ (∀ r : Fin 139264, IntOp.andi (IntOp.cmpi .sle ((liveW F cnt (ix1 r)).setWidth 32) (hitsW pos (ix1 r))) (IntOp.cmpi .sle (hitsW pos (ix1 r)) 1#32) = 1#1) := by
  have h0 := congrFun h ix0
  unfold fn fn_part1 fn_part2 fn_part3 at h0
  obtain ⟨h12, h3⟩ := IntOp.andi_eq_one.1 h0
  obtain ⟨h1, h2⟩ := IntOp.andi_eq_one.1 h12
  exact ⟨fun e => Host.reduce_andi_all _ _ _ _ _ h1 (ix1 e), fun t k => Host.reduce_andi_all _ _ _ _ _ h2 (ix2 t k),
    fun r => Host.reduce_andi_all _ _ _ _ _ h3 (ix1 r)⟩

theorem toInt_word (n : ℕ) (h : n < 2 ^ 31) : (BitVec.ofNat 32 n).toInt = (n : Int) := StableHlo.Predicate.toInt_ofNat_small _ h

theorem word_add (a b : ℕ) : BitVec.ofNat 32 a + BitVec.ofNat 32 b = BitVec.ofNat 32 (a + b) := (BitVec.ofNat_add ..).symm
theorem word_mul (a b : ℕ) : BitVec.ofNat 32 a * BitVec.ofNat 32 b = BitVec.ofNat 32 (a * b) := (BitVec.ofNat_mul ..).symm
theorem word_sub (a b : ℕ) : BitVec.ofNat 32 (a + b) - BitVec.ofNat 32 b = BitVec.ofNat 32 a := by
  rw [← word_add]; exact BitVec.add_sub_cancel _ _

/-- A word between 0 and `n`, read signed, is a number up to `n`. -/
theorem toNat_le (x : BitVec 32) (n : ℕ) (h0 : 0 ≤ x.toInt) (h : x.toInt ≤ (n : Int)) : x.toNat ≤ n := by
  have h1 := BitVec.toInt_eq_toNat_cond x
  have h2 := x.isLt
  split at h1 <;> omega

section Words
variable (cnt : IVec S32 32) (hc : ∀ e, e < 32 → cn cnt e ≤ 131072)
include hc

theorem tl_le (e : ℕ) : tl cnt e ≤ 513 := by
  unfold tl
  by_cases h : e < 32
  · have := hc e h
    omega
  · have : cn cnt e = 0 := dif_neg h
    omega

theorem sum_le (e : ℕ) : ((List.range e).map (tl cnt)).sum ≤ 513 * e := by
  induction e with
  | zero => simp
  | succ e ih =>
    rw [List.range_succ, List.map_append, List.sum_append]
    have := tl_le cnt hc e
    simp only [List.map_cons, List.map_nil, List.sum_cons, List.sum_nil]
    omega

theorem tiles_word (e : Fin 32) : tilesW F cnt (ix1 e) = BitVec.ofNat 32 (tl cnt e.val) := by
  have h := hc e.val e.isLt
  refine pyDiv_ap Facts.bcast_S_S32 _ (constantI S_ 32 256#32) (ix1 e) (a := cn cnt e.val + 255) (b := 256) ?_ rfl (by omega) (by omega) (by omega)
  show cnt (ix1 e) + 256#32 - 1#32 = _
  rw [cn_word cnt, show (256#32 : BitVec 32) = BitVec.ofNat 32 256 from rfl, word_add, show cn cnt e.val + 256 = (cn cnt e.val + 255) + 1 from rfl]
  exact word_sub _ 1

theorem base_word (e : Fin 32) : baseW F cnt (ix1 e) = BitVec.ofNat 32 (bs cnt e.val) := by
  have hs : fn_cumsum (F := F) (tilesW F cnt) (ix1 e) = BitVec.ofNat 32 ((List.range (e.val + 1)).map (tl cnt)).sum := by
    have ht := tiles_word (F := F) cnt hc
    generalize tilesW F cnt = T at ht ⊢
    unfold fn_cumsum fn_cumsum_0
    exact cumsum1 (N := 32) (Nm1 := 31) rfl T (tl cnt) ht _ (by rfl) Facts.reduceWindows_S32_S32_w32s1p31_0 Facts.h_S_ e
  show (fn_cumsum (F := F) (tilesW F cnt) (ix1 e) - tilesW F cnt (ix1 e)) * 256#32 = _
  rw [hs, tiles_word cnt hc, List.range_succ, List.map_append, List.sum_append, List.map_singleton, List.sum_singleton, word_sub,
    show (256#32 : BitVec 32) = BitVec.ofNat 32 256 from rfl, word_mul, Nat.mul_comm]
  rfl

theorem bs_le (e : ℕ) (he : e ≤ 32) : bs cnt e ≤ 4202496 := by
  have := sum_le cnt hc e
  unfold bs
  omega

theorem end_word (e : Fin 32) : baseW F cnt (ix1 e) + tilesW F cnt (ix1 e) * 256#32 = BitVec.ofNat 32 (bs cnt (e.val + 1)) := by
  rw [base_word cnt hc, tiles_word cnt hc, show (256#32 : BitVec 32) = BitVec.ofNat 32 256 from rfl, word_mul, word_add, bs_succ, Nat.mul_comm (tl _ _)]

end Words

/-- The pairs' index words at a position below the rows: the position's word. -/
theorem idx_word (pos : IVec S32768x4 32) (hp : ∀ (t : Fin 32768) (k : Fin 4), 0 ≤ (pos (ix2 t k)).toInt) (q : Fin 131072) :
    idxW pos (ix2 q (0 : Fin 1)) = BitVec.ofNat 32 (pn pos q.val) := by
  have hq := q.isLt
  have hx : shapeCast S131072 pos Facts.shapeCasts_S32768x4_S131072 (ix1 q) = pos (ix2 ⟨q.val / 4, by omega⟩ ⟨q.val % 4, by omega⟩) :=
    cast21 pos Facts.shapeCasts_S32768x4_S131072 _ _ q (by show q.val = q.val / 4 * 4 + q.val % 4; omega)
  refine (bcCol Facts.bcast_S131072_S131072x1_0 _ q).trans ?_
  refine (wrap_of_lt (shapeCast S131072 pos Facts.shapeCasts_S32768x4_S131072 (ix1 q)) _ ?_).trans ?_
  · rw [hx]
    have h0 := hp ⟨q.val / 4, by omega⟩ ⟨q.val % 4, by omega⟩
    have h1 := BitVec.toInt_eq_toNat_cond (pos (ix2 ⟨q.val / 4, by omega⟩ ⟨q.val % 4, by omega⟩))
    have h2 := (pos (ix2 ⟨q.val / 4, by omega⟩ ⟨q.val % 4, by omega⟩)).isLt
    split at h1 <;> omega
  · rw [hx]
    unfold pn
    rw [dif_pos hq]
    exact BitVec.eq_of_toNat_eq (by rw [BitVec.toNat_ofNat, Nat.mod_eq_of_lt (BitVec.isLt _)])

/-- What the precondition says, in numbers. -/
structure Routed (F : FTy → Type) [FloatOps F] (pos : IVec S32768x4 32) (cnt : IVec S32 32) : Prop where
  cnt_le : ∀ e, e < 32 → cn cnt e ≤ 131072
  fits : ∀ e, e < 32 → bs cnt (e + 1) ≤ 139264
  sign : ∀ (t : Fin 32768) (k : Fin 4), 0 ≤ (pos (ix2 t k)).toInt
  lt : ∀ q, q < 131072 → pn pos q < 139264
  inj : ∀ q q', q < 131072 → q' < 131072 → pn pos q = pn pos q' → q = q'
  live : ∀ e r, e < 32 → bs cnt e ≤ r → r < bs cnt e + cn cnt e → ∃ q, q < 131072 ∧ pn pos q = r

theorem hits_word (pos : IVec S32768x4 32) (hp : ∀ (t : Fin 32768) (k : Fin 4), 0 ≤ (pos (ix2 t k)).toInt) (hl : ∀ q, q < 131072 → pn pos q < 139264)
    (r : Fin 139264) : hitsW pos (ix1 r) = BitVec.ofNat 32 ((List.finRange S131072.numel).countP fun n => decide (pn pos (S131072.rowMajor.symm n 0).val = r.val)) := by
  unfold hitsW
  rw [scatter_at]
  refine Eq.trans ?_ ((foldl_ones (fun n : Fin S131072.numel => pn pos (S131072.rowMajor.symm n 0).val = r.val) _ 0 0#32 rfl).trans (by rw [Nat.zero_add]))
  refine congrArg (fun f => List.foldl f 0#32 (List.finRange S131072.numel)) (funext fun a => funext fun n => ?_)
  have e := hits_lands (S131072.rowMajor.symm n) r (idxW pos)
  have hq := (S131072.rowMajor.symm n 0).isLt
  rw [show idxW pos (ix2 (S131072.rowMajor.symm n 0) (0 : Fin 1)) = _ from idx_word pos hp _, toInt_word _ ((hl _ hq).trans (by decide)), Int.natCast_inj] at e
  by_cases h : pn pos (S131072.rowMajor.symm n 0).val = r.val
  · rw [if_pos (e.2 h), if_pos h]; rfl
  · rw [if_neg (fun h' => h (e.1 h')), if_neg h]

theorem read (A : FVec F S262144x128 .f32) (pos : IVec S32768x4 32) (cnt : IVec S32 32) (h : fn (F := F) A pos cnt = fun _ => 1#1) :
    Routed F pos cnt := by
  obtain ⟨h1, h2, h3⟩ := parts A pos cnt h
  have hc : ∀ e, e < 32 → cn cnt e ≤ 131072 := fun e he => by
    obtain ⟨h11, -⟩ := IntOp.andi_eq_one.1 (h1 ⟨e, he⟩)
    obtain ⟨ha, hb⟩ := IntOp.andi_eq_one.1 h11
    have := toNat_le _ 131072 (IntOp.cmpi_sge.1 ha) (IntOp.cmpi_sle.1 hb)
    unfold cn
    rwa [dif_pos he]
  have hp : ∀ (t : Fin 32768) (k : Fin 4), 0 ≤ (pos (ix2 t k)).toInt := fun t k => IntOp.cmpi_sge.1 (IntOp.andi_eq_one.1 (h2 t k)).1
  have hl : ∀ q, q < 131072 → pn pos q < 139264 := fun q hq => by
    have h := h2 ⟨q / 4, by omega⟩ ⟨q % 4, by omega⟩
    have hb := IntOp.cmpi_slt.1 (IntOp.andi_eq_one.1 h).2
    have hb' : (pos (ix2 ⟨q / 4, by omega⟩ ⟨q % 4, by omega⟩)).toInt < 139264 := hb
    have := toNat_le _ 139263 (hp _ _) (by omega : (pos (ix2 ⟨q / 4, by omega⟩ ⟨q % 4, by omega⟩)).toInt ≤ ((139263 : ℕ) : Int))
    unfold pn
    rw [dif_pos hq]
    omega
  have hn : ∀ r : Fin 139264, ((List.finRange S131072.numel).countP fun n => decide (pn pos (S131072.rowMajor.symm n 0).val = r.val)) ≤ 1 := fun r => by
    have hb := IntOp.cmpi_sle.1 (IntOp.andi_eq_one.1 (h3 r)).2
    have hz : ((List.finRange S131072.numel).countP fun n => decide (pn pos (S131072.rowMajor.symm n 0).val = r.val)) ≤ 131072 := by
      refine List.countP_le_length.trans ?_
      rw [List.length_finRange]
      exact (by decide : S131072.numel ≤ 131072)
    rw [hits_word pos hp hl, toInt_word _ (by omega)] at hb
    have : ((1#32 : BitVec 32)).toInt = 1 := by decide
    omega
  refine ⟨hc, fun e he => ?_, hp, hl, fun q q' hq hq' e => ?_, fun e r he h4 h5 => ?_⟩
  · have hb := IntOp.cmpi_sle.1 (IntOp.andi_eq_one.1 (h1 ⟨e, he⟩)).2
    have hb1 := bs_le cnt hc (e + 1) (by omega)
    rw [end_word cnt hc, toInt_word _ (by show bs cnt (e + 1) < _; omega)] at hb
    have : ((139264#32 : BitVec 32)).toInt = 139264 := by decide
    have hb' : (bs cnt (e + 1) : Int) ≤ _ := hb
    omega
  · by_contra hne
    have h1' : ((List.finRange S131072.numel).countP fun n => decide (pn pos (S131072.rowMajor.symm n 0).val = pn pos q)) ≤ 1 := hn ⟨pn pos q, hl q hq⟩
    have hv : ∀ (x : Fin 131072), S131072.rowMajor.symm (S131072.rowMajor (ix1 x)) 0 = x := fun x => congrFun (Equiv.symm_apply_apply S131072.rowMajor (ix1 x)) 0
    have h2 := two_le_countP (fun n => decide (pn pos (S131072.rowMajor.symm n 0).val = pn pos q)) (S131072.rowMajor (ix1 ⟨q, hq⟩)) (S131072.rowMajor (ix1 ⟨q', hq'⟩))
      (fun h => hne (congrArg Fin.val (congrFun (S131072.rowMajor.injective h) 0))) (by simp only [hv, decide_eq_true_eq]) (by simp only [hv, decide_eq_true_eq]; exact e.symm)
    omega
  · have hr : r < 139264 := by
      have : bs cnt (e + 1) ≤ 139264 := by
        have hb := IntOp.cmpi_sle.1 (IntOp.andi_eq_one.1 (h1 ⟨e, he⟩)).2
        have hb1 := bs_le cnt hc (e + 1) (by omega)
        rw [end_word cnt hc, toInt_word _ (by show bs cnt (e + 1) < _; omega)] at hb
        have : ((139264#32 : BitVec 32)).toInt = 139264 := by decide
        have hb' : (bs cnt (e + 1) : Int) ≤ _ := hb
        omega
      rw [bs_succ] at this
      unfold tl at this
      omega
    have hlive : liveW F cnt (ix1 ⟨r, hr⟩) = 1#1 := by
      refine (reduce_ori _ _ _ _ rfl _).2 ⟨ix2 ⟨r, hr⟩ ⟨e, he⟩, ?_, ?_⟩
      · funext b
        match b with
        | ⟨0, _⟩ => rfl
      · refine IntOp.andi_eq_one.2 ⟨?_, ?_⟩
        · refine (congrArg (fun w => IntOp.cmpi .sle w (BitVec.ofNat 32 r)) (bcCols Facts.bcast_S32_S1x32_1 Facts.bcast_S1x32_S139264x32_0_1 (baseW F cnt) ⟨r, hr⟩ ⟨e, he⟩)).trans ?_
          rw [IntOp.cmpi_sle, base_word cnt hc, toInt_word _ (by show bs cnt e < _; omega), toInt_word _ (by omega)]
          exact_mod_cast h4
        · refine (congrArg (fun w => IntOp.cmpi .slt (BitVec.ofNat 32 r) w) (bcCols Facts.bcast_S32_S1x32_1 Facts.bcast_S1x32_S139264x32_0_1 (addi (baseW F cnt) cnt) ⟨r, hr⟩ ⟨e, he⟩)).trans ?_
          have hce := hc e he
          have hbe := bs_le cnt hc e (by omega)
          have hw : addi (baseW F cnt) cnt (ix1 ⟨e, he⟩) = BitVec.ofNat 32 (bs cnt e + cn cnt e) := by
            show baseW F cnt (ix1 ⟨e, he⟩) + cnt (ix1 ⟨e, he⟩) = _
            rw [base_word cnt hc, cn_word cnt, word_add]
          rw [IntOp.cmpi_slt, hw, toInt_word _ (by omega), toInt_word _ (by omega)]
          exact_mod_cast h5
    have hz : ((List.finRange S131072.numel).countP fun n => decide (pn pos (S131072.rowMajor.symm n 0).val = r)) ≤ 1 := hn ⟨r, hr⟩
    have hb := IntOp.cmpi_sle.1 (IntOp.andi_eq_one.1 (h3 ⟨r, hr⟩)).1
    rw [hlive, hits_word pos hp hl, toInt_word _ (by show List.countP (fun n => decide (pn pos (S131072.rowMajor.symm n 0).val = r)) _ < _; omega)] at hb
    have h1' : ((1#1 : BitVec 1).setWidth 32).toInt = 1 := by decide
    rw [h1'] at hb
    have hpos : 0 < (List.finRange S131072.numel).countP fun n => decide (pn pos (S131072.rowMajor.symm n 0).val = r) := by
      have hb' : (1 : Int) ≤ (((List.finRange S131072.numel).countP fun n => decide (pn pos (S131072.rowMajor.symm n 0).val = r) : ℕ) : Int) := hb
      omega
    obtain ⟨n, -, hn'⟩ := List.countP_pos_iff.1 hpos
    exact ⟨(S131072.rowMajor.symm n 0).val, (S131072.rowMajor.symm n 0).isLt, of_decide_eq_true hn'⟩

end Cert.Routed

end
-- ==== Proof.Mask.lean ====
module

public import proofs.«01_k».proof.Proof.Pre

@[expose] public section

noncomputable section

/-! # The mask, read

An element the mask selects is in a row between some expert's first row and the next expert's. -/

namespace Cert.Routed

open Idealize.ShloMosaic Idealize.ShloMosaic.Routing Idealize.ShloMosaic.ValueIdx Cert.On_rows_in_use

variable {F : FTy → Type} [FloatOps F]

/-- The element's row, as the mask computes it. -/
theorem row_word (i : S1114112x128.Idx) :
    fn_floor_divide_1 (F := F) (iotaInDim S1114112x128 32 0) (constantI S_ 32 8#32) i = BitVec.ofNat 32 ((i 0).val / 8) := by
  have hi : (i 0).val < 1114112 := (i 0).isLt
  exact pyDiv_ap Facts.bcast_S_S1114112x128 (iotaInDim S1114112x128 32 0) (constantI S_ 32 8#32) i (a := (i 0).val) (b := 8) rfl rfl (by omega) (by omega) (by omega)

/-- A vector over the experts, repeated over every element. -/
theorem bcExpert (v : IVec S32 32) (j : S32x1114112x128.Idx) :
    broadcastInDim S32x1114112x128 ![0, 1, 2] Facts.bcast_S32x1x1_S32x1114112x128_0_1_2 (broadcastInDim S32x1x1 ![0] Facts.bcast_S32_S32x1x1_0 v) j
      = v (ix1 (j 0)) := by
  refine (broadcastInDim_apply _ Facts.bcast_S32x1x1_S32x1114112x128_0_1_2 _ j (ix3 (j 0) (0 : Fin 1) (0 : Fin 1)) fun a => ?_).trans
    (broadcastInDim_apply _ Facts.bcast_S32_S32x1x1_0 v _ (ix1 (j 0)) fun a => ?_)
  · match a with
    | ⟨0, _⟩ => rfl
    | ⟨1, _⟩ => rfl
    | ⟨2, _⟩ => rfl
  · match a with
    | ⟨0, _⟩ => rfl

/-- A word per element, repeated over the experts. -/
theorem bcElem (v : IVec S1114112x128 32) (j : S32x1114112x128.Idx) :
    broadcastInDim S32x1114112x128 ![0, 1, 2] Facts.bcast_S1x1114112x128_S32x1114112x128_0_1_2
      (broadcastInDim S1x1114112x128 ![1, 2] Facts.bcast_S1114112x128_S1x1114112x128_1_2 v) j = v (ix2 (j 1) (j 2)) := by
  refine (broadcastInDim_apply _ Facts.bcast_S1x1114112x128_S32x1114112x128_0_1_2 _ j (ix3 (0 : Fin 1) (j 1) (j 2)) fun a => ?_).trans
    (broadcastInDim_apply _ Facts.bcast_S1114112x128_S1x1114112x128_1_2 v _ (ix2 (j 1) (j 2)) fun a => ?_)
  · match a with
    | ⟨0, _⟩ => rfl
    | ⟨1, _⟩ => rfl
    | ⟨2, _⟩ => rfl
  · match a with
    | ⟨0, _⟩ => rfl
    | ⟨1, _⟩ => rfl

theorem mask_rows (A : FVec F S262144x128 .f32) (pos : IVec S32768x4 32) (cnt : IVec S32 32) (hc : ∀ e, e < 32 → cn cnt e ≤ 131072)
    (i : S1114112x128.Idx) (h : fn (F := F) A pos cnt i = 1#1) :
    ∃ e, e < 32 ∧ bs cnt e ≤ (i 0).val / 8 ∧ (i 0).val / 8 < bs cnt (e + 1) := by
  unfold fn fn_part1 at h
  obtain ⟨j, hd, hx⟩ := (reduce_ori _ _ _ _ rfl _).1 h
  obtain ⟨ha, hb⟩ := IntOp.andi_eq_one.1 hx
  have e1 : (j 1).val = (i 0).val := congrArg (fun z : S1114112x128.Idx => (z 0).val) hd
  have hi : (i 0).val < 1114112 := (i 0).isLt
  have hj : (j 0).val < 32 := (j 0).isLt
  have b1 := bs_le cnt hc (j 0).val (by omega)
  have b2 := bs_le cnt hc ((j 0).val + 1) (by omega)
  have hr : fn_floor_divide_1 (F := F) (iotaInDim S1114112x128 32 0) (constantI S_ 32 8#32) (ix2 (j 1) (j 2)) = BitVec.ofNat 32 ((i 0).val / 8) :=
    (row_word _).trans (congrArg (fun z => BitVec.ofNat 32 (z / 8)) e1)
  refine ⟨(j 0).val, hj, ?_, ?_⟩
  · have h1 := IntOp.cmpi_sle.1 ((congrArg₂ (fun a b => IntOp.cmpi .sle a b) ((bcExpert (baseW F cnt) j).trans (base_word cnt hc (j 0))) ((bcElem _ j).trans hr)).symm.trans ha)
    rw [toInt_word _ (by omega), toInt_word _ (by omega)] at h1
    exact_mod_cast h1
  · have h1 := IntOp.cmpi_slt.1 ((congrArg₂ (fun a b => IntOp.cmpi .slt a b) ((bcElem _ j).trans hr) ((bcExpert _ j).trans (end_word (F := F) cnt hc (j 0)))).symm.trans hb)
    rw [toInt_word _ (by omega), toInt_word _ (by omega)] at h1
    exact_mod_cast h1

end Cert.Routed

end
-- ==== Proof.Words.lean ====
module

public import proofs.«01_k».proof.Defs
public import proofs.«01_k».proof.Proof.Gen.KernelIdeal
public import proofs.«01_k».proof.Proof.Gen.KernelIdeal.Skeleton
public import Idealize.ShloMosaic.Lib.Routing.Words
public import Idealize.ShloMosaic.Lib.Routing.OpsSet
public import Idealize.ShloMosaic.Lib.LoopRemainder

@[expose] public section

noncomputable section

/-! # The index words of the dispatch kernel, as naturals

Every offset and trip count the kernel computes is the word of a small natural. -/

namespace Cert.KernelIdeal.Gen

open Cert.KernelIdeal
open Idealize.ShloMosaic Idealize.ShloMosaic.Routing

/-- The number of padding rows behind a region of `c` live rows. -/
def npad (c : ℕ) : ℕ := (256 - c % 256) % 256

theorem npad_lt (c : ℕ) : npad c < 256 := Nat.mod_lt _ (by decide)

/-- A loop from zero by ones up to the word of `n` has `n` trips. -/
theorem trips_word (n : ℕ) (hn : n < 2 ^ 31) : Scf.trips 0#32 (BitVec.ofNat 32 n) 1#32 = n := by
  unfold Scf.trips
  have h : (BitVec.ofNat 32 n).toInt = n := by
    rw [BitVec.toInt_eq_toNat_of_lt] <;> simp only [BitVec.toNat_ofNat] <;> omega
  rw [h]
  show Int.toNat (((n : ℤ) - 0 + 1 - 1) / 1) = n
  omega

theorem ok_word (n : ℕ) (hn : n < 2 ^ 31) : Scf.OK 0#32 (BitVec.ofNat 32 n) 1#32 := by
  unfold Scf.OK
  rw [trips_word n hn]
  refine ⟨by decide, ?_⟩
  show (0 : ℤ) + n * 1 < 2 ^ 31
  omega

theorem pad_words : ∀ r : Fin 256,
    (let v29 : BitVec 32 := BitVec.ofNat 32 r.val
     let v30 : BitVec 32 := Scalar.subi 256#32 v29
     let v33 : BitVec 32 := Scalar.remsi v30 256#32
     v33) = BitVec.ofNat 32 ((256 - r.val) % 256) := by
  decide +kernel

/-- The number of padding rows as the kernel computes it from a region's live rows. -/
theorem npad_word (c : ℕ) (hc : c < 2 ^ 31) : k0_t2_loop (BitVec.ofNat 32 c) = ⟨0#32, BitVec.ofNat 32 (npad c), 1#32⟩ := by
  have e1 : Scalar.remsi (BitVec.ofNat 32 c) 256#32 = BitVec.ofNat 32 (c % 256) := remsi_word _ hc (by decide) (by decide)
  have hm : c % 256 < 256 := Nat.mod_lt _ (by decide)
  have e2 : ∀ r : Fin 256, Scalar.select (Scalar.andi (Scalar.xori (Scalar.cmpi .slt (BitVec.ofNat 32 r.val) 0#32) (Scalar.cmpi .slt 256#32 0#32))
      (Scalar.cmpi .ne (BitVec.ofNat 32 r.val) 0#32)) (Scalar.addi (BitVec.ofNat 32 r.val) 256#32) (BitVec.ofNat 32 r.val) = BitVec.ofNat 32 r.val := by
    decide +kernel
  have e3 := pad_words ⟨c % 256, hm⟩
  have e4 : Scalar.select (Scalar.cmpi .eq 256#32 0#32) 1#32 256#32 = 256#32 := by decide
  dsimp only at e3
  have hp : (256 - c % 256) % 256 < 256 := Nat.mod_lt _ (by decide)
  have e5 := e2 ⟨_, hp⟩
  unfold k0_t2_loop npad
  dsimp only
  rw [Scalar.muli_divsi_one]
  rw [e4, e1, e2 ⟨_, hm⟩]
  dsimp only
  rw [e3, e5]
  simp only [Scalar.addi, Scalar.subi, IntOp.addi, IntOp.subi, BitVec.zero_add, BitVec.sub_zero]

/-- The number of padding rows behind `v` live rows, as the kernel adds it to its running total. -/
def padW (v19 : BitVec 32) : BitVec 32 :=
  let v20 : BitVec 1 := Scalar.cmpi .eq 256#32 0#32
  let v21 : BitVec 32 := Scalar.select v20 1#32 256#32
  let v22 : BitVec 32 := Scalar.remsi v19 v21
  let v23 : BitVec 1 := Scalar.cmpi .ne v22 0#32
  let v24 : BitVec 1 := Scalar.cmpi .slt v22 0#32
  let v25 : BitVec 1 := Scalar.cmpi .slt v21 0#32
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.subi 256#32 v29
  let v31 : BitVec 1 := Scalar.cmpi .eq 256#32 0#32
  let v32 : BitVec 32 := Scalar.select v31 1#32 256#32
  let v33 : BitVec 32 := Scalar.remsi v30 v32
  let v34 : BitVec 1 := Scalar.cmpi .ne v33 0#32
  let v35 : BitVec 1 := Scalar.cmpi .slt v33 0#32
  let v36 : BitVec 1 := Scalar.cmpi .slt v32 0#32
  let v37 : BitVec 1 := Scalar.xori v35 v36
  let v38 : BitVec 1 := Scalar.andi v37 v34
  let v39 : BitVec 32 := Scalar.addi v33 v32
  Scalar.select v38 v39 v33

theorem padW_word (c : ℕ) (hc : c < 2 ^ 31) : padW (BitVec.ofNat 32 c) = BitVec.ofNat 32 (npad c) := by
  have e1 : Scalar.remsi (BitVec.ofNat 32 c) 256#32 = BitVec.ofNat 32 (c % 256) := remsi_word _ hc (by decide) (by decide)
  have hm : c % 256 < 256 := Nat.mod_lt _ (by decide)
  have e2 : ∀ r : Fin 256, Scalar.select (Scalar.andi (Scalar.xori (Scalar.cmpi .slt (BitVec.ofNat 32 r.val) 0#32) (Scalar.cmpi .slt 256#32 0#32))
      (Scalar.cmpi .ne (BitVec.ofNat 32 r.val) 0#32)) (Scalar.addi (BitVec.ofNat 32 r.val) 256#32) (BitVec.ofNat 32 r.val) = BitVec.ofNat 32 r.val := by
    decide +kernel
  have e3 := pad_words ⟨c % 256, hm⟩
  have e4 : Scalar.select (Scalar.cmpi .eq 256#32 0#32) 1#32 256#32 = 256#32 := by decide
  dsimp only at e3
  have hp : (256 - c % 256) % 256 < 256 := Nat.mod_lt _ (by decide)
  have e5 := e2 ⟨_, hp⟩
  unfold padW npad
  dsimp only
  rw [e4, e1, e2 ⟨_, hm⟩]
  dsimp only
  rw [e3, e5]

theorem t2_trips (c : ℕ) (hc : c < 2 ^ 31) : (k0_t2_loop (BitVec.ofNat 32 c)).trips = npad c := by
  rw [npad_word c hc]; exact trips_word _ (lt_trans (npad_lt c) (by decide))

theorem t2_ok (c : ℕ) (hc : c < 2 ^ 31) : (k0_t2_loop (BitVec.ofNat 32 c)).OK := by
  rw [npad_word c hc]; exact ok_word _ (lt_trans (npad_lt c) (by decide))

theorem t3_trips (v : BitVec 32) : (k0_t3_loop v).trips = 0 := Scf.rem_trips _ _
theorem t3_ok (v : BitVec 32) : (k0_t3_loop v).OK := Scf.rem_ok _ _
theorem t5_trips (v : BitVec 32) : (k0_t5_loop v).trips = 0 := Scf.rem_trips _ _
theorem t5_ok (v : BitVec 32) : (k0_t5_loop v).OK := Scf.rem_ok _ _

theorem t4_loop_word (n : ℕ) : k0_t4_loop (BitVec.ofNat 32 n) = ⟨0#32, BitVec.ofNat 32 n, 1#32⟩ := by
  unfold k0_t4_loop
  dsimp only
  rw [Scalar.muli_divsi_one]
  simp only [Scalar.addi, Scalar.subi, IntOp.addi, IntOp.subi, BitVec.zero_add, BitVec.sub_zero]
theorem t4_trips (n : ℕ) (hn : n < 2 ^ 31) : (k0_t4_loop (BitVec.ofNat 32 n)).trips = n := by
  rw [t4_loop_word]; exact trips_word n hn
theorem t4_ok (n : ℕ) (hn : n < 2 ^ 31) : (k0_t4_loop (BitVec.ofNat 32 n)).OK := by
  rw [t4_loop_word]; exact ok_word n hn

theorem t1_trips : k0_t1_loop.trips = 32 := by decide
theorem t6_trips : k0_t6_loop.trips = 4096 := by decide
theorem t7_trips : k0_t7_loop.trips = 4096 := by decide

theorem chk1 (i : grid0.Coords) (c : ℕ) (hc : c < 2 ^ 31) : k0_chk1 i (BitVec.ofNat 32 c) :=
  ⟨fun _ => t2_ok c hc, fun _ => t3_ok _⟩

theorem chk3 (i : grid0.Coords) (n : ℕ) (hn : n < 2 ^ 31) : k0_chk3 i (BitVec.ofNat 32 n) :=
  ⟨fun _ => t4_ok n hn, fun _ => t5_ok _⟩

theorem off2_word (c b : ℕ) (k : Fin (k0_t2_loop (BitVec.ofNat 32 c)).trips) (h : 8 * (b + c + k.val) < 2 ^ 32) :
    k0_off2 (BitVec.ofNat 32 c) (BitVec.ofNat 32 b) k = ![8 * (b + c + k.val), 0] := by
  have e : (((BitVec.ofNat 32 b + BitVec.ofNat 32 c) + (0#32 + BitVec.ofNat 32 k.val * 1#32)) * 8#32).toNat = 8 * (b + c + k.val) := by
    simp only [BitVec.toNat_mul, BitVec.toNat_add, BitVec.toNat_ofNat]
    omega
  unfold k0_off2
  dsimp only
  simp only [Scalar.addi, Scalar.muli, IntOp.addi, IntOp.muli, Scf.iv]
  rw [e]

theorem mult2_word (c b : ℕ) (k : Fin (k0_t2_loop (BitVec.ofNat 32 c)).trips) (h : 8 * (b + c + k.val) < 2 ^ 32) :
    (k0_mult2 (BitVec.ofNat 32 c) (BitVec.ofNat 32 b) k).toNat = 8 * (b + c + k.val) := congrFun (off2_word c b k h) 0

theorem off5_word (r : ℕ) (h : 8 * r < 2 ^ 32) : k0_off5 (BitVec.ofNat 32 r) = ![8 * r, 0] := by
  have e : (BitVec.ofNat 32 r * 8#32).toNat = 8 * r := by
    simp only [BitVec.toNat_mul, BitVec.toNat_ofNat]
    omega
  unfold k0_off5
  dsimp only
  simp only [Scalar.muli, IntOp.muli]
  rw [e]

theorem mult10_word (r : ℕ) (h : 8 * r < 2 ^ 32) : (k0_mult10 (BitVec.ofNat 32 r)).toNat = 8 * r := congrFun (off5_word r h) 0

theorem chk4 (r : ℕ) (h : r < 139264) : k0_chk4 (BitVec.ofNat 32 r) := by
  refine ⟨by rw [mult10_word r (by omega)]; exact Dvd.intro _ rfl, ?_⟩
  rw [off5_word r (by omega)]
  intro a
  match a with
  | ⟨0, _⟩ => show 8 * r + 8 ≤ 1114112; omega
  | ⟨1, _⟩ => show 0 + 128 ≤ 128; omega

theorem chk2 (i : grid0.Coords) (c b : ℕ) (hc : c < 2 ^ 31) (h : b + c + npad c ≤ 139264) : k0_chk2 i (BitVec.ofNat 32 c) (BitVec.ofNat 32 b) := by
  have hk : ∀ k : Fin (k0_t2_loop (BitVec.ofNat 32 c)).trips, k.val < npad c := fun k => lt_of_lt_of_eq k.isLt (t2_trips c hc)
  refine ⟨fun k _ => ?_, fun k _ => ?_, fun k _ => ?_, fun k _ => ?_⟩
  · have := hk k
    rw [mult2_word c b k (by omega)]; exact Dvd.intro _ rfl
  · have := hk k
    rw [off2_word c b k (by omega)]
    intro a
    match a with
    | ⟨0, _⟩ => show 8 * (b + c + k.val) + 8 ≤ 1114112; omega
    | ⟨1, _⟩ => show 0 + 128 ≤ 128; omega
  · exact absurd (lt_of_lt_of_eq k.isLt (t3_trips _)) (Nat.not_lt_zero _)
  · exact absurd (lt_of_lt_of_eq k.isLt (t3_trips _)) (Nat.not_lt_zero _)

theorem off1_word (k : Fin k0_t1_loop.trips) : k0_off1 k = ![k.val] := by
  have hk : k.val < 32 := lt_of_lt_of_eq k.isLt t1_trips
  have e : (0#32 + BitVec.ofNat 32 k.val * 1#32).toNat = k.val := by
    simp only [BitVec.toNat_mul, BitVec.toNat_add, BitVec.toNat_ofNat]
    omega
  unfold k0_off1
  dsimp only
  simp only [Scf.iv, Scalar.indexCast]
  rw [e]

theorem off4_word (k : Fin k0_t6_loop.trips) : k0_off4 k = ![0, 0, k.val] := by
  have hk : k.val < 4096 := lt_of_lt_of_eq k.isLt t6_trips
  have e : (0#32 + BitVec.ofNat 32 k.val * 1#32).toNat = k.val := by
    simp only [BitVec.toNat_mul, BitVec.toNat_add, BitVec.toNat_ofNat]
    omega
  unfold k0_off4
  dsimp only
  simp only [Scf.iv, Scalar.indexCast]
  rw [e]

theorem div4_word (k : ℕ) (hk : k < 4096) :
    (let arg9 : BitVec 32 := BitVec.ofNat 32 k
     let v11 : BitVec 32 := Scalar.subi (Scalar.extui (Scalar.cmpi .sgt arg9 0#32)) (Scalar.extui (Scalar.cmpi .slt arg9 0#32))
     let v16 : BitVec 32 := Scalar.subi (Scalar.extui (Scalar.cmpi .sgt 4#32 0#32)) (Scalar.extui (Scalar.cmpi .slt 4#32 0#32))
     let v20 : BitVec 1 := Scalar.andi (Scalar.cmpi .ne v11 v16) (Scalar.cmpi .ne (Scalar.remsi arg9 4#32) 0#32)
     Scalar.select v20 (Scalar.subi (Scalar.divsi arg9 4#32) 1#32) (Scalar.divsi arg9 4#32)) = BitVec.ofNat 32 (k / 4) := by
  have : ∀ k : Fin 4096, (let arg9 : BitVec 32 := BitVec.ofNat 32 k.val
     let v11 : BitVec 32 := Scalar.subi (Scalar.extui (Scalar.cmpi .sgt arg9 0#32)) (Scalar.extui (Scalar.cmpi .slt arg9 0#32))
     let v16 : BitVec 32 := Scalar.subi (Scalar.extui (Scalar.cmpi .sgt 4#32 0#32)) (Scalar.extui (Scalar.cmpi .slt 4#32 0#32))
     let v20 : BitVec 1 := Scalar.andi (Scalar.cmpi .ne v11 v16) (Scalar.cmpi .ne (Scalar.remsi arg9 4#32) 0#32)
     Scalar.select v20 (Scalar.subi (Scalar.divsi arg9 4#32) 1#32) (Scalar.divsi arg9 4#32)) = BitVec.ofNat 32 (k.val / 4) := by
    decide +kernel
  exact this ⟨k, hk⟩

theorem off6_word (i : grid0.Coords) (k : Fin k0_t6_loop.trips) : k0_off6 i k = ![8 * (1024 * (i 0).val + k.val / 4), 0] := by
  have hk : k.val < 4096 := lt_of_lt_of_eq k.isLt t6_trips
  have hi : (i 0).val < 32 := (i 0).isLt
  have e : (0#32 + BitVec.ofNat 32 k.val * 1#32) = BitVec.ofNat 32 k.val := by
    rw [BitVec.zero_add, BitVec.mul_one]
  have d := div4_word k.val hk
  dsimp only at d
  have e' : ((BitVec.ofNat 32 (i 0).val * 1024#32 + BitVec.ofNat 32 (k.val / 4)) * 8#32).toNat = 8 * (1024 * (i 0).val + k.val / 4) := by
    simp only [BitVec.toNat_mul, BitVec.toNat_add, BitVec.toNat_ofNat]
    omega
  unfold k0_off6
  dsimp only
  simp only [Scf.iv]
  rw [e, d]
  simp only [Scalar.addi, Scalar.muli, IntOp.addi, IntOp.muli]
  rw [e']

end Cert.KernelIdeal.Gen
-- ==== Proof.Rows.lean ====
module

public import proofs.«01_k».proof.Proof.Words
public import Idealize.ShloMosaic.Lib.Pipeline.Regions
public import Idealize.ShloMosaic.Lib.Pipeline.Kit
public import Idealize.ShloMosaic.Lib.Pipeline.ValueKit
public import Idealize.ShloMosaic.Lib.QuiescentFlight
public import Idealize.ShloMosaic.Lib.StableHlo
public import Idealize.ShloMosaic.Lib.Tactic
public import Idealize.ShloMosaic.Lib.Batch

@[expose] public section

noncomputable section

/-! # Rows of the result, and a batch of row transfers

A row of the result is eight lines of 128 elements. A batch of transfers writes pairwise different rows; what it
leaves is one function of the contents before it. -/

namespace Cert.KernelIdeal.Disp

open Cert.KernelIdeal Cert.KernelIdeal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing Idealize.ShloMosaic.ValueKit

variable {F : FTy → Type} [FloatOps F]

/-- The ghost state: the pipeline's, and the counters of the batches. -/
abbrev UU : Type := UR sig nD τ × Counters

local notation "𝕄" => MT nD τ sig Unit (Elt F) ℕ UU ℕ

/-- The counters, inside the ghost state. -/
abbrev EC : UEmb Counters 𝕄 := countersEmb

/-- The eight lines of row `r` of the result. -/
def rowSet (r : ℕ) : Finset S1114112x128.Idx := Finset.univ.filter fun y => (y 0).val / 8 = r

theorem mem_rowSet {r : ℕ} {y : S1114112x128.Idx} : y ∈ rowSet r ↔ (y 0).val / 8 = r := by
  simp [rowSet]

theorem rowSet_disjoint {r r' : ℕ} (h : r ≠ r') : Disjoint (rowSet r) (rowSet r') := by
  rw [Finset.disjoint_left]; intro y h1 h2
  rw [mem_rowSet] at h1 h2; exact h (h1 ▸ h2)

/-- An element inside its row. -/
def inRow (y : S1114112x128.Idx) : S8x128.Idx := ix2 ⟨(y 0).val % 8, Nat.mod_lt _ (by decide)⟩ (y 1)

/-- The result's row `r`, as the kernel slices it. -/
theorem row_set (r : ℕ) (off : Fin 2 → ℕ) (hoff : off = ![8 * r, 0])
    (h : ∀ a, off a + S8x128.size a ≤ S1114112x128.size a) (hs) :
    ((Memref.whole main_v10).slice (Rect.unit (s := S1114112x128) off S8x128.size h) hs : Memref sig .tc .hbm S8x128 .f32).view.set
      = rowSet r := by
  subst hoff
  ext y
  rw [mem_rowSet]
  refine mem_set_slice_whole_iff main_v10 _ y (Rect.mem_set_unit.trans ?_)
  refine Iff.trans (Fin.forall_fin_two (p := fun a => (![8 * r, 0] : Fin 2 → ℕ) a ≤ (y a : ℕ) ∧ (y a : ℕ) < (![8 * r, 0] : Fin 2 → ℕ) a + S8x128.size a)) ?_
  have h1 : (y 1).val < 128 := (y 1).isLt
  show (8 * r ≤ (y 0).val ∧ (y 0).val < 8 * r + 8) ∧ (0 ≤ (y 1).val ∧ (y 1).val < 0 + 128) ↔ _
  omega

/-- A whole write, at an element the view names. -/
theorem write_at {κ : Kind} {sp} {s : Shape} {e : EltTy} {v : View sig κ sp s e} {x : s.Idx} {y : v.ty.Idx} (h : v.emb x = y)
    (f : v.ty.Contents (Elt F)) (w : s.Idx → Elt F e) :
    v.write (Elt F) f w Finset.univ y = _root_.cast (congrArg (Elt F) v.elt_eq.symm) (w x) := by
  subst h; exact View.write_emb_of_mem f w (Finset.mem_univ _)

/-- Row `r` written: an element of it is the payload's. -/
theorem row_write (r : ℕ) (off : Fin 2 → ℕ) (hoff : off = ![8 * r, 0])
    (h : ∀ a, off a + S8x128.size a ≤ S1114112x128.size a) (hs)
    (f : S1114112x128.Idx → Elt F .f32) (w : S8x128.Idx → Elt F .f32) (y : S1114112x128.Idx) (hy : y ∈ rowSet r) :
    ((Memref.whole main_v10).slice (Rect.unit (s := S1114112x128) off S8x128.size h) hs : Memref sig .tc .hbm S8x128 .f32).view.write
      (Elt F) f w Finset.univ y = w (inRow y) := by
  subst hoff
  rw [mem_rowSet] at hy
  have key : ∀ a : Fin 2, (![8 * r, 0] : Fin 2 → ℕ) a + (inRow y a).val = (y a).val := by
    rw [Fin.forall_fin_two]
    constructor
    · show 8 * r + (y 0).val % 8 = (y 0).val; omega
    · show 0 + (y 1).val = (y 1).val; omega
  have e : ((View.whole main_v10).slice (Rect.unit (s := S1114112x128) ![8 * r, 0] S8x128.size h)).emb (inRow y) = y :=
    funext fun a => Fin.ext ((view_emb_slice_whole_unit_val main_v10 _ _ _ _ _).trans (key a))
  exact write_at e f w

/-- Row `s` of the tokens, as the kernel slices it. -/
def tokRow (A : S262144x128.Idx → Elt F .f32) (s : ℕ) (hs : s < 32768) : S8x128.Idx → Elt F .f32 :=
  fun x => A (ix2 ⟨8 * s + (x 0).val, by have : (x 0).val < 8 := (x 0).isLt; show _ < 262144; omega⟩ (x 1))

theorem tok_read (s : ℕ) (hs : s < 32768) (off : Fin 2 → ℕ) (hoff : off = ![8 * s, 0])
    (h : ∀ a, off a + S8x128.size a ≤ S262144x128.size a) (hs')
    (A : S262144x128.Idx → Elt F .f32) :
    ((Memref.whole main_arg0).slice (Rect.unit (s := S262144x128) off S8x128.size h) hs' : Memref sig .tc .hbm S8x128 .f32).view.read
      (Elt F) A = tokRow A s hs := by
  subst hoff
  funext (x : S8x128.Idx)
  show A (((View.whole main_arg0).slice (Rect.unit (s := S262144x128) ![8 * s, 0] S8x128.size h)).emb x) = _
  have key : ∀ a : Fin 2, (![8 * s, 0] : Fin 2 → ℕ) a + (x a).val
      = ((ix2 ⟨8 * s + (x 0).val, by have : (x 0).val < 8 := (x 0).isLt; show _ < 262144; omega⟩ (x 1) : S262144x128.Idx) a).val := by
    rw [Fin.forall_fin_two]
    constructor
    · rfl
    · show 0 + (x 1).val = (x 1).val; omega
  exact congrArg A (funext fun a => Fin.ext ((view_emb_slice_whole_unit_val main_arg0 _ _ _ _ _).trans (key a)))

theorem zero_read (h : ∀ a, (![0, 0] : Fin 2 → ℕ) a + S8x128.size a ≤ S8x128.size a) (hs')
    (A : S8x128.Idx → Elt F .f32) :
    ((Memref.whole cc0_scratch0).slice (Rect.unit (s := S8x128) ![0, 0] S8x128.size h) hs' : Memref sig .tc .vmem S8x128 .f32).view.read
      (Elt F) A = A := by
  funext (x : S8x128.Idx)
  have key : ∀ a : Fin 2, (![0, 0] : Fin 2 → ℕ) a + (x a).val = (x a).val := by
    rw [Fin.forall_fin_two]
    constructor
    · show 0 + (x 0).val = (x 0).val; omega
    · show 0 + (x 1).val = (x 1).val; omega
  exact congrArg A (funext fun a => Fin.ext ((view_emb_slice_whole_unit_val cc0_scratch0 _ _ _ _ _).trans (key a)))

/-- What a batch leaves: row `dst t` at transfer `t`'s payload, everything else as it was. -/
def landed {n : ℕ} (dst : Fin n → ℕ) (pay : Fin n → S8x128.Idx → Elt F .f32) (f : S1114112x128.Idx → Elt F .f32) :
    S1114112x128.Idx → Elt F .f32 :=
  fun y => open Classical in if h : ∃ t, dst t = (y 0).val / 8 then pay h.choose (inRow y) else f y

theorem landed_hit {n : ℕ} {dst : Fin n → ℕ} (hinj : Function.Injective dst) (pay : Fin n → S8x128.Idx → Elt F .f32)
    (f : S1114112x128.Idx → Elt F .f32) (y : S1114112x128.Idx) (t : Fin n) (h : (y 0).val / 8 = dst t) :
    landed dst pay f y = pay t (inRow y) := by
  unfold landed
  have hx : ∃ t, dst t = (y 0).val / 8 := ⟨t, h.symm⟩
  rw [dif_pos hx, show hx.choose = t from hinj (hx.choose_spec.trans h)]

theorem landed_miss {n : ℕ} {dst : Fin n → ℕ} (pay : Fin n → S8x128.Idx → Elt F .f32)
    (f : S1114112x128.Idx → Elt F .f32) (y : S1114112x128.Idx) (h : ∀ t, dst t ≠ (y 0).val / 8) :
    landed dst pay f y = f y := by
  unfold landed
  rw [dif_neg (by push Not; exact h)]

/-- The result's location on core `c`. -/
abbrev outLoc (c : Dev nD) : Loc nD τ sig := (c : Thread nD τ).loc main_v10

variable {n : ℕ} (c : Dev nD) (dst : Fin n → ℕ) (ℓ : Loc nD τ sig) (K : Fin n → Finset (Idx ℓ)) (A : Buf (Elt F) ℓ)

/-- One transfer's pieces: its row of the result, and its token of the source block. -/
def piece (f : S1114112x128.Idx → Elt F .f32) (t : Fin n) : sProp 𝕄 :=
  iprop((outLoc c ↦[rowSet (dst t)]{fullShare} f) ∗ (ℓ ↦[K t]{Transfers.shareTokN fullShare t.val} A))

/-- The pieces from transfer `k` on: those of transfer `k`, and those after it. -/
theorem pending_open (f : S1114112x128.Idx → Elt F .f32) (k : ℕ) (hk : k < n) :
    bigSep (Transfers.pending k) (piece (F := F) c dst ℓ K A f)
      ⊢ (iprop(((outLoc c ↦[rowSet (dst ⟨k, hk⟩)]{fullShare} f) ∗ (ℓ ↦[K ⟨k, hk⟩]{Transfers.shareTokN fullShare k} A))
        ∗ bigSep (Transfers.pending (k + 1)) (piece (F := F) c dst ℓ K A f)) : sProp 𝕄) :=
  Entails.of_eq (Transfers.bigSep_pending_step _ k hk)

instance piece_storable (f : S1114112x128.Idx → Elt F .f32) (t : Fin n) :
    Storable (upEmb : UEmb _ 𝕄) (piece (F := F) c dst ℓ K A f t) := by unfold piece; infer_instance

/-- What no transfer of the batch touches. -/
def rest (f : S1114112x128.Idx → Elt F .f32) : sProp 𝕄 :=
  iprop((outLoc c ↦[Finset.univ \ Finset.univ.biUnion fun t => rowSet (dst t)]{fullShare} f)
    ∗ (ℓ ↦{Transfers.shareDrop fullShare n} A)
    ∗ bigSep Finset.univ fun t : Fin n => ℓ ↦[Finset.univ \ K t]{Transfers.shareTokN fullShare t.val} A)

theorem split_batch (hinj : Function.Injective dst) (f : S1114112x128.Idx → Elt F .f32) :
    (iprop((outLoc c ↦{fullShare} f) ∗ (ℓ ↦{fullShare} A)) : sProp 𝕄)
      ⊣⊢ iprop(bigSep Finset.univ (piece (F := F) c dst ℓ K A f) ∗ rest (F := F) c dst ℓ K A f) := by
  have h1 : (outLoc c ↦{fullShare} f : sProp 𝕄)
      ⊣⊢ iprop((bigSep Finset.univ fun t => outLoc c ↦[rowSet (dst t)]{fullShare} f)
        ∗ (outLoc c ↦[Finset.univ \ Finset.univ.biUnion fun t => rowSet (dst t)]{fullShare} f)) := by
    have e := pointsTo_biUnion (ℓ := outLoc c) (q := fullShare) (f := f) (Ix := Unit) (Val := Elt F) (Name := ℕ) (U := UU) (Lvl := ℕ)
      (Finset.univ : Finset (Fin n)) (fun t => rowSet (dst t))
      (fun t _ t' _ hne => rowSet_disjoint fun e => hne (hinj e))
    rw [← e]
    exact pointsTo_split_subset (Finset.subset_univ _)
  have h2 : (ℓ ↦{fullShare} A : sProp 𝕄)
      ⊣⊢ iprop((ℓ ↦{Transfers.shareDrop fullShare n} A)
        ∗ (bigSep Finset.univ fun t : Fin n => ℓ ↦[K t]{Transfers.shareTokN fullShare t.val} A)
        ∗ bigSep Finset.univ fun t : Fin n => ℓ ↦[Finset.univ \ K t]{Transfers.shareTokN fullShare t.val} A) := by
    have e : (bigSep (Finset.range n) (fun i => ℓ ↦{Transfers.shareTokN fullShare i} A) : sProp 𝕄)
        = bigSep Finset.univ fun t : Fin n => (ℓ ↦{Transfers.shareTokN fullShare t.val} A : sProp 𝕄) := by
      rw [show Finset.range n = (Finset.univ : Finset (Fin n)).map ⟨fun t => t.val, Fin.val_injective⟩ from by
        ext i; simp only [Finset.mem_range, Finset.mem_map, Finset.mem_univ, true_and, Function.Embedding.coeFn_mk]
        exact ⟨fun h => ⟨⟨i, h⟩, rfl⟩, fun ⟨t, ht⟩ => ht ▸ t.isLt⟩, BI.bigSep_map]
      rfl
    have e2 := BI.bigSep_sep (Finset.univ : Finset (Fin n)) (fun t => (ℓ ↦[K t]{Transfers.shareTokN fullShare t.val} A : sProp 𝕄))
      (fun t => (ℓ ↦[Finset.univ \ K t]{Transfers.shareTokN fullShare t.val} A : sProp 𝕄))
    rw [show (iprop((bigSep Finset.univ fun t : Fin n => ℓ ↦[K t]{Transfers.shareTokN fullShare t.val} A)
        ∗ bigSep Finset.univ fun t : Fin n => ℓ ↦[Finset.univ \ K t]{Transfers.shareTokN fullShare t.val} A) : sProp 𝕄) = _ from e2.symm]
    refine ⟨(Transfers.pointsTo_toks_range fullShare n).1.trans ?_, Entails.trans ?_ (Transfers.pointsTo_toks_range fullShare n).2⟩
    · rw [e]
      exact sep_mono_right (BI.bigSep_mono fun t _ => (pointsTo_split_subset (Finset.subset_univ _)).1)
    · rw [e]
      exact sep_mono_right (BI.bigSep_mono fun t _ => (pointsTo_split_subset (Finset.subset_univ _)).2)
  have h3 : bigSep Finset.univ (piece (F := F) c dst ℓ K A f)
      = iprop((bigSep Finset.univ fun t => outLoc c ↦[rowSet (dst t)]{fullShare} f)
        ∗ (bigSep Finset.univ fun t : Fin n => ℓ ↦[K t]{Transfers.shareTokN fullShare t.val} A)) := by
    unfold piece; exact BI.bigSep_sep _ _ _
  rw [h3]; unfold rest
  constructor
  · iintro ⟨Ho, Hs⟩
    ihave Ho := h1.1 $$ Ho
    ihave Hs := h2.1 $$ Hs
    icases Ho with ⟨Ho1, Ho2⟩
    icases Hs with ⟨Hs1, Hs2, Hs3⟩
    isplitl [Ho1 Hs2]
    · isplitl [Ho1] <;> iassumption
    isplitl [Ho2]; · iexact Ho2
    isplitl [Hs1] <;> iassumption
  · iintro ⟨⟨Ho1, Hs2⟩, Ho2, Hs1, Hs3⟩
    isplitl [Ho1 Ho2]
    · iapply h1.2
      isplitl [Ho1] <;> iassumption
    · iapply h2.2
      isplitl [Hs1]; · iexact Hs1
      isplitl [Hs2] <;> iassumption

/-- What no transfer touches is the same after the batch. -/
theorem rest_landed (pay : Fin n → S8x128.Idx → Elt F .f32) (f : S1114112x128.Idx → Elt F .f32) :
    rest (F := F) c dst ℓ K A f = rest (F := F) c dst ℓ K A (landed dst pay f) := by
  unfold rest
  rw [pointsTo_congr (ℓ := outLoc c) (g := landed dst pay f)]
  intro y hy
  rw [landed_miss]
  intro t ht
  rw [Finset.mem_sdiff] at hy
  exact hy.2 (Finset.mem_biUnion.2 ⟨t, Finset.mem_univ _, mem_rowSet.2 ht.symm⟩)

end Cert.KernelIdeal.Disp
end
-- ==== Proof.Loops.lean ====
module

public import proofs.«01_k».proof.Proof.Rows
public import proofs.«01_k».proof.Proof.Gen.KernelIdeal.Loops

@[expose] public section

noncomputable section

/-! # The kernel's loops

The loop that starts the token rows' transfers and the loop that waits for them; the loops over the experts that
start the zero rows' transfers, and the loop that waits for these. -/

namespace Cert.KernelIdeal.Disp

open Cert.KernelIdeal Cert.KernelIdeal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing Idealize.ShloMosaic.ValueKit

variable {F : FTy → Type} [FloatOps F]

local notation "𝕄" => MT nD τ sig Unit (Elt F) ℕ UU ℕ

abbrev 𝒱₀ : Variants := Variants.none

/-- A rule applied by hand leaves its continuation applied, `(Prog.ret a).bind k`: the next statement is `k a`. -/
theorem ret_bind' {E : Type → Type} {α β : Type} (a : α) (k : α → Prog E β) : (Prog.ret a).bind k = k a := rfl

/-- One row's credit on the transfers' semaphores. -/
abbrev NN : ℕ := RefSig.tileCredit S8x128 .f32

theorem NN_pos : 0 < NN := by decide

/-- The positions' word `k` of the point's block. -/
theorem pos_word (M : Memref sig .tc .smem S1x1x4096 .i32) (c : Dev nD) (g : Buf (Elt F) (M.view.loc (c : Thread nD τ)))
    (k : Fin 4096) (off : Fin 3 → ℕ) (hoff : off = ![0, 0, k.val]) (h : ∀ a, off a + S1x1x1.size a ≤ S1x1x4096.size a) (h1) :
    View.readAt (Elt F) M.view (Rect.unit (s := S1x1x4096) off S1x1x1.size h).toLoadRect g (Shape.Idx.first h1)
      = M.view.read (Elt F) g (ix3 0 0 k) := by
  subst hoff
  show M.view.read (Elt F) g ((Rect.unit (s := S1x1x4096) ![0, 0, k.val] S1x1x1.size h).emb _) = _
  have key : ∀ a : Fin 3, (![0, 0, k.val] : Fin 3 → ℕ) a + 0 = ((ix3 0 0 k : S1x1x4096.Idx) a).val := by
    intro a
    match a with
    | 0 => rfl
    | 1 => rfl
    | 2 => rfl
  refine congrArg (M.view.read (Elt F) g) (funext fun a => Fin.ext ?_)
  refine (rect_emb_unit_val _ _ _ _ _).trans (Eq.trans ?_ (key a))
  congr 1

/-- Word `k` of a table of 32. -/
theorem tab_word (b : Memref sig .tc .smem S32 .i32) (c : Dev nD) (g : Buf (Elt F) (b.view.loc (c : Thread nD τ)))
    (k : Fin 32) (off : Fin 1 → ℕ) (hoff : off = ![k.val]) (h : ∀ a, off a + S1.size a ≤ S32.size a) (h1) :
    View.readAt (Elt F) b.view (Rect.unit (s := S32) off S1.size h).toLoadRect g (Shape.Idx.first h1)
      = b.view.read (Elt F) g (ix1 k) := by
  subst hoff
  show b.view.read (Elt F) g ((Rect.unit (s := S32) ![k.val] S1.size h).emb _) = _
  have key : ∀ a : Fin 1, (![k.val] : Fin 1 → ℕ) a + 0 = ((ix1 k : S32.Idx) a).val := by
    intro a
    match a with
    | 0 => rfl
  refine congrArg (b.view.read (Elt F) g) (funext fun a => Fin.ext ?_)
  refine (rect_emb_unit_val _ _ _ _ _).trans (Eq.trans ?_ (key a))
  congr 1

/-! ## The token rows -/

section Rows

variable (c : Dev nD) (i : grid0.Coords) (M : Memref sig .tc .smem S1x1x4096 .i32) (hM : M.IsWhole)
  (g : Buf (Elt F) (M.view.loc (c : Thread nD τ))) (p : ℕ → ℕ) (A : S262144x128.Idx → Elt F .f32) (f : S1114112x128.Idx → Elt F .f32)

/-- The source slice of pair `t` of the point's block. -/
def srcRow (t : Fin k0_t6_loop.trips) : Memref sig .tc .hbm S8x128 .f32 :=
  (Memref.whole main_arg0).slice (Rect.unit (s := S262144x128) (k0_off6 i t) S8x128.size (k0_off6_inb i t)) (fun _ => rfl)

/-- The tokens' location. -/
abbrev tokLoc (c : Dev nD) : Loc nD τ sig := (c : Thread nD τ).loc main_arg0

def dst6 (p : ℕ → ℕ) (t : Fin k0_t6_loop.trips) : ℕ := p t.val
def K6 (i : grid0.Coords) (c : Dev nD) (t : Fin k0_t6_loop.trips) : Finset (Idx (tokLoc c)) := (srcRow i t).view.set

/-- The pair's token row. -/
theorem tok_lt (t : Fin k0_t6_loop.trips) : 1024 * (i 0).val + t.val / 4 < 32768 := by
  have h : t.val < 4096 := lt_of_lt_of_eq t.isLt t6_trips
  have h0 : (i 0).val < 32 := (i 0).isLt
  omega

def pay6 (i : grid0.Coords) (A : S262144x128.Idx → Elt F .f32) (t : Fin k0_t6_loop.trips) : S8x128.Idx → Elt F .f32 :=
  tokRow A (1024 * (i 0).val + t.val / 4) (tok_lt i t)

/-- The token batch with `k` of its transfers started, beside the positions. -/
abbrev rowsAt (k : ℕ) : sProp 𝕄 :=
  iprop((M.view.loc (c : Thread nD τ) ↦[M.view.set]{fullShare} g)
    ∗ Transfers.Batch (EC (F := F)) (c : Thread nD τ) (.dma cc0_scratch1.sem) () NN
        (piece (F := F) c (dst6 p) (tokLoc c) (K6 i c) A (landed (dst6 p) (pay6 i A) f)) k 0
    ∗ bigSep (Transfers.pending k) (piece (F := F) c (dst6 p) (tokLoc c) (K6 i c) A f))

/-- The token batch all started, `k` rows' credit taken off it. -/
abbrev rowsDrain (k : ℕ) : sProp 𝕄 :=
  iprop((∃ W, owes (c : Thread nD τ) (0 : CellTallies nD τ sig Unit) W)
    ∗ Transfers.Batch (EC (F := F)) (c : Thread nD τ) (.dma cc0_scratch1.sem) () NN
        (piece (F := F) c (dst6 p) (tokLoc c) (K6 i c) A (landed (dst6 p) (pay6 i A) f)) k0_t6_loop.trips (k * NN))

set_option warn.classDefReducibility false in
/-- After `k` starts: `k` transfers in the batch, the rest of the rows still in hand. -/
@[sl_loop] def loopInv_t6 (hX : ∀ k : Fin 4096, M.view.read (Elt F) g (ix3 0 0 k) = BitVec.ofNat 32 (p k.val)) (hp : ∀ k, k < 4096 → p k < 139264)
    (hinj : Function.Injective (dst6 p)) :
    LoopInvTy_k0_t6 (F := F) Unit ℕ UU ℕ 𝒱₀ c none Set.univ i (Memref.whole main_arg2) (Memref.isWhole_whole _)
      (Memref.whole main_v8) (Memref.isWhole_whole _) M hM (Memref.whole main_arg0) (Memref.isWhole_whole _)
      (Memref.whole main_v10) (Memref.isWhole_whole _) (Memref.whole cc0_scratch0) (Memref.isWhole_whole _) cc0_scratch1 cc0_scratch2 where
  inv k _ := rowsAt c i M g p A f k
  step k acc := by
    iintro ⟨HM, HB, HP⟩
    sl_unfold [k0_t6_body]
    sl_exec
    have hk : k.val < 4096 := lt_of_lt_of_eq k.isLt t6_trips
    have hv : loopInv_t6.sl.r c M g k = BitVec.ofNat 32 (p k.val) := by
      unfold loopInv_t6.sl.r
      exact (pos_word M c g ⟨k.val, hk⟩ _ (off4_word k) _ _).trans (hX ⟨k.val, hk⟩)
    generalize loopInv_t6.sl.r c M g k = v at hv
    subst hv
    have hk5 : 8 * p k.val < 2 ^ 32 := by have := hp _ hk; omega
    have hc4 := chk4 (p k.val) (hp _ hk)
    sl_exec
    ihave HP := (pending_open (F := F) c (dst6 p) (tokLoc c) (K6 i c) A f k.val k.isLt) $$ HP
    icases HP with ⟨⟨Hd, Hs⟩, HP⟩
    iapply (Transfers.wp_dmaBatch (EC (F := F)) 𝒱₀ (c : Thread nD τ) none
      (src := srcRow i k)
      (dst := (Memref.whole main_v10).slice (Rect.unit (s := S1114112x128) (k0_off5 (BitVec.ofNat 32 (p k.val))) S8x128.size
        (k0_off5_inb _ hc4)) (fun _ => rfl))
      () NN rfl (Sd := rowSet (dst6 p k)) (row_set _ _ (off5_word _ hk5) _ _).le
      (D := piece (F := F) c (dst6 p) (tokLoc c) (K6 i c) A (landed (dst6 p) (pay6 i A) f)) (j := k.val) (u := 0) k.isLt (Nat.zero_le _)
      ?hD) $$ [Hd Hs HB]
    case hD =>
      refine sep_mono (Entails.of_eq (pointsTo_congr fun y hy => ?_)) .rfl
      refine (row_write (F := F) (p k.val) _ (off5_word _ hk5) _ _ f _ y hy).trans ?_
      rw [landed_hit hinj _ _ y k (mem_rowSet.1 hy)]
      rw [ReadAs.apply_same]
      exact congrFun (tok_read (F := F) _ (tok_lt i k) _ (off6_word i k) _ (fun _ => rfl) A) (inRow y)
    · isplitl [Hs]; · iexact Hs
      isplitl [Hd]; · iexact Hd
      iexact HB
    iintro HB
    simp only [ret_bind']
    sl_step
    isplitl [HM]; · iexact HM
    isplitl [HB]; · iexact HB
    iexact HP

set_option warn.classDefReducibility false in
/-- After `k` waits: `k` rows' credit taken off the batch. -/
def loopInv_t7 :
    LoopInvTy_k0_t7 (F := F) Unit ℕ UU ℕ 𝒱₀ c none Set.univ i (Memref.whole main_arg2) (Memref.isWhole_whole _)
      (Memref.whole main_v8) (Memref.isWhole_whole _) M hM (Memref.whole main_arg0) (Memref.isWhole_whole _)
      (Memref.whole main_v10) (Memref.isWhole_whole _) (Memref.whole cc0_scratch0) (Memref.isWhole_whole _) cc0_scratch1 cc0_scratch2 where
  inv k _ := rowsDrain c i p A f k
  step k acc := by
    iintro ⟨⟨%W, HO⟩, HB⟩
    sl_unfold [k0_t7_body]
    have hk : k.val * NN + 1 * NN ≤ NN * k0_t6_loop.trips := by
      have h : k.val + 1 ≤ k0_t6_loop.trips := by
        have := lt_of_lt_of_eq k.isLt t7_trips
        rw [t6_trips]; exact this
      rw [← Nat.add_mul, Nat.mul_comm NN]
      exact Nat.mul_le_mul_right _ h
    iapply (Transfers.wp_waitBatchMul (EC (F := F)) 𝒱₀ (c : Thread nD τ) none () (N := NN) 1 (Nat.one_mul _).symm (u := k.val * NN) hk) $$ [HB HO]
    · isplitl [HB] <;> iassumption
    iintro ⟨HB, HO⟩
    simp only [ret_bind']
    sl_step
    isplitl [HO]; · iexists _; iexact HO
    rw [Nat.add_mul k.val 1 NN]
    iexact HB

end Rows

/-! ## The zero rows -/

/-- The padding rows before expert `e`'s. -/
def before (cn : ℕ → ℕ) (e : ℕ) : ℕ := ∑ j ∈ Finset.range e, npad (cn j)

theorem before_succ (cn : ℕ → ℕ) (e : ℕ) : before cn (e + 1) = before cn e + npad (cn e) := Finset.sum_range_succ _ _

theorem before_mono (cn : ℕ → ℕ) : Monotone (before cn) :=
  monotone_nat_of_le_succ fun e => by rw [before_succ]; omega

/-- The result's row of zero transfer `t`. -/
def zrow (cn bs : ℕ → ℕ) (t : ℕ) : ℕ :=
  bs (Nat.findGreatest (fun e => before cn e ≤ t) 31) + cn (Nat.findGreatest (fun e => before cn e ≤ t) 31)
    + (t - before cn (Nat.findGreatest (fun e => before cn e ≤ t) 31))

theorem zrow_at (cn bs : ℕ → ℕ) (e r : ℕ) (he : e < 32) (hr : r < npad (cn e)) : zrow cn bs (before cn e + r) = bs e + cn e + r := by
  have h : Nat.findGreatest (fun e' => before cn e' ≤ before cn e + r) 31 = e := by
    rw [Nat.findGreatest_eq_iff]
    refine ⟨by omega, fun _ => Nat.le_add_right _ _, fun {n} hn _ h => ?_⟩
    have := before_mono cn (show e + 1 ≤ n from hn)
    rw [before_succ] at this
    omega
  unfold zrow
  rw [h]; omega

theorem zrow_cases (cn : ℕ → ℕ) (n t : ℕ) (ht : t < before cn n) : ∃ e r, e < n ∧ r < npad (cn e) ∧ t = before cn e + r := by
  induction n with
  | zero => exact absurd ht (Nat.not_lt_zero _)
  | succ n ih =>
    by_cases h : t < before cn n
    · obtain ⟨e, r, he, hr, h⟩ := ih h
      exact ⟨e, r, by omega, hr, h⟩
    · rw [before_succ] at ht
      exact ⟨n, t - before cn n, by omega, by omega, by omega⟩

/-- Every expert's region, padding included, ends before the next one's begins. -/
def Apart (cn bs : ℕ → ℕ) : Prop := ∀ e e', e < e' → e' < 32 → bs e + cn e + npad (cn e) ≤ bs e'

def dstZ (cn bs : ℕ → ℕ) (t : Fin (before cn 32)) : ℕ := zrow cn bs t.val

theorem dstZ_inj {cn bs : ℕ → ℕ} (h : Apart cn bs) : Function.Injective (dstZ cn bs) := by
  intro t t' ht
  obtain ⟨e, r, he, hr, h1⟩ := zrow_cases cn 32 t.val t.isLt
  obtain ⟨e', r', he', hr', h2⟩ := zrow_cases cn 32 t'.val t'.isLt
  unfold dstZ at ht
  rw [h1, h2, zrow_at _ _ _ _ he hr, zrow_at _ _ _ _ he' hr'] at ht
  rcases lt_trichotomy e e' with hlt | heq | hgt
  · have := h e e' hlt he'; omega
  · subst heq; exact Fin.ext (by omega)
  · have := h e' e hgt he; omega

theorem before_le (cn : ℕ → ℕ) (e : ℕ) (he : e ≤ 32) : before cn e ≤ 8160 := by
  have h : ∀ n, before cn n ≤ n * 255 := fun n => by
    induction n with
    | zero => exact Nat.le_refl _
    | succ n ih => rw [before_succ]; have := npad_lt (cn n); omega
  have := h e; omega

section Zeros

variable (c : Dev nD) (i : grid0.Coords) (h1 : k0_cond1 i = 1#1) (M : Memref sig .tc .smem S1x1x4096 .i32) (hM : M.IsWhole)
  (cn bs : ℕ → ℕ) (Z : S8x128.Idx → Elt F .f32) (f : S1114112x128.Idx → Elt F .f32)

/-- The zero block's location, and the slice of it every zero transfer reads. -/
abbrev zLoc (c : Dev nD) : Loc nD τ sig := (c : Thread nD τ).loc cc0_scratch0
def zSlice : Memref sig .tc .vmem S8x128 .f32 :=
  (Memref.whole cc0_scratch0).slice (Rect.unit (s := S8x128) ![0, 0] S8x128.size inb_S8x128_S8x128_0_0) (fun _ => rfl)
def KZ (cn : ℕ → ℕ) (c : Dev nD) (_ : Fin (before cn 32)) : Finset (Idx (zLoc c)) := zSlice.view.set

/-- The zero batch with `k` of its transfers started. -/
abbrev zeroAt (k : ℕ) : sProp 𝕄 :=
  iprop(Transfers.Batch (EC (F := F)) (c : Thread nD τ) (.dma cc0_scratch2.sem) () NN
        (piece (F := F) c (dstZ cn bs) (zLoc c) (KZ cn c) Z (landed (dstZ cn bs) (fun _ => Z) f)) k 0
    ∗ bigSep (Transfers.pending k) (piece (F := F) c (dstZ cn bs) (zLoc c) (KZ cn c) Z f))

set_option warn.classDefReducibility false in
/-- One expert's zero rows: after `k` starts, `k` more transfers in the batch. -/
def loopInv_t2 (hap : Apart cn bs) (e : ℕ) (he : e < 32) (hc : cn e < 2 ^ 31) (hb : bs e + cn e + npad (cn e) ≤ 139264)
    (hw1 : k0_chk1 i (BitVec.ofNat 32 (cn e))) (hw2 : k0_chk2 i (BitVec.ofNat 32 (cn e)) (BitVec.ofNat 32 (bs e))) :
    LoopInvTy_k0_t2 (F := F) Unit ℕ UU ℕ 𝒱₀ c none Set.univ i (Memref.whole main_arg2) (Memref.isWhole_whole _)
      (Memref.whole main_v8) (Memref.isWhole_whole _) M hM (Memref.whole main_arg0) (Memref.isWhole_whole _)
      (Memref.whole main_v10) (Memref.isWhole_whole _) (Memref.whole cc0_scratch0) (Memref.isWhole_whole _) cc0_scratch1 cc0_scratch2
      h1 (BitVec.ofNat 32 (cn e)) hw1 (BitVec.ofNat 32 (bs e)) hw2 0#32 where
  inv k _ := zeroAt c cn bs Z f (before cn e + k)
  step k acc := by
    iintro ⟨HB, HP⟩
    have hk : k.val < npad (cn e) := lt_of_lt_of_eq k.isLt (t2_trips _ hc)
    have hkn : before cn e + k.val < before cn 32 := by
      have := before_mono cn (show e + 1 ≤ 32 from he)
      rw [before_succ] at this; omega
    have hrow : dstZ cn bs ⟨before cn e + k.val, hkn⟩ = bs e + cn e + k.val := zrow_at cn bs e k.val he hk
    have h8 : 8 * (bs e + cn e + k.val) < 2 ^ 32 := by omega
    sl_unfold [k0_t2_body]
    ihave HP := (pending_open (F := F) c (dstZ cn bs) (zLoc c) (KZ cn c) Z f _ hkn) $$ HP
    icases HP with ⟨⟨Hd, Hs⟩, HP⟩
    iapply (Transfers.wp_dmaBatch (EC (F := F)) 𝒱₀ (c : Thread nD τ) none
      (src := zSlice)
      (dst := (Memref.whole main_v10).slice (Rect.unit (s := S1114112x128) (k0_off2 (BitVec.ofNat 32 (cn e)) (BitVec.ofNat 32 (bs e)) k) S8x128.size
        (k0_off2_inb i _ _ hw2 k h1)) (fun _ => rfl))
      () NN rfl (Sd := rowSet (dstZ cn bs ⟨before cn e + k.val, hkn⟩))
      ((row_set _ _ (off2_word _ _ k h8) _ _).trans (congrArg rowSet hrow.symm)).le
      (D := piece (F := F) c (dstZ cn bs) (zLoc c) (KZ cn c) Z (landed (dstZ cn bs) (fun _ => Z) f)) (j := before cn e + k.val) (u := 0) hkn (Nat.zero_le _)
      ?hD) $$ [Hd Hs HB]
    case hD =>
      refine sep_mono (Entails.of_eq (pointsTo_congr fun y hy => ?_)) .rfl
      refine (row_write (F := F) _ _ (off2_word _ _ k h8) _ _ f _ y (hrow ▸ hy)).trans ?_
      rw [landed_hit (dstZ_inj hap) _ _ y ⟨before cn e + k.val, hkn⟩ (mem_rowSet.1 hy)]
      rw [ReadAs.apply_same]
      exact congrFun (zero_read (F := F) _ (fun _ => rfl) Z) (inRow y)
    · isplitl [Hs]; · iexact Hs
      isplitl [Hd]; · iexact Hd
      iexact HB
    iintro HB
    simp only [ret_bind']
    sl_step
    isplitl [HB]; · iexact HB
    iexact HP

/-- The zero batch with `k` experts' transfers started, their number carried, beside the two tables. -/
abbrev expertsAt (C : Buf (Elt F) ((Memref.whole main_arg2).view.loc (c : Thread nD τ))) (B : Buf (Elt F) ((Memref.whole main_v8).view.loc (c : Thread nD τ)))
    (k : ℕ) (acc : BitVec 32) : sProp 𝕄 :=
  iprop(⌜acc = BitVec.ofNat 32 (before cn k)⌝
    ∗ ((Memref.whole main_arg2).view.loc (c : Thread nD τ) ↦[(Memref.whole main_arg2).view.set]{fullShare} C)
    ∗ ((Memref.whole main_v8).view.loc (c : Thread nD τ) ↦[(Memref.whole main_v8).view.set]{fullShare} B)
    ∗ Transfers.Batch (EC (F := F)) (c : Thread nD τ) (.dma cc0_scratch2.sem) () NN
        (piece (F := F) c (dstZ cn bs) (zLoc c) (KZ cn c) Z (landed (dstZ cn bs) (fun _ => Z) f)) (before cn k) 0
    ∗ bigSep (Transfers.pending (before cn k)) (piece (F := F) c (dstZ cn bs) (zLoc c) (KZ cn c) Z f))

set_option warn.classDefReducibility false in
/-- After `k` experts: their padding rows' transfers in the batch, their number carried. -/
def loopInv_t1 (hap : Apart cn bs) (hc : ∀ e, e < 32 → cn e < 2 ^ 31) (hb : ∀ e, e < 32 → bs e + cn e + npad (cn e) ≤ 139264)
    (C : Buf (Elt F) ((Memref.whole main_arg2).view.loc (c : Thread nD τ))) (B : Buf (Elt F) ((Memref.whole main_v8).view.loc (c : Thread nD τ)))
    (hC : ∀ e : Fin 32, (Memref.whole main_arg2).view.read (Elt F) C (ix1 e) = BitVec.ofNat 32 (cn e.val))
    (hB : ∀ e : Fin 32, (Memref.whole main_v8).view.read (Elt F) B (ix1 e) = BitVec.ofNat 32 (bs e.val)) :
    LoopInvTy_k0_t1 (F := F) Unit ℕ UU ℕ 𝒱₀ c none Set.univ i (Memref.whole main_arg2) (Memref.isWhole_whole _)
      (Memref.whole main_v8) (Memref.isWhole_whole _) M hM (Memref.whole main_arg0) (Memref.isWhole_whole _)
      (Memref.whole main_v10) (Memref.isWhole_whole _) (Memref.whole cc0_scratch0) (Memref.isWhole_whole _) cc0_scratch1 cc0_scratch2
      h1 0#32 where
  inv k acc := expertsAt c cn bs Z f C B k acc
  step k acc := by
    iintro ⟨%hacc, HC, HB8, HB, HP⟩
    have hk : k.val < 32 := lt_of_lt_of_eq k.isLt t1_trips
    sl_unfold [k0_t1_body]
    sl_exec
    have hv : loopInv_t1.sl.r c i h1 C k = BitVec.ofNat 32 (cn k.val) := by
      unfold loopInv_t1.sl.r
      exact (tab_word (F := F) (Memref.whole main_arg2) c C ⟨k.val, hk⟩ _ (off1_word k) _ _).trans (hC ⟨k.val, hk⟩)
    generalize loopInv_t1.sl.r c i h1 C k = v at hv
    subst hv
    have hc1 := chk1 i (cn k.val) (hc k.val hk)
    sl_exec
    have hv : loopInv_t1.sl.r_1 c i h1 B k = BitVec.ofNat 32 (bs k.val) := by
      unfold loopInv_t1.sl.r_1
      exact (tab_word (F := F) (Memref.whole main_v8) c B ⟨k.val, hk⟩ _ (off1_word k) _ _).trans (hB ⟨k.val, hk⟩)
    generalize loopInv_t1.sl.r_1 c i h1 B k = v at hv
    subst hv
    have hc2 := chk2 i (cn k.val) (bs k.val) (hc k.val hk) (hb k.val hk)
    sl_exec
    sl_for (fun n (_ : BitVec 32) => zeroAt c cn bs Z f (before cn k.val + n)) $$ [HB HP]
    case region => exact (loopInv_t2 c i h1 M hM cn bs Z f hap k.val hk (hc k.val hk) (hb k.val hk) hc1 hc2).step
    · isplitl [HB]; · iexact HB
      iexact HP
    iintro %w HZ
    sl_exec
    ihave HZ := (Entails.of_eq (congrArg (zeroAt (F := F) c cn bs Z f)
      ((congrArg (before cn k.val + ·) (t2_trips (cn k.val) (hc k.val hk))).trans (before_succ cn k.val).symm))) $$ HZ
    icases HZ with ⟨HB, HP⟩
    sl_step
    isplitr
    · ipureintro
      have h40 : loopInv_t1.sl.v51 cn k acc = Scalar.addi acc (padW (BitVec.ofNat 32 (cn k.val))) := rfl
      rw [h40, hacc, padW_word _ (hc k.val hk), before_succ]
      exact (BitVec.ofNat_add _ _).symm
    isplitl [HC]; · iexact HC
    isplitl [HB8]; · iexact HB8
    isplitl [HB]; · iexact HB
    iexact HP

/-- The zero batch all started, `k` rows' credit taken off it. -/
abbrev zeroDrain (k : ℕ) : sProp 𝕄 :=
  iprop((∃ W, owes (c : Thread nD τ) (0 : CellTallies nD τ sig Unit) W)
    ∗ Transfers.Batch (EC (F := F)) (c : Thread nD τ) (.dma cc0_scratch2.sem) () NN
        (piece (F := F) c (dstZ cn bs) (zLoc c) (KZ cn c) Z (landed (dstZ cn bs) (fun _ => Z) f)) (before cn 32) (k * NN))

set_option warn.classDefReducibility false in
/-- After `k` waits: `k` rows' credit taken off the zero batch. -/
def loopInv_t4 (hw3 : k0_chk3 i (BitVec.ofNat 32 (before cn 32))) :
    LoopInvTy_k0_t4 (F := F) Unit ℕ UU ℕ 𝒱₀ c none Set.univ i (Memref.whole main_arg2) (Memref.isWhole_whole _)
      (Memref.whole main_v8) (Memref.isWhole_whole _) M hM (Memref.whole main_arg0) (Memref.isWhole_whole _)
      (Memref.whole main_v10) (Memref.isWhole_whole _) (Memref.whole cc0_scratch0) (Memref.isWhole_whole _) cc0_scratch1 cc0_scratch2
      h1 (BitVec.ofNat 32 (before cn 32)) hw3 0#32 where
  inv k _ := zeroDrain c cn bs Z f k
  step k acc := by
    iintro ⟨⟨%W, HO⟩, HB⟩
    sl_unfold [k0_t4_body]
    have hn : before cn 32 < 2 ^ 31 := lt_of_le_of_lt (before_le cn 32 (Nat.le_refl _)) (by decide)
    have hk : k.val * NN + 1 * NN ≤ NN * before cn 32 := by
      have h : k.val + 1 ≤ before cn 32 := lt_of_lt_of_eq k.isLt (t4_trips _ hn)
      rw [← Nat.add_mul, Nat.mul_comm NN]
      exact Nat.mul_le_mul_right _ h
    iapply (Transfers.wp_waitBatchMul (EC (F := F)) 𝒱₀ (c : Thread nD τ) none () (N := NN) 1 (Nat.one_mul _).symm (u := k.val * NN) hk) $$ [HB HO]
    · isplitl [HB] <;> iassumption
    iintro ⟨HB, HO⟩
    simp only [ret_bind']
    sl_step
    isplitl [HO]; · iexists _; iexact HO
    rw [Nat.add_mul k.val 1 NN]
    iexact HB

end Zeros
end Cert.KernelIdeal.Disp
end
-- ==== Proof.Body.lean ====
module

public import proofs.«01_k».proof.Proof.Loops

@[expose] public section

noncomputable section

/-! # One grid point

The kernel's body at the first grid point, which also clears the padding rows, and at any other. -/

namespace Cert.KernelIdeal.Disp

open Cert.KernelIdeal Cert.KernelIdeal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing Idealize.ShloMosaic.ValueKit

variable {F : FTy → Type} [FloatOps F]

local notation "𝕄" => MT nD τ sig Unit (Elt F) ℕ UU ℕ

section Batches

variable {n : ℕ} (c : Dev nD) (sm : SemLoc sig) (dst : Fin n → ℕ) (ℓ : Loc nD τ sig) (K : Fin n → Finset (Idx ℓ)) (A : Buf (Elt F) ℓ)
  (pay : Fin n → S8x128.Idx → Elt F .f32) (f : S1114112x128.Idx → Elt F .f32)

/-- A batch is opened from its semaphore at zero; result and source are dealt to its transfers. -/
theorem batch_open (hinj : Function.Injective dst) :
    (iprop((outLoc c ↦{fullShare} f) ∗ (ℓ ↦{fullShare} A) ∗ semVal ((c : Thread nD τ), sm) 0) : sProp 𝕄)
      ⊢ |={Set.univ}=> iprop(Transfers.Batch (EC (F := F)) (c : Thread nD τ) sm () NN (piece (F := F) c dst ℓ K A (landed dst pay f)) 0 0
        ∗ bigSep (Transfers.pending 0) (piece (F := F) c dst ℓ K A f) ∗ rest (F := F) c dst ℓ K A f) := by
  iintro ⟨Ho, Hs, Hv⟩
  imod (Transfers.batch_alloc' (Lvl := ℕ) (EC (F := F)) (c : Thread nD τ) () NN (piece (F := F) c dst ℓ K A (landed dst pay f)) (sm := sm) (E := Set.univ)) $$ Hv with HB
  imodintro
  ihave H := (split_batch (F := F) c dst ℓ K A hinj f).1 $$ [Ho Hs]
  · isplitl [Ho] <;> iassumption
  icases H with ⟨HP, HR⟩
  isplitl [HB]; · iexact HB
  isplitl [HP]
  · iapply (Entails.of_eq (Transfers.bigSep_pending_zero (piece (F := F) c dst ℓ K A f))) $$ HP
  iexact HR

/-- A drained batch is the result with every row landed, the source, and the semaphore at zero. -/
theorem batch_close (hinj : Function.Injective dst) :
    (iprop(Transfers.Batch (EC (F := F)) (c : Thread nD τ) sm () NN (piece (F := F) c dst ℓ K A (landed dst pay f)) n (NN * n)
        ∗ rest (F := F) c dst ℓ K A f) : sProp 𝕄)
      ⊢ |={Set.univ}=> iprop((outLoc c ↦{fullShare} landed dst pay f) ∗ (ℓ ↦{fullShare} A) ∗ semVal ((c : Thread nD τ), sm) 0) := by
  iintro ⟨HB, HR⟩
  imod (Transfers.batch_collect' (EC (F := F)) (c : Thread nD τ) NN_pos) $$ HB with ⟨HD, Hv⟩
  imodintro
  ihave HR := (Entails.of_eq (rest_landed (F := F) c dst ℓ K A pay f)) $$ HR
  ihave H := (split_batch (F := F) c dst ℓ K A hinj (landed dst pay f)).2 $$ [HD HR]
  · isplitl [HD] <;> iassumption
  icases H with ⟨Ho, Hs⟩
  isplitl [Ho]; · iexact Ho
  isplitl [Hs]; · iexact Hs
  iexact Hv

end Batches

/-- What a grid point holds: the result at `f`, the tokens, the two tables, the zero block, the two semaphores at
    zero, the point's positions, and what the core owes. -/
abbrev Held (c : Dev nD) (M : Memref sig .tc .smem S1x1x4096 .i32) (g : Buf (Elt F) (M.view.loc (c : Thread nD τ)))
    (A : S262144x128.Idx → Elt F .f32) (C : Buf (Elt F) ((Memref.whole main_arg2).view.loc (c : Thread nD τ)))
    (B : Buf (Elt F) ((Memref.whole main_v8).view.loc (c : Thread nD τ))) (f : S1114112x128.Idx → Elt F .f32)
    (Z : S8x128.Idx → Elt F .f32) : sProp 𝕄 :=
  iprop((M.view.loc (c : Thread nD τ) ↦[M.view.set]{fullShare} g)
    ∗ ((Memref.whole main_arg2).view.loc (c : Thread nD τ) ↦[(Memref.whole main_arg2).view.set]{fullShare} C)
    ∗ ((Memref.whole main_v8).view.loc (c : Thread nD τ) ↦[(Memref.whole main_v8).view.set]{fullShare} B)
    ∗ (outLoc c ↦{fullShare} f) ∗ (tokLoc c ↦{fullShare} A)
    ∗ ((Memref.whole cc0_scratch0).view.loc (c : Thread nD τ) ↦{fullShare} Z)
    ∗ semVal ((c : Thread nD τ), .dma cc0_scratch1.sem) 0 ∗ semVal ((c : Thread nD τ), .dma cc0_scratch2.sem) 0
    ∗ ∃ W, owes (c : Thread nD τ) (0 : CellTallies nD τ sig Unit) W)

/-- The body, at a point's memrefs. -/
abbrev bodyAt (i : grid0.Coords) (M : Memref sig .tc .smem S1x1x4096 .i32) (hM : M.IsWhole) :=
  cc0_dispatch_skel (F := F) i (Memref.whole main_arg2) (Memref.isWhole_whole _)
      (Memref.whole main_v8) (Memref.isWhole_whole _) M hM (Memref.whole main_arg0) (Memref.isWhole_whole _)
      (Memref.whole main_v10) (Memref.isWhole_whole _) (Memref.whole cc0_scratch0) (Memref.isWhole_whole _) cc0_scratch1 cc0_scratch2

section Point

variable (c : Dev nD) (i : grid0.Coords) (M : Memref sig .tc .smem S1x1x4096 .i32) (hM : M.IsWhole)
  (g : Buf (Elt F) (M.view.loc (c : Thread nD τ))) (p cn bs : ℕ → ℕ) (A : S262144x128.Idx → Elt F .f32) (f : S1114112x128.Idx → Elt F .f32)
  (Z : S8x128.Idx → Elt F .f32)
  (C : Buf (Elt F) ((Memref.whole main_arg2).view.loc (c : Thread nD τ))) (B : Buf (Elt F) ((Memref.whole main_v8).view.loc (c : Thread nD τ)))

theorem run_other (hi : ¬ k0_cond1 i = 1#1) (hX : ∀ k : Fin 4096, M.view.read (Elt F) g (ix3 0 0 k) = BitVec.ofNat 32 (p k.val)) (hp : ∀ k, k < 4096 → p k < 139264)
    (hinj : Function.Injective (dst6 p)) :
    Held c M g A C B f Z ⊢ wp frame (wpE (defs₀ (F := F)) 𝒱₀ (c : Thread nD τ) none) Set.univ (bodyAt i M hM)
      fun _ => Held c M g A C B (landed (dst6 p) (pay6 i A) f) Z := by
  iintro ⟨HM, HC, HB8, Ho, Ht, Hz, H7, H8, ⟨%W, HO⟩⟩
  sl_unfold [bodyAt]; sl_unfold [cc0_dispatch_skel]
  sl_exec
  imod (batch_open (F := F) c (.dma cc0_scratch1.sem) (dst6 p) (tokLoc c) (K6 i c) A (pay6 i A) f hinj) $$ [Ho Ht H7] with ⟨HB, HP, HR⟩
  · isplitl [Ho]; · iexact Ho
    isplitl [Ht] <;> iassumption
  sl_for (fun n (_ : Unit) => rowsAt c i M g p A f n) $$ [HM HB HP]
  case region => exact (loopInv_t6 c i M hM g p A f hX hp hinj).step
  · isplitl [HM]; · iexact HM
    isplitl [HB] <;> iassumption
  iintro %w ⟨HM, HB, -⟩
  sl_for (fun n (_ : Unit) => rowsDrain c i p A f n) $$ [HO HB]
  case region => exact (loopInv_t7 c i M hM p A f).step
  · isplitl [HO]; · iexists _; iexact HO
    ihave HB := (Entails.of_eq (congrArg (Transfers.Batch (EC (F := F)) (c : Thread nD τ) (.dma cc0_scratch1.sem) () NN
        (piece (F := F) c (dst6 p) (tokLoc c) (K6 i c) A (landed (dst6 p) (pay6 i A) f)) k0_t6_loop.trips) (Nat.zero_mul NN).symm)) $$ HB
    iexact HB
  iintro %w' ⟨HO, HB⟩
  ihave HB := (Entails.of_eq (congrArg (Transfers.Batch (EC (F := F)) (c : Thread nD τ) (.dma cc0_scratch1.sem) () NN
        (piece (F := F) c (dst6 p) (tokLoc c) (K6 i c) A (landed (dst6 p) (pay6 i A) f)) k0_t6_loop.trips)
        (show _ = NN * k0_t6_loop.trips from Nat.mul_comm _ _))) $$ HB
  imod (batch_close (F := F) c (.dma cc0_scratch1.sem) (dst6 p) (tokLoc c) (K6 i c) A (pay6 i A) f hinj) $$ [HB HR] with ⟨Ho, Ht, H7⟩
  · isplitl [HB] <;> iassumption
  sl_step
  isplitl [HM]; · iexact HM
  isplitl [HC]; · iexact HC
  isplitl [HB8]; · iexact HB8
  isplitl [Ho]; · iexact Ho
  isplitl [Ht]; · iexact Ht
  isplitl [Hz]; · iexact Hz
  isplitl [H7]; · iexact H7
  isplitl [H8]; · iexact H8
  iexact HO

/-- The zero block. -/
abbrev zeroRow : S8x128.Idx → Elt F .f32 := k0_pay1 (F := F)

/-- The zero block once its store has landed. -/
theorem landed_zero : (Memref.whole cc0_scratch0).view.writes (Elt F) (Memref.whole cc0_scratch0).view.junk
      [⟨Rect.unit (s := S8x128) ![0, 0] S8x128.size inb_S8x128_S8x128_0_0, k0_pay1 (F := F)⟩] = zeroRow (F := F) := by
  funext y
  have hy : (Rect.unit (s := S8x128) ![0, 0] S8x128.size inb_S8x128_S8x128_0_0).emb y = y := by
    have key : ∀ a : Fin 2, (![0, 0] : Fin 2 → ℕ) a + (y a).val = (y a).val := by
      intro a
      match a with
      | 0 => exact Nat.zero_add _
      | 1 => exact Nat.zero_add _
    exact funext fun a => Fin.ext ((rect_emb_unit_val _ _ _ _ _).trans (key a))
  have h := View.read_writes_cons_emb (Val := Elt F) (Memref.whole cc0_scratch0).view (Memref.whole cc0_scratch0).view.junk
    (Rect.unit (s := S8x128) ![0, 0] S8x128.size inb_S8x128_S8x128_0_0) (k0_pay1 (F := F)) [] y
  rw [hy] at h
  exact h

theorem run_first (hi : k0_cond1 i = 1#1) (hX : ∀ k : Fin 4096, M.view.read (Elt F) g (ix3 0 0 k) = BitVec.ofNat 32 (p k.val)) (hp : ∀ k, k < 4096 → p k < 139264)
    (hinj : Function.Injective (dst6 p)) (hap : Apart cn bs) (hc : ∀ e, e < 32 → cn e < 2 ^ 31) (hb : ∀ e, e < 32 → bs e + cn e + npad (cn e) ≤ 139264)
    (hC : ∀ e : Fin 32, (Memref.whole main_arg2).view.read (Elt F) C (ix1 e) = BitVec.ofNat 32 (cn e.val))
    (hB : ∀ e : Fin 32, (Memref.whole main_v8).view.read (Elt F) B (ix1 e) = BitVec.ofNat 32 (bs e.val)) :
    Held c M g A C B f Z ⊢ wp frame (wpE (defs₀ (F := F)) 𝒱₀ (c : Thread nD τ) none) Set.univ (bodyAt i M hM)
      fun _ => Held c M g A C B (landed (dst6 p) (pay6 i A) (landed (dstZ cn bs) (fun _ => zeroRow) f)) zeroRow := by
  iintro ⟨HM, HC, HB8, Ho, Ht, Hz, H7, H8, ⟨%W, HO⟩⟩
  sl_unfold [bodyAt]; sl_unfold [cc0_dispatch_skel]
  sl_exec
  ihave Hz := (Entails.of_eq (congrArg (fun z => (zLoc c ↦{fullShare} z : sProp 𝕄))
    (show (Memref.whole cc0_scratch0).view.writes (Elt F) (Memref.whole cc0_scratch0).view.junk run_first.sl.Hz_1 = zeroRow (F := F) from by
      unfold run_first.sl.Hz_1
      exact landed_zero))) $$ Hz
  imod (batch_open (F := F) c (.dma cc0_scratch2.sem) (dstZ cn bs) (zLoc c) (KZ cn c) zeroRow (fun _ => zeroRow) f (dstZ_inj hap)) $$ [Ho Hz H8] with ⟨HB, HP, HR⟩
  · isplitl [Ho]; · iexact Ho
    isplitl [Hz] <;> iassumption
  have hn : before cn 32 < 2 ^ 31 := lt_of_le_of_lt (before_le cn 32 (Nat.le_refl _)) (by decide)
  sl_for (fun n (acc : BitVec 32) => expertsAt c cn bs zeroRow f C B n acc) $$ [HC HB8 HB HP]
  case region => exact (loopInv_t1 c i hi M hM cn bs zeroRow f hap hc hb C B hC hB).step
  · isplitr; · ipureintro; rfl
    isplitl [HC]; · iexact HC
    isplitl [HB8]; · iexact HB8
    isplitl [HB]; · iexact HB
    iexact HP
  iintro %n0 ⟨%hn0, HC, HB8, HB, -⟩
  have hn1 : n0 = BitVec.ofNat 32 (before cn 32) := hn0.trans (congrArg (fun k => BitVec.ofNat 32 (before cn k)) t1_trips)
  subst hn1
  have hc3 := chk3 i (before cn 32) hn
  sl_exec
  sl_for (fun n (_ : BitVec 32) => zeroDrain c cn bs zeroRow f n) $$ [HO HB]
  case region => exact (loopInv_t4 c i hi M hM cn bs zeroRow f hc3).step
  · isplitl [HO]; · iexists _; iexact HO
    ihave HB := (Entails.of_eq (congrArg₂ (fun a b => Transfers.Batch (EC (F := F)) (c : Thread nD τ) (.dma cc0_scratch2.sem) () NN
        (piece (F := F) c (dstZ cn bs) (zLoc c) (KZ cn c) zeroRow (landed (dstZ cn bs) (fun _ => zeroRow) f)) (before cn a) b) t1_trips (Nat.zero_mul NN).symm)) $$ HB
    iexact HB
  iintro %w1 ⟨⟨%W1, HO⟩, HB⟩
  ihave HB := (Entails.of_eq (congrArg (Transfers.Batch (EC (F := F)) (c : Thread nD τ) (.dma cc0_scratch2.sem) () NN
        (piece (F := F) c (dstZ cn bs) (zLoc c) (KZ cn c) zeroRow (landed (dstZ cn bs) (fun _ => zeroRow) f)) (before cn 32))
        ((congrArg (· * NN) (t4_trips _ hn)).trans (Nat.mul_comm _ _)))) $$ HB
  imod (batch_close (F := F) c (.dma cc0_scratch2.sem) (dstZ cn bs) (zLoc c) (KZ cn c) zeroRow (fun _ => zeroRow) f (dstZ_inj hap)) $$ [HB HR] with ⟨Ho, Hz, H8⟩
  · isplitl [HB] <;> iassumption
  sl_for0 (t5_trips (BitVec.ofNat 32 (before cn 32)))
  imod (batch_open (F := F) c (.dma cc0_scratch1.sem) (dst6 p) (tokLoc c) (K6 i c) A (pay6 i A) (landed (dstZ cn bs) (fun _ => zeroRow) f) hinj) $$ [Ho Ht H7] with ⟨HB, HP, HR⟩
  · isplitl [Ho]; · iexact Ho
    isplitl [Ht] <;> iassumption
  sl_for (fun n (_ : Unit) => rowsAt c i M g p A (landed (dstZ cn bs) (fun _ => zeroRow) f) n) $$ [HM HB HP]
  case region => exact (loopInv_t6 c i M hM g p A (landed (dstZ cn bs) (fun _ => zeroRow) f) hX hp hinj).step
  · isplitl [HM]; · iexact HM
    isplitl [HB] <;> iassumption
  iintro %w ⟨HM, HB, -⟩
  sl_for (fun n (_ : Unit) => rowsDrain c i p A (landed (dstZ cn bs) (fun _ => zeroRow) f) n) $$ [HO HB]
  case region => exact (loopInv_t7 c i M hM p A (landed (dstZ cn bs) (fun _ => zeroRow) f)).step
  · isplitl [HO]; · iexists _; iexact HO
    ihave HB := (Entails.of_eq (congrArg (Transfers.Batch (EC (F := F)) (c : Thread nD τ) (.dma cc0_scratch1.sem) () NN
        (piece (F := F) c (dst6 p) (tokLoc c) (K6 i c) A (landed (dst6 p) (pay6 i A) (landed (dstZ cn bs) (fun _ => zeroRow) f))) k0_t6_loop.trips) (Nat.zero_mul NN).symm)) $$ HB
    iexact HB
  iintro %w' ⟨HO, HB⟩
  ihave HB := (Entails.of_eq (congrArg (Transfers.Batch (EC (F := F)) (c : Thread nD τ) (.dma cc0_scratch1.sem) () NN
        (piece (F := F) c (dst6 p) (tokLoc c) (K6 i c) A (landed (dst6 p) (pay6 i A) (landed (dstZ cn bs) (fun _ => zeroRow) f))) k0_t6_loop.trips)
        (show _ = NN * k0_t6_loop.trips from Nat.mul_comm _ _))) $$ HB
  imod (batch_close (F := F) c (.dma cc0_scratch1.sem) (dst6 p) (tokLoc c) (K6 i c) A (pay6 i A) (landed (dstZ cn bs) (fun _ => zeroRow) f) hinj) $$ [HB HR] with ⟨Ho, Ht, H7⟩
  · isplitl [HB] <;> iassumption
  sl_step
  isplitl [HM]; · iexact HM
  isplitl [HC]; · iexact HC
  isplitl [HB8]; · iexact HB8
  isplitl [Ho]; · iexact Ho
  isplitl [Ht]; · iexact Ht
  isplitl [Hz]; · iexact Hz
  isplitl [H7]; · iexact H7
  isplitl [H8]; · iexact H8
  iexact HO

end Point
end Cert.KernelIdeal.Disp
end
-- ==== Proof.Launch.lean ====
module

public import proofs.«01_k».proof.Proof.Body
public import proofs.«01_k».proof.Proof.Gen.KernelIdeal.Launch
public import Idealize.ShloMosaic.Lib.Pipeline.Regions
public import Idealize.ShloMosaic.Lib.Pipeline.FrameBody
public import Idealize.ShloMosaic.Lib.StableHlo.RunRead
public import Idealize.ShloMosaic.Lib.StableHlo.ReadAt

@[expose] public section

noncomputable section

/-! # The launch

The host operations (each expert's first row), then the kernel's grid: after `t` points every pair below `4096 t` has
its token's row at its position, and from the first point on a padding row no pair has reached holds zero. -/

namespace Cert.KernelIdeal.Disp

open Cert.KernelIdeal Cert.KernelIdeal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing Idealize.ShloMosaic.ValueKit
open Idealize.ShloMosaic.Pipeline (Dat BodyObligation)

variable {F : FTy → Type} [FloatOps F]

local notation "𝕄" => MT nD τ sig Unit (Elt F) ℕ UU ℕ

/-! ## What the result holds after `t` points -/

section Good

variable (cn bs P : ℕ → ℕ) (A : S262144x128.Idx → Elt F .f32)

/-- Pairs below `4096 t` have landed; the padding rows no such pair has reached are zero once a point has run. -/
structure Good (t : ℕ) (f : S1114112x128.Idx → Elt F .f32) : Prop where
  pair : ∀ q (hq : q < 131072), q < 4096 * t → ∀ y : S1114112x128.Idx, (y 0).val / 8 = P q → f y = tokRow A (q / 4) (by omega) (inRow y)
  pad : 1 ≤ t → ∀ e r, e < 32 → r < npad (cn e) → ∀ y : S1114112x128.Idx, (y 0).val / 8 = bs e + cn e + r →
    (∀ q, q < 4096 * t → P q ≠ (y 0).val / 8) → f y = zeroRow (inRow y)

theorem Good.zero (f : S1114112x128.Idx → Elt F .f32) : Good cn bs P A 0 f :=
  ⟨fun _ _ h => absurd h (by omega), fun h => absurd h (by omega)⟩

/-- The positions of a point's pairs. -/
abbrev blockP (t : ℕ) : ℕ → ℕ := fun k => P (4096 * t + k)

variable {cn bs P A}

theorem dst6_inj (hinj : ∀ q q', q < 131072 → q' < 131072 → P q = P q' → q = q') (t : ℕ) (ht : t < 32) :
    Function.Injective (dst6 (blockP P t)) := by
  intro a b hab
  have ha : a.val < 4096 := lt_of_lt_of_eq a.isLt t6_trips
  have hb : b.val < 4096 := lt_of_lt_of_eq b.isLt t6_trips
  have := hinj _ _ (by omega) (by omega) hab
  exact Fin.ext (by omega)

/-- A point's pairs land on what the earlier points left. -/
theorem Good.step (hinj : ∀ q q', q < 131072 → q' < 131072 → P q = P q' → q = q') (i : grid0.Coords) (t : ℕ) (ht : t < 32)
    (hi : (i 0).val = t) {f : S1114112x128.Idx → Elt F .f32} (h : Good cn bs P A t f)
    (hpad : ∀ e r, e < 32 → r < npad (cn e) → ∀ y : S1114112x128.Idx, (y 0).val / 8 = bs e + cn e + r →
      (∀ q, q < 4096 * t → P q ≠ (y 0).val / 8) → f y = zeroRow (inRow y)) :
    Good cn bs P A (t + 1) (landed (dst6 (blockP P t)) (pay6 i A) f) := by
  have hd := dst6_inj hinj t ht
  refine ⟨fun q hq hq1 y hy => ?_, fun _ e r he hr y hy hno => ?_⟩
  · by_cases hlt : q < 4096 * t
    · rw [landed_miss]
      · exact h.pair q hq hlt y hy
      · intro a ha
        have ha4 : a.val < 4096 := lt_of_lt_of_eq a.isLt t6_trips
        have := hinj _ _ (by omega) (by omega) (ha.trans hy)
        omega
    · have hk : q - 4096 * t < k0_t6_loop.trips := lt_of_lt_of_eq (by omega) t6_trips.symm
      rw [landed_hit hd _ _ y ⟨q - 4096 * t, hk⟩ (by unfold dst6; rw [hy]; congr 1; show q = 4096 * t + (q - 4096 * t); omega)]
      unfold pay6
      congr 1
      show 1024 * (i 0).val + (q - 4096 * t) / 4 = q / 4
      omega
  · rw [landed_miss]
    · exact hpad e r he hr y hy fun q hq => hno q (by omega)
    · intro a ha
      have ha4 : a.val < 4096 := lt_of_lt_of_eq a.isLt t6_trips
      exact hno (4096 * t + a.val) (by omega) ha

/-- The first point clears the padding rows before its pairs land. -/
theorem zero_pad (hap : Apart cn bs) (f : S1114112x128.Idx → Elt F .f32) (Z : S8x128.Idx → Elt F .f32) :
    ∀ e r, e < 32 → r < npad (cn e) → ∀ y : S1114112x128.Idx, (y 0).val / 8 = bs e + cn e + r →
      landed (dstZ cn bs) (fun _ => Z) f y = Z (inRow y) := by
  intro e r he hr y hy
  have hlt : before cn e + r < before cn 32 := by
    have h1 := before_succ cn e
    have h2 := before_mono cn (show e + 1 ≤ 32 by omega)
    omega
  rw [landed_hit (dstZ_inj hap) _ _ y ⟨before cn e + r, hlt⟩ (by unfold dstZ; rw [hy]; exact (zrow_at cn bs e r he hr).symm)]

end Good

/-! ## The launch memory and the host operations -/

variable (m : (ℓ : Loc nD τ sig) → Buf (Elt F) ℓ) (ρ : Dev nD → PrngReg)

/-- The pipeline library's algebra is the left component of the launch's. -/
abbrev EP : Emb (UR sig nD τ) 𝕄 := embL

def V₀ (c : Dev nD) : Valuation τ sig (Elt F) := fun b => m ((c : Dev nD), b)
def V₁ (c : Dev nD) : Valuation τ sig (Elt F) := StableHlo.after hostOps0 (V₀ m c)
def V₂ (c : Dev nD) : Valuation τ sig (Elt F) := StableHlo.after hostOps0_1 (V₁ m c)
def V₃ (c : Dev nD) : Valuation τ sig (Elt F) := StableHlo.after hostOps0_2 (V₂ m c)
def V₄ (c : Dev nD) : Valuation τ sig (Elt F) := StableHlo.after hostOps0_3 (V₃ m c)

/-- The buffers the host operations run within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, BI.bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The buffers the kernel and the claims name. -/
def named : Finset (DevRef τ sig) :=
  {Proc.devRef .tc main_arg0, Proc.devRef .tc main_arg1, Proc.devRef .tc main_arg2, Proc.devRef .tc main_v8, Proc.devRef .tc main_v9, Proc.devRef .tc main_v10}

theorem named_sub : named ⊆ ucRefs := by decide

abbrev arg1Loc (c : Dev nD) : Loc nD τ sig := (c : Thread nD τ).loc main_arg1
abbrev cntLoc (c : Dev nD) : Loc nD τ sig := (c : Thread nD τ).loc main_arg2
abbrev baseLoc (c : Dev nD) : Loc nD τ sig := (c : Thread nD τ).loc main_v8
abbrev posLoc (c : Dev nD) : Loc nD τ sig := (c : Thread nD τ).loc main_v9

omit [FloatOps F] in
theorem named_eq (c : Dev nD) (W : Valuation τ sig (Elt F)) : (StableHlo.held (c : Thread nD τ) named W : sProp 𝕄)
    = iprop((tokLoc c ↦{fullShare} W (Proc.devRef .tc main_arg0)) ∗ (arg1Loc c ↦{fullShare} W (Proc.devRef .tc main_arg1))
      ∗ (cntLoc c ↦{fullShare} W (Proc.devRef .tc main_arg2)) ∗ (baseLoc c ↦{fullShare} W (Proc.devRef .tc main_v8))
      ∗ (posLoc c ↦{fullShare} W (Proc.devRef .tc main_v9)) ∗ (outLoc c ↦{fullShare} W (Proc.devRef .tc main_v10))) := by
  unfold StableHlo.held
  rw [bigSep_eq_bigSepL_of_eq [Proc.devRef .tc main_arg0, Proc.devRef .tc main_arg1, Proc.devRef .tc main_arg2, Proc.devRef .tc main_v8,
    Proc.devRef .tc main_v9, Proc.devRef .tc main_v10] (by decide) (by decide)]
  rfl

omit [FloatOps F] in
theorem held_named (c : Dev nD) (W : Valuation τ sig (Elt F)) :
    (StableHlo.held (c : Thread nD τ) ucRefs W : sProp 𝕄) = iprop(StableHlo.held (c : Thread nD τ) named W ∗ StableHlo.held (c : Thread nD τ) (ucRefs \ named) W) :=
  StableHlo.held_sub_split _ named_sub W

/-- No host operation writes an argument. -/
theorem V₄_arg (c : Dev nD) (b : Ref sig .tc) (hb : b = main_arg0 ∨ b = main_arg1 ∨ b = main_arg2) :
    V₄ m c (Proc.devRef .tc b) = m ((c : Thread nD τ).loc b) := by
  rcases hb with rfl | rfl | rfl <;> unfold V₄ V₃ V₂ V₁ <;> after_reads_simp <;> rfl

/-- The window's array is the positions, reshaped. -/
theorem V₄_pos (c : Dev nD) : V₄ m c (Proc.devRef .tc main_v9)
    = shapeCast S32x1x4096 (m (arg1Loc c) : S32768x4.Idx → BitVec 32) shapeCasts_S32768x4_S32x1x4096 := by
  unfold V₄ V₃ V₂ V₁
  after_reads_simp
  rfl

/-- What the launch needs of the memory: the tables and positions as naturals, in bounds and apart. -/
structure Facts (c : Dev nD) (cn bs P : ℕ → ℕ) : Prop where
  pos : ∀ (t : Fin 32) (k : Fin 4096), (V₄ m c (Proc.devRef .tc main_v9) : S32x1x4096.Idx → BitVec 32) (ix3 t 0 k) = BitVec.ofNat 32 (P (4096 * t.val + k.val))
  lt : ∀ q, q < 131072 → P q < 139264
  inj : ∀ q q', q < 131072 → q' < 131072 → P q = P q' → q = q'
  apart : Apart cn bs
  cnt : ∀ e, e < 32 → cn e < 2 ^ 31
  fits : ∀ e, e < 32 → bs e + cn e + npad (cn e) ≤ 139264
  tabC : ∀ e : Fin 32, (V₄ m c (Proc.devRef .tc main_arg2) : S32.Idx → BitVec 32) (ix1 e) = BitVec.ofNat 32 (cn e.val)
  tabB : ∀ e : Fin 32, (V₄ m c (Proc.devRef .tc main_v8) : S32.Idx → BitVec 32) (ix1 e) = BitVec.ofNat 32 (bs e.val)

/-! ## The pipeline's proof data -/

/-- The prefetched tables: the counts and the first rows, as the host operations left them. -/
def adm : (p : Fin 1) → (pcfgs (F := F) p).Adm := fun _ =>
  ⟨fun | 0 => V₄ m 0 (Proc.devRef .tc main_arg2) | 1 => V₄ m 0 (Proc.devRef .tc main_v8) | ⟨_ + 2, h⟩ => absurd h (Nat.not_lt.2 (Nat.le_add_left _ _)), trivial⟩

variable (cn bs P : ℕ → ℕ)

/-- Between the points: the result as far as the points have run, the tokens, the two tables, the zero block at
    something, the two transfer semaphores at zero. -/
def Φs (c : Dev nD) (t : ℕ) : sProp 𝕄 :=
  iprop(∃ f Z, ⌜Good cn bs P (V₄ m c (Proc.devRef .tc main_arg0)) t f⌝ ∗ (outLoc c ↦{fullShare} f)
    ∗ (tokLoc c ↦{fullShare} V₄ m c (Proc.devRef .tc main_arg0)) ∗ (cntLoc c ↦{fullShare} V₄ m c (Proc.devRef .tc main_arg2))
    ∗ (baseLoc c ↦{fullShare} V₄ m c (Proc.devRef .tc main_v8))
    ∗ ((c : Thread nD τ).loc cc0_scratch0 ↦{fullShare} (Z : S8x128.Idx → Elt F .f32))
    ∗ semVal ((c : Thread nD τ), .dma cc0_scratch1.sem) 0 ∗ semVal ((c : Thread nD τ), .dma cc0_scratch2.sem) 0)

/-- The window's block at a point. -/
def blockW (c : Dev nD) (t : Fin grid0.N) : S1x1x4096.Idx → BitVec 32 :=
  ((cfg0 (adm m 0)).win 0).blk t |>.view.read (Elt F) (V₄ m c (Proc.devRef .tc main_v9))

def dat (_ : Fin 1) (c : Dev nD) : Dat τ (Elt F) Unit ℕ UU ℕ (cfg0 (adm m 0)) c where
  A w := match w with | ⟨0, _⟩ => V₄ m c (Proc.devRef .tc main_v9)
  after w t := match w with | ⟨0, _⟩ => blockW m c t
  Φ t := Φs m cn bs P c t.val
  q _ := fullShare
  owed _ := 0

theorem before_in (c : Dev nD) (t : Fin grid0.N) (d) : (dat m cn bs P 0 c).before 0 t d = blockW m c t :=
  (dat m cn bs P 0 c).before_in_eq_fetched 0 rfl (fun _ => rfl) (fun _ _ _ => rfl) (fun _ => rfl) t d

theorem N32 (t : Fin grid0.N) : t.val < 32 := lt_of_lt_of_eq t.isLt N_0

theorem coords_val (t : Fin grid0.N) : ((grid0.coords t) 0).val = t.val := by
  have h : ∀ t : Fin grid0.N, ((grid0.coords t) 0).val = t.val := by decide
  exact h t

theorem block_word (c : Dev nD) (h : Facts m c cn bs P) (t : Fin grid0.N) (k : Fin 4096) :
    blockW m c t (ix3 0 0 k) = BitVec.ofNat 32 (P (4096 * t.val + k.val)) := by
  rw [← h.pos ⟨t.val, N32 t⟩ k]
  unfold blockW
  have hc := coords_val t
  have hN := N32 t
  have key : ∀ a : Fin 3, cc0_transform_0 (grid0.coords t) a * S1x1x4096.size a + 1 * ((ix3 (0 : Fin 1) (0 : Fin 1) k : S1x1x4096.Idx) a).val
      = ((ix3 (⟨t.val, N32 t⟩ : Fin 32) (0 : Fin 1) k : S32x1x4096.Idx) a).val := by
    intro a
    fin_cases a
    · show (BitVec.ofNat 32 ((grid0.coords t) 0).val).toNat * 1 + 1 * 0 = t.val
      rw [hc, BitVec.toNat_ofNat]
      omega
    · rfl
    · show 0 * 4096 + 1 * k.val = k.val
      omega
  refine congrArg (V₄ m c (Proc.devRef .tc main_v9) : S32x1x4096.Idx → BitVec 32) (funext fun a => Fin.ext ?_)
  exact key a

theorem cond_first (t : Fin grid0.N) : k0_cond1 (grid0.coords t) = 1#1 ↔ t.val = 0 := by
  have h : ∀ t : Fin grid0.N, k0_cond1 (grid0.coords t) = 1#1 ↔ t.val = 0 := by decide
  exact h t

/-- One grid point takes the invariant to the next. -/
theorem point (c : Dev nD) (h : Facts m c cn bs P) (t : Fin grid0.N) (M : Memref sig .tc .smem S1x1x4096 .i32) (hM : M.IsWhole)
    (g : Buf (Elt F) (M.view.loc (c : Thread nD τ))) (hX : ∀ k : Fin 4096, M.view.read (Elt F) g (ix3 0 0 k) = BitVec.ofNat 32 (blockP P t.val k.val)) :
    iprop(Φs m cn bs P c t.val ∗ (∃ W, owes (c : Thread nD τ) (0 : CellTallies nD τ sig Unit) W) ∗ (M.view.loc (c : Thread nD τ) ↦[M.view.set]{fullShare} g))
      ⊢ wp frame (wpE (defs₀ (F := F)) 𝒱₀ (c : Thread nD τ) none) Set.univ (bodyAt (grid0.coords t) M hM)
        fun _ => iprop(Φs m cn bs P c (t.val + 1) ∗ (∃ W, owes (c : Thread nD τ) (0 : CellTallies nD τ sig Unit) W) ∗ (M.view.loc (c : Thread nD τ) ↦[M.view.set]{fullShare} g)) := by
  have hN := N32 t
  have hcv := coords_val t
  have hp : ∀ k, k < 4096 → blockP P t.val k < 139264 := fun k hk => h.lt _ (by omega)
  have hd := dst6_inj h.inj t.val hN
  unfold Φs
  iintro ⟨⟨%f, %Z, %hG, Ho, Ht, HC, HB, Hz, H7, H8⟩, HO, HM⟩
  by_cases h0 : t.val = 0
  · have hstep := hG.step h.inj (grid0.coords t) t.val hN hcv
    iapply ((run_first (F := F) c (grid0.coords t) M hM g (blockP P t.val) cn bs
      (V₄ m c (Proc.devRef .tc main_arg0)) f Z (V₄ m c (Proc.devRef .tc main_arg2)) (V₄ m c (Proc.devRef .tc main_v8)) ((cond_first t).2 h0) hX hp hd
      h.apart h.cnt h.fits h.tabC h.tabB).trans (wp_mono _ _ _ fun _ => ?_)) $$ [HM HC HB Ho Ht Hz H7 H8 HO]
    · iintro ⟨HM, HC, HB, Ho, Ht, Hz, H7, H8, HO⟩
      isplitr [HO HM]
      · iexists _; iexists _
        isplitr
        swap
        · isplitl [Ho]; · iexact Ho
          isplitl [Ht]; · iexact Ht
          isplitl [HC]; · iexact HC
          isplitl [HB]; · iexact HB
          isplitl [Hz]; · iexact Hz
          isplitl [H7] <;> iassumption
        ipureintro
        refine Good.step h.inj (grid0.coords t) t.val hN hcv ⟨fun _ _ h' => absurd h' (by omega), fun h' => absurd h' (by omega)⟩ ?_
        intro e r he hr y hy _
        exact zero_pad h.apart f zeroRow e r he hr y hy
      · isplitl [HO] <;> iassumption
    · isplitl [HM]; · iexact HM
      isplitl [HC]; · iexact HC
      isplitl [HB]; · iexact HB
      isplitl [Ho]; · iexact Ho
      isplitl [Ht]; · iexact Ht
      isplitl [Hz]; · iexact Hz
      isplitl [H7]; · iexact H7
      isplitl [H8] <;> iassumption
  · iapply ((run_other (F := F) c (grid0.coords t) M hM g (blockP P t.val)
      (V₄ m c (Proc.devRef .tc main_arg0)) f Z (V₄ m c (Proc.devRef .tc main_arg2)) (V₄ m c (Proc.devRef .tc main_v8)) (fun h' => h0 ((cond_first t).1 h')) hX hp hd).trans
        (wp_mono _ _ _ fun _ => ?_)) $$ [HM HC HB Ho Ht Hz H7 H8 HO]
    · iintro ⟨HM, HC, HB, Ho, Ht, Hz, H7, H8, HO⟩
      isplitr [HO HM]
      · iexists _; iexists _
        isplitr
        swap
        · isplitl [Ho]; · iexact Ho
          isplitl [Ht]; · iexact Ht
          isplitl [HC]; · iexact HC
          isplitl [HB]; · iexact HB
          isplitl [Hz]; · iexact Hz
          isplitl [H7] <;> iassumption
        ipureintro
        exact Good.step h.inj (grid0.coords t) t.val hN hcv hG (hG.pad (by omega))
      · isplitl [HO] <;> iassumption
    · isplitl [HM]; · iexact HM
      isplitl [HC]; · iexact HC
      isplitl [HB]; · iexact HB
      isplitl [Ho]; · iexact Ho
      isplitl [Ht]; · iexact Ht
      isplitl [Hz]; · iexact Hz
      isplitl [H7]; · iexact H7
      isplitl [H8] <;> iassumption

theorem body (c : Dev nD) (h : Facts m c cn bs P) : BodyObligation (dat m cn bs P 0 c) (defs₀ (F := F)) 𝒱₀ () Set.univ := fun t => by
  rw [bigSep_W0, bigSep_W0]
  rw [show (dat m cn bs P 0 c).Φ t.castSucc = Φs m cn bs P c t.val from rfl, show (dat m cn bs P 0 c).Φ t.succ = Φs m cn bs P c (t.val + 1) from rfl]
  unfold Pipeline.Dat.owesAt Pipeline.owesWithin owns
  rw [show (dat m cn bs P 0 c).owed t.castSucc = 0 from rfl, show (dat m cn bs P 0 c).owed t.succ = 0 from rfl]
  iintro ⟨HΦ, ⟨%W, %hW, HO⟩, ⟨%d0, %g, %hg, HM⟩⟩
  have hg' := hg.trans (before_in m cn bs P c t d0)
  iapply ((point m cn bs P c h t (((cfg0 (adm m 0)).win 0).stage ((cfg0 (adm m 0)).slots t 0)) (stage_whole0 0 _) g (fun k => by
      exact (congrFun hg' _).trans (block_word m cn bs P c h t k))).trans (wp_mono _ _ _ fun _ => ?_)) $$ [HΦ HO HM]
  · iintro ⟨HΦ, ⟨%W', HO⟩, HM⟩
    isplitl [HΦ]; · iexact HΦ
    isplitl [HO]
    · iexists W'; isplitr; · ipureintro; exact fun _ _ => Or.inl trivial
      iexact HO
    iexists g; isplitr; swap; (· iexact HM)
    ipureintro; exact hg'
  · isplitl [HΦ]; · iexact HΦ
    isplitl [HO]; · iexists W; iexact HO
    iexact HM

/-! ## The launch, as segments -/

/-- The kernel's own semaphores. -/
def osem : Fin 2 → SemLoc sig := fun | 0 => .dma cc0_scratch1.sem | 1 => .dma cc0_scratch2.sem

theorem ownSemFacts : Pipeline.OwnSemFacts spec0 osem := by decide

omit [FloatOps F] in
theorem ownSems0_eq (c : Dev nD) :
    (Pipeline.ownSems0 (Ix := Unit) (Name := ℕ) (U := UU) (Lvl := ℕ) (Val := Elt F) (τ := τ) osem c : sProp 𝕄)
      = iprop(semVal ((c : Thread nD τ), .dma cc0_scratch1.sem) 0 ∗ semVal ((c : Thread nD τ), .dma cc0_scratch2.sem) 0) :=
  Pipeline.ownSems0_eq_of_list c osem [0, 1] (by decide) (by decide)

def u₀ : UU := (initOf (Pipeline.cells (Pipeline.pin (pcfgs (F := F)) (adm m)) (cellOf_inj (adm m)))
  (Pipeline.launchToks (Pipeline.pin (pcfgs (F := F)) (adm m)) (cellOf_inj (adm m))), 1)

abbrev L : GSem nD τ sig → Finset Unit := fun _ => ∅
abbrev lv : GSem nD τ sig → Unit → ℕ := fun _ _ => 0

/-- What rides beside the buffers: what the core owes. -/
abbrev R (c : Dev nD) : sProp 𝕄 := iprop(∃ W, owes (c : Thread nD τ) (0 : CellTallies nD τ sig Unit) W)

abbrev Host' := Pipeline.HostSeg (Name := ℕ) (U := UU) (pcfgs (F := F)) defs₀ 𝒱₀ L lv

def seg0 : Host' (F := F) :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R
def seg1 : Host' (F := F) :=
  Pipeline.HostSeg.ofOps _ _ _ _ _ ucRefs hostOps0_1 (fun op h => sub_ucRefs op ((List.forall_iff_forall_mem.mp hostOps0_1_sub) op h))
    (by intro _ h; (repeat (cases h with | head => rfl | tail _ h => ?_)); exact nomatch h) (V₁ m) R
def seg2 : Host' (F := F) :=
  Pipeline.HostSeg.ofOps _ _ _ _ _ ucRefs hostOps0_2 (fun op h => sub_ucRefs op ((List.forall_iff_forall_mem.mp hostOps0_2_sub) op h))
    (by intro _ h; (repeat (cases h with | head => rfl | tail _ h => ?_)); exact nomatch h) (V₂ m) R
def seg3 : Host' (F := F) :=
  Pipeline.HostSeg.ofOps _ _ _ _ _ ucRefs hostOps0_3 (fun op h => sub_ucRefs op ((List.forall_iff_forall_mem.mp hostOps0_3_sub) op h))
    (by intro _ h; (repeat (cases h with | head => rfl | tail _ h => ?_)); exact nomatch h) (V₃ m) R

omit [FloatOps F] in
theorem prefHeld_pair (c : Dev nD) (q : Fin 2 → PosShare TreeShare) (v : pre0.Contents (Elt F)) :
    (Pipeline.prefHeld pre0 c q v : sProp 𝕄)
      = iprop((cntLoc c ↦{q 0} (show Buf (Elt F) (cntLoc c) from v 0)) ∗ (baseLoc c ↦{q 1} (show Buf (Elt F) (baseLoc c) from v 1))) := by
  unfold Pipeline.prefHeld
  rw [show (Finset.univ : Finset (Fin 2)) = insert 0 {1} from by decide, BI.bigSep_insert (by decide), BI.bigSep_singleton]
  rfl

theorem arrays_eq (c : Dev nD) (A) : ((dat m cn bs P 0 c).arrays A : sProp 𝕄) = iprop(posLoc c ↦{fullShare} (A 0)) := by
  exact (Pipeline.arrays_eq (Pipeline.pin (pcfgs (F := F)) (adm m)) (dat m cn bs P) 0 c arr_whole0 ((dat m cn bs P 0 c).share_full fun _ => rfl) A).trans (bigSep_W0 _)

/-- What the launch ends with. -/
abbrev Tₙ (c : Dev nD) : sProp 𝕄 :=
  iprop((∃ f, ⌜Good cn bs P (V₄ m c (Proc.devRef .tc main_arg0)) 32 f⌝ ∗ (outLoc c ↦{fullShare} f))
    ∗ (tokLoc c ↦{fullShare} V₄ m c (Proc.devRef .tc main_arg0)) ∗ (arg1Loc c ↦{fullShare} V₄ m c (Proc.devRef .tc main_arg1))
    ∗ (cntLoc c ↦{fullShare} V₄ m c (Proc.devRef .tc main_arg2)))

set_option backward.isDefEq.respectTransparency.types false in
def reg0 (h : ∀ c, Facts m c cn bs P) : Pipeline.RegionSeg (pcfgs (F := F)) (adm m) (dat m cn bs P) () defs₀ 𝒱₀ L lv 0 where
  win := winFacts0.to₀
  block_pos := block_pos0
  stage_whole := stage_whole0
  K := Fin 2
  osem := osem
  ho := ownSemFacts
  hbody c := (body m cn bs P c (h c)).loose
  hwaits := Pipeline.hwaits_of_owed_zero _ _ _ _ L lv 0 fun _ _ => rfl
  pre c := iprop(StableHlo.held (c : Thread nD τ) ucRefs (V₄ m c) ∗ R c)
  post c := iprop(Tₙ m cn bs P c ∗ R c)
  X c := iprop((outLoc c ↦{fullShare} V₄ m c (Proc.devRef .tc main_v10)) ∗ (tokLoc c ↦{fullShare} V₄ m c (Proc.devRef .tc main_arg0))
    ∗ semVal ((c : Thread nD τ), .dma cc0_scratch1.sem) 0 ∗ semVal ((c : Thread nD τ), .dma cc0_scratch2.sem) 0)
  Y c := iprop((∃ f, ⌜Good cn bs P (V₄ m c (Proc.devRef .tc main_arg0)) 32 f⌝ ∗ (outLoc c ↦{fullShare} f))
    ∗ (tokLoc c ↦{fullShare} V₄ m c (Proc.devRef .tc main_arg0)) ∗ (cntLoc c ↦{fullShare} V₄ m c (Proc.devRef .tc main_arg2)))
  Z c := arg1Loc c ↦{fullShare} V₄ m c (Proc.devRef .tc main_arg1)
  hentry c := by
    obtain rfl : c = 0 := Subsingleton.elim _ _
    rw [held_named, named_eq, ownSems0_eq, arrays_eq, prefHeld_pair]
    iintro ⟨⟨⟨⟨Ht, H1, HC, HB, Hp, Ho⟩, -⟩, HO⟩, ⟨H7, H8⟩, -⟩
    imodintro
    isplitl [Hp]; · iexact Hp
    isplitl [HC HB]
    · isplitl [HC]; · iexact HC
      iexact HB
    isplitl [HO]
    · unfold Pipeline.Dat.owesAt Pipeline.owesWithin
      icases HO with ⟨%W, HO⟩; iexists W; isplitr; · ipureintro; exact fun _ _ => Or.inl trivial
      iexact HO
    isplitl [Ho Ht H7 H8]
    · isplitl [Ho]; · iexact Ho
      isplitl [Ht]; · iexact Ht
      isplitl [H7] <;> iassumption
    iexact H1
  hin c := by
    obtain rfl : c = 0 := Subsingleton.elim _ _
    rw [show (dat m cn bs P 0 0).Φ 0 = Φs m cn bs P 0 0 from rfl, prefHeld_pair, scopedRest0_eq]
    unfold Φs
    iintro ⟨⟨Ho, Ht, H7, H8⟩, ⟨HC, HB⟩, ⟨%Z, Hz⟩⟩
    iexists _; iexists Z
    isplitr
    swap
    · isplitl [Ho]; · iexact Ho
      isplitl [Ht]; · iexact Ht
      isplitl [HC]; · iexact HC
      isplitl [HB]; · iexact HB
      isplitl [Hz]; · iexact Hz
      isplitl [H7] <;> iassumption
    ipureintro
    exact Good.zero _ _ _ _ _
  hout c := by
    rw [ownSems0_eq, scopedRest0_eq, show (dat m cn bs P 0 c).Φ (Fin.last (cfg0 (adm m 0)).N) = Φs m cn bs P c 32 from congrArg (Φs m cn bs P c) N_0]
    unfold Φs
    iintro ⟨%f, %Z, %hG, Ho, Ht, HC, HB, Hz, H7, H8⟩
    isplitl [Ho Ht HC]
    · isplitl [Ho]
      · iexists f; isplitr; · ipureintro; exact hG
        iexact Ho
      isplitl [Ht] <;> iassumption
    isplitl [H7 H8]
    · isplitl [H7] <;> iassumption
    iexists Z; iexact Hz
  hexit c := by
    iintro ⟨-, HO, ⟨Ho, Ht, HC⟩, H1⟩
    imodintro
    isplitr [HO]
    · isplitl [Ho]; · iexact Ho
      isplitl [Ht]; · iexact Ht
      isplitl [H1] <;> iassumption
    · unfold Pipeline.Dat.owesAt Pipeline.owesWithin
      icases HO with ⟨%W, -, HO⟩; iexists W; iexact HO

abbrev segs (h : ∀ c, Facts m c cn bs P) : List (Pipeline.Seg (pcfgs (F := F)) (adm m) (dat m cn bs P) () defs₀ 𝒱₀ L lv) :=
  [.host (seg0 m), .host (seg1 m), .host (seg2 m), .host (seg3 m), .region (reg0 m cn bs P h)]

theorem main_eq (h : ∀ c, Facts m c cn bs P) (c : Dev nD) : Pipeline.Seg.run (segs m cn bs P h) = main (F := F) c := by
  rw [main_chain, Pipeline.Seg.run_eq_chain]; rfl

set_option backward.isDefEq.respectTransparency.types false in
/-- The whole run: it ends, the arguments unchanged, every semaphore at zero, every pair's row at its position and
    the padding rows zero. -/
theorem run_main (h : ∀ c, Facts m c cn bs P) :
    θ_run defs (onTc (τ := τ) (main (F := F))) ⟨m, fun _ => 0, ρ⟩ (fun r =>
      (∀ c : Dev nD, r.2.mem (tokLoc c) = m (tokLoc c) ∧ r.2.mem (arg1Loc c) = m (arg1Loc c) ∧ r.2.mem (cntLoc c) = m (cntLoc c)
        ∧ Good cn bs P (m (tokLoc c)) 32 (r.2.mem (outLoc c))) ∧ r.2.sem = fun _ => 0) :=
  Pipeline.θ_run_regions_kit_sems (pcfgs (F := F)) (adm m) (dat m cn bs P) () (cellOf_inj (adm m)) EP defs₀ 𝒱₀ L lv m ρ main (segs m cn bs P h)
    (fun c Q => by rw [main_eq m cn bs P h c])
    (by simp only [segs, Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m cn bs P)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => s.mem (tokLoc c) = m (tokLoc c) ∧ s.mem (arg1Loc c) = m (arg1Loc c) ∧ s.mem (cntLoc c) = m (cntLoc c)
        ∧ Good cn bs P (m (tokLoc c)) 32 (s.mem (outLoc c)))
    (hfin := fun c s' => by
      dsimp only [Tₙ]
      rw [V₄_arg m c main_arg0 (by simp), V₄_arg m c main_arg1 (by simp), V₄_arg m c main_arg2 (by simp)]
      iintro ⟨⟨⟨%f, %hG, Ho⟩, Ht, H1, HC⟩, HSI⟩
      icombine HSI Ho gives %ho
      icombine HSI Ht gives %ht
      icombine HSI H1 gives %h1
      icombine HSI HC gives %hc
      imodintro
      isplitr
      · ipureintro
        refine ⟨Buf.eq_of_forall_mem_univ ht, Buf.eq_of_forall_mem_univ h1, Buf.eq_of_forall_mem_univ hc, ?_⟩
        have e := Buf.eq_of_forall_mem_univ ho
        rw [e]; exact hG
      iexact HSI)
    (hQ := fun _ h hz => ⟨h, funext fun g => hz g (.inr (by revert g; decide))⟩)

end Cert.KernelIdeal.Disp

end
-- ==== Proof.RefValue.lean ====
module

public import proofs.«01_k».proof.Proof.Mask
public import proofs.«01_k».proof.Proof.Launch
public import proofs.«01_k».proof.Proof.Gen.ReferenceIdeal.Read

@[expose] public section

noncomputable section

/-! # The reference's value and the kernel's

The reference's row `r` is the row of the token whose pair is at `r`, and zero where no pair is. -/

namespace Cert.Routed

open Idealize.ShloMosaic Idealize.ShloMosaic.TcCoe Idealize.SL.Sem Idealize.ShloMosaic.StableHlo Idealize.ShloMosaic.Routing Idealize.ShloMosaic.ValueIdx
open Cert.KernelIdeal.Disp Cert.ReferenceIdeal.Read

variable {F : FTy → Type} [FloatOps F]

abbrev Tok (F : FTy → Type) : Type := Cert.KernelIdeal.S262144x128.Idx → Elt F .f32
abbrev Pos : Type := IVec Cert.Pre_routed.S32768x4 32
abbrev Cnt : Type := IVec Cert.Pre_routed.S32 32
abbrev Row : Type := Cert.KernelIdeal.S1114112x128.Idx

/-- The reference's result, as a function of the token rows and the positions. -/
def refVal (A : Tok F) (pos : Pos) : Row → Elt F .f32 := val_main_v12 (F := F) A pos

theorem idx_eq (pos : Pos) : val_main_v10 (F := F) pos = idxW pos := rfl

theorem upd_at (A : Tok F) (q : Fin 131072) (i : Row) (hq : q.val / 4 < 32768) :
    val_main_v4 (F := F) A (ValueIdx.ix2 q (idx_main_v12 i 1)) = tokRow A (q.val / 4) hq (inRow i) := by
  have h0 : (i 0).val < 1114112 := (i 0).isLt
  have h1 : (i 1).val < 128 := (i 1).isLt
  have hq' := q.isLt
  refine ((val_main_v4_apply A _).trans ((val_main_v3_apply A _).trans (val_main_v0_apply A _))).trans ?_
  refine congrArg A (funext fun a => Fin.ext ?_)
  match a with
  | ⟨0, _⟩ =>
    show ((q.val * 1024 + ((i 0).val * 128 + (i 1).val) % 1024) / 4096 * 1024 + (q.val * 1024 + ((i 0).val * 128 + (i 1).val) % 1024) % 1024) / 128
      = 8 * (q.val / 4) + (i 0).val % 8
    omega
  | ⟨1, _⟩ =>
    show ((q.val * 1024 + ((i 0).val * 128 + (i 1).val) % 1024) / 4096 * 1024 + (q.val * 1024 + ((i 0).val * 128 + (i 1).val) % 1024) % 1024) % 128
      = (i 1).val
    omega

theorem lands (pos : Pos) (hp : ∀ (t : Fin 32768) (k : Fin 4), 0 ≤ (pos (ValueIdx.ix2 t k)).toInt) (hl : ∀ q, q < 131072 → pn pos q < 139264)
    (k : Cert.ReferenceIdeal.S131072x1024.Idx) (i : Row) :
    (Cert.ReferenceIdeal.scatter_S139264x1024_S131072x1_S131072x1024_1_0_0_1).resultIdx? k (idxW pos) = some (idx_main_v12 i)
      ↔ pn pos (k 0).val = (i 0).val / 8 ∧ k 1 = idx_main_v12 i 1 := by
  have h1 : (i 1).val < 128 := (i 1).isLt
  have e : idx_main_v12 i = ValueIdx.ix2 (idx_main_v12 i 0) (idx_main_v12 i 1) := by
    funext a
    match a with
    | ⟨0, _⟩ => rfl
    | ⟨1, _⟩ => rfl
  have hk : (k 0).val < 131072 := (k 0).isLt
  have hv : (idx_main_v12 i 0).val = (i 0).val / 8 := by
    show ((i 0).val * 128 + (i 1).val) / 1024 = (i 0).val / 8
    omega
  refine (iff_of_eq (congrArg (fun z => (Cert.ReferenceIdeal.scatter_S139264x1024_S131072x1_S131072x1024_1_0_0_1).resultIdx? k (idxW pos) = some z) e)).trans ?_
  refine (row_lands k (idx_main_v12 i 0) (idx_main_v12 i 1) (idxW pos)).trans ?_
  rw [show idxW pos (ValueIdx.ix2 (k 0) (0 : Fin 1)) = _ from idx_word pos hp (k 0), toInt_word _ ((hl _ hk).trans (by decide)), hv, Int.natCast_inj]

theorem ref_hit (A : Tok F) (pos : Pos) (cnt : Cnt) (R : Routed F pos cnt) (i : Row) (q : ℕ) (hq : q < 131072) (h : pn pos q = (i 0).val / 8) :
    refVal A pos i = tokRow A (q / 4) (by omega) (inRow i) := by
  refine (val_main_v12_apply A pos i).trans ?_
  refine scatter_set_hit _ (val_main_v1 (F := F)) (idxW pos) (val_main_v4 (F := F) A) (idx_main_v12 i) _ (fun k hk => ?_) (ValueIdx.ix2 ⟨q, hq⟩ (idx_main_v12 i 1))
    ((lands pos R.sign R.lt _ i).2 ⟨h, rfl⟩)
  obtain ⟨h0, h1⟩ := (lands pos R.sign R.lt k i).1 hk
  have hk0 : (k 0).val = q := R.inj _ _ (k 0).isLt hq (h0.trans h.symm)
  have ek : k = ValueIdx.ix2 ⟨q, hq⟩ (idx_main_v12 i 1) := by
    funext a
    match a with
    | ⟨0, _⟩ => exact Fin.ext hk0
    | ⟨1, _⟩ => exact h1
  exact (congrArg _ ek).trans (upd_at A ⟨q, hq⟩ i _)

theorem ref_miss (A : Tok F) (pos : Pos) (cnt : Cnt) (R : Routed F pos cnt) (i : Row) (h : ∀ q, q < 131072 → pn pos q ≠ (i 0).val / 8) :
    refVal A pos i = zeroRow (F := F) (inRow i) := by
  refine (val_main_v12_apply A pos i).trans ?_
  refine (scatter_set_miss _ (val_main_v1 (F := F)) (idxW pos) (val_main_v4 (F := F) A) (idx_main_v12 i) (fun k hk => ?_)).trans ?_
  · exact h _ (k 0).isLt ((lands pos R.sign R.lt k i).1 hk).1
  · rfl

/-- What the kernel leaves at a selected element is the reference's value there. -/
theorem good_eq (A : Tok F) (pos : Pos) (cnt : Cnt) (R : Routed F pos cnt) (f : Row → Elt F .f32) (G : Good (cn cnt) (bs cnt) (pn pos) A 32 f)
    (i : Row) (h : Cert.On_rows_in_use.fn (F := F) A pos cnt i = 1#1) : f i = refVal A pos i := by
  obtain ⟨e, he, h1, h2⟩ := mask_rows A pos cnt R.cnt_le i h
  by_cases hit : ∃ q, q < 131072 ∧ pn pos q = (i 0).val / 8
  · obtain ⟨q, hq, hr⟩ := hit
    exact (G.pair q hq (by omega) i hr.symm).trans (ref_hit A pos cnt R i q hq hr).symm
  · have hno : ∀ q, q < 131072 → pn pos q ≠ (i 0).val / 8 := fun q hq hr => hit ⟨q, hq, hr⟩
    have hlive : ¬ (i 0).val / 8 < bs cnt e + cn cnt e := fun hlt => by
      obtain ⟨q, hq, hr⟩ := R.live e _ he h1 hlt
      exact hno q hq hr
    rw [bs_succ] at h2
    refine (G.pad (by omega) e ((i 0).val / 8 - (bs cnt e + cn cnt e)) he ?_ i (by omega) (fun q hq => hno q (by omega))).trans (ref_miss A pos cnt R i hno).symm
    unfold tl at h2
    unfold Cert.KernelIdeal.Gen.npad
    omega

end Cert.Routed

end
-- ==== Proof.Claims.lean ====
module

public import proofs.«01_k».proof.Defs
public import proofs.«01_k».proof.Proof.RefValue
public import proofs.«01_k».proof.Proof.Gen.Kernel
public import proofs.«01_k».proof.Proof.Gen.Kernel.Launch
public import proofs.«01_k».proof.Proof.Gen.Reference
public import proofs.«01_k».proof.Proof.Gen.ReferenceIdeal.Run

@[expose] public section

noncomputable section

/-! # The claims

The launch's hypotheses from the precondition, then each claim. -/

namespace Cert.KernelIdeal.Disp

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The division's stretch: its result from its operands. -/
theorem div_ops (V : Valuation τ sig (Elt F)) : StableHlo.after hostOps0_1 V (Proc.devRef .tc main_v4)
    = Cert.Pre_routed.fn_floor_divide (F := F) (V (Proc.devRef .tc main_v3)) (V (Proc.devRef .tc main_c_1)) := by
  after_reads_simp
  rfl

/-- The running sum's stretch. -/
theorem sum_ops (V : Valuation τ sig (Elt F)) : StableHlo.after hostOps0_2 V (Proc.devRef .tc main_v5)
    = Cert.Pre_routed.fn_cumsum (F := F) (V (Proc.devRef .tc main_v4)) := by
  after_reads_simp
  generalize V (Proc.devRef .tc main_v4) = T
  have cast (X : IVec S32 32) : (StableHlo.TRef.of main_v5 : StableHlo.TRef sig ⟨S32, .i32⟩).toBuf (Val := Elt F) X = X := rfl
  refine (cast _).trans ?_
  show _ = Host.reduceWindow IntOp.addi ![32] ![1] ![31] ![0] (T : IVec S32 32) (broadcastInDim S_ ![] Cert.Pre_routed.Facts.bcast_S_S_ (constantI S_ 32 0#32))
    Cert.Pre_routed.Facts.reduceWindows_S32_S32_w32s1p31_0 Cert.Pre_routed.Facts.h_S_
  refine congrArg₂ (fun (x : IVec S32 32) (v : IVec S_ 32) => (Host.reduceWindow IntOp.addi ![32] ![1] ![31] ![0] x v reduceWindows_S32_S32_w32s1p31_0 h_S_ : IVec S32 32)) ?_ ?_
  · rfl
  · rfl

/-- The second table is the experts' first rows. -/
theorem V₄_base (c : Dev nD) : V₄ m c (Proc.devRef .tc main_v8) = Cert.Routed.baseW F (m (cntLoc c) : S32.Idx → BitVec 32) := by
  have h3 : V₁ m c (Proc.devRef .tc main_v3) = subi (addi (m (cntLoc c) : IVec S32 32) (broadcastInDim S32 ![] Cert.Pre_routed.Facts.bcast_S_S32 (constantI S_ 32 256#32)))
      (broadcastInDim S32 ![] Cert.Pre_routed.Facts.bcast_S_S32 (constantI S_ 32 1#32)) := by
    unfold V₁
    after_reads_simp
    rfl
  have hc : V₁ m c (Proc.devRef .tc main_c_1) = constantI S_ 32 256#32 := by
    unfold V₁
    after_reads_simp
  have h4 : V₂ m c (Proc.devRef .tc main_v4) = Cert.Routed.tilesW F (m (cntLoc c)) :=
    (div_ops (V₁ m c)).trans (congrArg₂ (Cert.Pre_routed.fn_floor_divide (F := F)) h3 hc)
  have h5 : V₃ m c (Proc.devRef .tc main_v5) = Cert.Pre_routed.fn_cumsum (F := F) (Cert.Routed.tilesW F (m (cntLoc c))) :=
    (sum_ops (V₂ m c)).trans (congrArg (Cert.Pre_routed.fn_cumsum (F := F)) h4)
  have h4' : V₃ m c (Proc.devRef .tc main_v4) = Cert.Routed.tilesW F (m (cntLoc c)) := by
    refine Eq.trans ?_ h4
    unfold V₃
    after_reads_simp
  have h8 : V₄ m c (Proc.devRef .tc main_v8) = muli (subi (V₃ m c (Proc.devRef .tc main_v5) : IVec S32 32) (V₃ m c (Proc.devRef .tc main_v4)))
      (broadcastInDim S32 ![] Cert.Pre_routed.Facts.bcast_S_S32 (constantI S_ 32 256#32)) := by
    unfold V₄
    after_reads_simp
  exact h8.trans (congrArg₂ (fun a b => muli (subi a b) (broadcastInDim S32 ![] Cert.Pre_routed.Facts.bcast_S_S32 (constantI S_ 32 256#32))) h5 h4')

/-- The launch's hypotheses, from the precondition. -/
theorem facts_of (c : Dev nD) (R : Cert.Routed.Routed F (m (arg1Loc c)) (m (cntLoc c))) :
    Facts m c (Cert.Routed.cn (m (cntLoc c))) (Cert.Routed.bs (m (cntLoc c))) (Cert.Routed.pn (m (arg1Loc c))) := by
  have hend : ∀ e, Cert.Routed.bs (m (cntLoc c)) e + Cert.Routed.cn (m (cntLoc c)) e + npad (Cert.Routed.cn (m (cntLoc c)) e) = Cert.Routed.bs (m (cntLoc c)) (e + 1) := fun e => by
    rw [Cert.Routed.bs_succ]
    unfold Cert.Routed.tl npad
    omega
  refine ⟨fun t k => ?_, R.lt, R.inj, fun e e' h h' => ?_, fun e he => (R.cnt_le e he).trans_lt (by decide), fun e he => ?_, fun e => ?_, fun e => ?_⟩
  · have hq : 4096 * t.val + k.val < 131072 := by have := t.isLt; have := k.isLt; omega
    refine (congrFun (V₄_pos m c) _).trans ?_
    refine (shapeCast_apply _ shapeCasts_S32768x4_S32x1x4096 _ (ValueIdx.ix2 ⟨(4096 * t.val + k.val) / 4, by omega⟩ ⟨(4096 * t.val + k.val) % 4, by omega⟩) ?_).trans ?_
    · rw [Shape.rowMajor_val_two, Shape.rowMajor_val_three]
      show (4096 * t.val + k.val) / 4 * 4 + (4096 * t.val + k.val) % 4 = (t.val * 1 + 0) * 4096 + k.val
      omega
    · unfold Cert.Routed.pn
      rw [dif_pos hq]
      exact BitVec.eq_of_toNat_eq (by rw [BitVec.toNat_ofNat, Nat.mod_eq_of_lt (BitVec.isLt _)])
  · rw [hend]
    obtain ⟨n, rfl⟩ := Nat.exists_eq_add_of_le (show e + 1 ≤ e' from h)
    exact Cert.Routed.bs_mono _ _ _
  · rw [hend]
    exact R.fits e he
  · refine (congrFun (V₄_arg m c main_arg2 (Or.inr (Or.inr rfl))) _).trans ?_
    refine Eq.trans ?_ (Cert.Routed.cn_word (m (cntLoc c)) e)
    refine congrArg (m (cntLoc c)) (funext fun a => ?_)
    match a with
    | ⟨0, _⟩ => rfl
  · refine (congrFun (V₄_base m c) _).trans ?_
    refine Eq.trans ?_ (Cert.Routed.base_word (F := F) (m (cntLoc c)) R.cnt_le e)
    refine congrArg (Cert.Routed.baseW F (m (cntLoc c))) (funext fun a => ?_)
    match a with
    | ⟨0, _⟩ => rfl

/-- The kernel's run under the precondition: the arguments unchanged, the counters zero, and the reference's value at
    every selected element. -/
theorem run_routed (ρ : Dev nD → PrngReg)
    (h : ∀ c : Dev nD, Cert.Pre_routed.fn (F := F) (m (tokLoc c)) (m (arg1Loc c)) (m (cntLoc c)) = fun _ => 1#1) :
    θ_run defs (onTc (τ := τ) (main (F := F))) ⟨m, fun _ => 0, ρ⟩ (fun r =>
      (∀ c : Dev nD, (∀ i : S1114112x128.Idx, Cert.On_rows_in_use.fn (F := F) (m (tokLoc c)) (m (arg1Loc c)) (m (cntLoc c)) i = 1#1 →
          r.2.mem (outLoc c) i = Cert.Routed.refVal (m (tokLoc c)) (m (arg1Loc c)) i)
        ∧ r.2.mem (tokLoc c) = m (tokLoc c) ∧ r.2.mem (arg1Loc c) = m (arg1Loc c) ∧ r.2.mem (cntLoc c) = m (cntLoc c))
      ∧ r.2.sem = fun _ => 0) := by
  have R := fun c => Cert.Routed.read _ _ _ (h c)
  have e : ∀ c : Dev nD, c = 0 := fun c => Subsingleton.elim _ _
  refine (θ_run defs _ _).mono (fun r hr => ⟨fun c => ?_, hr.2⟩)
    (run_main m ρ (Cert.Routed.cn (m (cntLoc 0))) (Cert.Routed.bs (m (cntLoc 0))) (Cert.Routed.pn (m (arg1Loc 0)))
      (fun c => by obtain rfl := e c; exact facts_of m 0 (R 0)))
  obtain rfl := e c
  obtain ⟨h0, h1, h2, hG⟩ := hr.1 0
  exact ⟨fun i hi => Cert.Routed.good_eq _ _ _ (R 0) _ hG i hi, h0, h1, h2⟩

end Cert.KernelIdeal.Disp

namespace Cert.Proof

open Idealize.ShloMosaic Idealize.ShloMosaic.TcCoe Idealize.SL.Sem Idealize.ShloMosaic.StableHlo

/-- The two programs' body tables are one. -/
theorem defs_eq : Cert.Kernel.defs (F := Bits) = Cert.KernelIdeal.defs (F := Bits) :=
  congrArg (Pipeline.defs _) (show Cert.Kernel.defs₀ (F := Bits) = Cert.KernelIdeal.defs₀ (F := Bits) from
    congrArg Defs.onTc (funext fun l => match l with | 0 => rfl))

theorem ops0_eq : Cert.Kernel.Gen.hostOps0 (F := Bits) = Cert.KernelIdeal.Gen.hostOps0 (F := Bits) := rfl
theorem ops1_eq : Cert.Kernel.Gen.hostOps0_1 (F := Bits) = Cert.KernelIdeal.Gen.hostOps0_1 (F := Bits) := rfl
theorem ops2_eq : Cert.Kernel.Gen.hostOps0_2 (F := Bits) = Cert.KernelIdeal.Gen.hostOps0_2 (F := Bits) := rfl
theorem ops3_eq : Cert.Kernel.Gen.hostOps0_3 (F := Bits) = Cert.KernelIdeal.Gen.hostOps0_3 (F := Bits) := rfl

/-- The two programs' functions are one. -/
theorem main_eq : Cert.Kernel.main (F := Bits) = Cert.KernelIdeal.main (F := Bits) := by
  funext c
  refine (Cert.Kernel.Gen.main_chain (F := Bits) c).trans (Eq.trans ?_ (Cert.KernelIdeal.Gen.main_chain (F := Bits) c).symm)
  rw [ops0_eq, ops1_eq, ops2_eq, ops3_eq]
  rfl

/-- A run of one program is a run of an equal one. -/
theorem moved {nD : ℕ} {τ : Topo} {sig : RefSig} {Val : EltTy → Type} {Λ : Labels} {D D' : Defs nD τ sig Val Λ}
    {p p' : Dev nD → Prog (TpuEff nD τ sig Val Λ .tc) PUnit} (hD : D = D') (hp : p = p') {σ} {Q}
    (h : θ_run D' (onTc p') σ Q) : θ_run D (onTc p) σ Q := by
  subst hD hp
  exact h

theorem frame_kernel : Cert.quiescent_Kernel := fun m ρ hp =>
  moved defs_eq main_eq ((θ_run Cert.KernelIdeal.defs _ _).mono (fun _ h => ⟨fun c => (h.1 c).2, h.2⟩)
    (Cert.KernelIdeal.Disp.run_routed (F := Bits) m ρ hp))

theorem frame_kernelIdeal : Cert.quiescent_KernelIdeal := fun m ρ hp =>
  (θ_run Cert.KernelIdeal.defs _ _).mono (fun _ h => ⟨fun c => (h.1 c).2, h.2⟩) (Cert.KernelIdeal.Disp.run_routed (F := Ideal) m ρ hp)

theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem bitexact : Cert.bitexact_Kernel_Reference_on_rows_in_use := by
  intro m ρ m' ρ' hp ha
  refine ⟨fun c => Cert.Routed.refVal (F := Bits) (m ((c : Thread Cert.Kernel.nD Cert.Kernel.τ).loc Cert.Kernel.main_arg0)) (m ((c : Thread Cert.Kernel.nD Cert.Kernel.τ).loc Cert.Kernel.main_arg1)), ?_, ?_⟩
  · exact moved defs_eq main_eq ((θ_run Cert.KernelIdeal.defs _ _).mono (fun _ h c => h.1 c) (Cert.KernelIdeal.Disp.run_routed (F := Bits) m ρ hp))
  · refine (θ_run Cert.ReferenceIdeal.defs _ _).mono (fun r h c => ⟨fun i _ => ?_, (h c).2⟩) (Cert.ReferenceIdeal.Value.run (F := Bits) m' ρ')
    have e := congrFun ((h c).1.trans (Cert.ReferenceIdeal.Read.val_main_v12_eq (F := Bits) _ _)) i
    refine e.trans ?_
    exact congrFun (congrArg₂ (Cert.Routed.refVal (F := Bits)) (ha c).1 (ha c).2.1) i

theorem algebraic : Cert.algebraic_KernelIdeal_ReferenceIdeal_on_rows_in_use := by
  intro m ρ m' ρ' hp ha
  refine ⟨fun c => Cert.Routed.refVal (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)), ?_, ?_⟩
  · exact (θ_run Cert.KernelIdeal.defs _ _).mono (fun _ h c => h.1 c) (Cert.KernelIdeal.Disp.run_routed (F := Ideal) m ρ hp)
  · refine (θ_run Cert.ReferenceIdeal.defs _ _).mono (fun r h c => ⟨fun i _ => ?_, (h c).2⟩) (Cert.ReferenceIdeal.Value.run (F := Ideal) m' ρ')
    have e := congrFun ((h c).1.trans (Cert.ReferenceIdeal.Read.val_main_v12_eq (F := Ideal) _ _)) i
    refine e.trans ?_
    exact congrFun (congrArg₂ (Cert.Routed.refVal (F := Ideal)) (ha c).1 (ha c).2.1) i

end Cert.Proof

end
-- ==== Proof.XBody.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.Value
public import Idealize.ShloMosaic.Lib.Pipeline.FrameBody
public import Idealize.ShloMosaic.Lib.VecWindow
public import Idealize.ShloMosaic.Lib.Routing.Words

@[expose] public section

noncomputable section

/-! # One grid point of the experts' call

The body at a tile in use, whose block of the result it writes whole, and past the last tile in use, where it does
nothing. -/

namespace Cert.Kernel2Ideal.Exp

open Cert.Kernel2Ideal Cert.Kernel2Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing

variable {F : FTy → Type} [FloatOps F]

abbrev UU : Type := UR sig nD τ × Counters

local notation "𝕄" => MT nD τ sig Unit (Elt F) ℕ UU ℕ

abbrev 𝒱₀ : Variants := Variants.none

abbrev teLoc (c : Dev nD) : Loc nD τ sig := (c : Thread nD τ).loc main_v20
abbrev nuLoc (c : Dev nD) : Loc nD τ sig := (c : Thread nD τ).loc main_v6

section Point

variable (c : Dev nD) (i : grid0.Coords)
  (arg3 : Memref sig .tc .vmem S2048x128 .f32) (h3 : arg3.IsWhole) (arg4 : Memref sig .tc .vmem S1x1024x1024 .bf16) (h4 : arg4.IsWhole)
  (arg5 : Memref sig .tc .vmem S1x1024x1024 .bf16) (h5 : arg5.IsWhole) (arg6 : Memref sig .tc .vmem S1x1x1024 .f32) (h6 : arg6.IsWhole)
  (arg7 : Memref sig .tc .vmem S1x1x1024 .f32) (h7 : arg7.IsWhole) (arg8 : Memref sig .tc .vmem S1x1024x1024 .bf16) (h8 : arg8.IsWhole)
  (arg9 : Memref sig .tc .vmem S1x1x1024 .f32) (h9 : arg9.IsWhole) (arg10 : Memref sig .tc .vmem S2048x128 .f32) (h10 : arg10.IsWhole)

/-- The body, at a point's memrefs. -/
abbrev bodyAt := cc0_experts_skel (F := F) i (Memref.whole main_v20) (Memref.isWhole_whole _) (Memref.whole main_v6) (Memref.isWhole_whole _)
  arg3 h3 arg4 h4 arg5 h5 arg6 h6 arg7 h7 arg8 h8 arg9 h9 arg10 h10

variable (te : Buf (Elt F) ((Memref.whole main_v20).view.loc (c : Thread nD τ))) (nu : Buf (Elt F) ((Memref.whole main_v6).view.loc (c : Thread nD τ)))
  (X3 : S2048x128.Idx → Elt F .f32) (X4 : S1x1024x1024.Idx → Elt F .bf16) (X5 : S1x1024x1024.Idx → Elt F .bf16)
  (X6 : S1x1x1024.Idx → Elt F .f32) (X7 : S1x1x1024.Idx → Elt F .f32) (X8 : S1x1024x1024.Idx → Elt F .bf16) (X9 : S1x1x1024.Idx → Elt F .f32)
  (X10 : S2048x128.Idx → Elt F .f32)

/-- What a point holds. -/
abbrev Held (X10 : S2048x128.Idx → Elt F .f32) : sProp 𝕄 :=
  iprop(((Memref.whole main_v20).view.loc (c : Thread nD τ) ↦[(Memref.whole main_v20).view.set]{fullShare} te)
    ∗ ((Memref.whole main_v6).view.loc (c : Thread nD τ) ↦[(Memref.whole main_v6).view.set]{fullShare} nu) ∗ owns (c : Thread nD τ) arg3 fullShare X3 ∗ owns (c : Thread nD τ) arg4 fullShare X4
    ∗ owns (c : Thread nD τ) arg5 fullShare X5 ∗ owns (c : Thread nD τ) arg6 fullShare X6 ∗ owns (c : Thread nD τ) arg7 fullShare X7
    ∗ owns (c : Thread nD τ) arg8 fullShare X8 ∗ owns (c : Thread nD τ) arg9 fullShare X9 ∗ owns (c : Thread nD τ) arg10 fullShare X10)

/-- The rectangle of chunk `k` of every row: rows `8 r + k` of the block. -/
abbrev rk (k : Fin 8) : Rect S2048x128 where
  off := ![k.val, 0]
  size := S256x128.size
  stride := ![8, 1]
  inb := by revert k; decide
  stride_pos := spos_8_1

/-- Chunk `k` of every row of a tile. -/
def chunk (k : Fin 8) : S256x128.Idx → Elt F .f32 := fun y => X3 ((rk k).emb y)

/-- A tile's rows through the expert: 256 rows of 1024. -/
def rowsOut : FVec F S256x1024 .f32 :=
  k0_pay6 (k0_pay3 (chunk X3 0) (chunk X3 1) (chunk X3 2) (chunk X3 3) (chunk X3 4) (chunk X3 5) (chunk X3 6) (chunk X3 7) X5 X7)
    (k0_pay4 (chunk X3 0) (chunk X3 1) (chunk X3 2) (chunk X3 3) (chunk X3 4) (chunk X3 5) (chunk X3 6) (chunk X3 7) X4 X6)
    (Scalar.ofBits .f32 0x40E00000#32) k0_pay5 X8 X9

/-- The block a tile writes: chunk `k` of row `r` at row `8 r + k`. -/
def blockOut : S2048x128.Idx → Elt F .f32 := fun j =>
  rowsOut X3 X4 X5 X6 X7 X8 X9 (ValueIdx.ix2 (⟨(j 0).val / 8, by have : (j 0).val < 2048 := (j 0).isLt; omega⟩ : Fin 256)
    (⟨(j 0).val % 8 * 128 + (j 1).val, by have : (j 1).val < 128 := (j 1).isLt; omega⟩ : Fin 1024))

/-- Chunk `k` of the rows, as cut out to be written, is the block at the rectangle of chunk `k`. -/
theorem cut_eq (k : Fin 8) (off : Fin 2 → ℕ) (ho : off = ![0, 128 * k.val]) (h : S256x1024.Slices off S256x128) (x : (rk k).shape.Idx) :
    extractStridedSlice S256x128 off (rowsOut X3 X4 X5 X6 X7 X8 X9) h x = blockOut X3 X4 X5 X6 X7 X8 X9 ((rk k).emb x) := by
  subst ho
  unfold blockOut
  have h0 : (((rk k).emb x) 0).val = k.val + 8 * (x 0).val := rfl
  have h1 : (((rk k).emb x) 1).val = 0 + 1 * (x 1).val := rfl
  have hx0 : (x 0).val < 256 := (x 0).isLt
  have hx1 : (x 1).val < 128 := (x 1).isLt
  have hk := k.isLt
  refine extractStridedSlice_apply _ _ _ _ _ fun a => ?_
  match a with
  | ⟨0, _⟩ => show (((rk k).emb x) 0).val / 8 = 0 + (x 0).val; rw [h0]; omega
  | ⟨1, _⟩ => show (((rk k).emb x) 0).val % 8 * 128 + (((rk k).emb x) 1).val = 128 * k.val + (x 1).val; rw [h0, h1]; omega

/-- Eight chunks cover a block. -/
theorem mem_rk (y : S2048x128.Idx) : y ∈ (rk ⟨(y 0).val % 8, Nat.mod_lt _ (by decide)⟩).set := by
  have hy0 : (y 0).val < 2048 := (y 0).isLt
  have hy1 : (y 1).val < 128 := (y 1).isLt
  rw [← Rect.map_emb_univ]
  refine Finset.mem_map.mpr ⟨ValueIdx.ix2 (⟨(y 0).val / 8, by omega⟩ : Fin 256) (⟨(y 1).val, by omega⟩ : Fin 128), Finset.mem_univ _, ?_⟩
  funext a
  match a with
  | ⟨0, _⟩ => apply Fin.ext; show (y 0).val % 8 + 8 * ((y 0).val / 8) = (y 0).val; omega
  | ⟨1, _⟩ => apply Fin.ext; show 0 + 1 * (y 1).val = (y 1).val; omega

/-- What the eight stores leave. -/
theorem stored (v : View sig .tc .vmem S2048x128 .f32) (f : v.ty.Contents (Elt F)) (p0 p1 p2 p3 p4 p5 p6 p7 : S256x128.Idx → Elt F .f32)
    (hp0 : ∀ x : (rk 0).shape.Idx, p0 x = blockOut X3 X4 X5 X6 X7 X8 X9 ((rk 0).emb x))
    (hp1 : ∀ x : (rk 1).shape.Idx, p1 x = blockOut X3 X4 X5 X6 X7 X8 X9 ((rk 1).emb x))
    (hp2 : ∀ x : (rk 2).shape.Idx, p2 x = blockOut X3 X4 X5 X6 X7 X8 X9 ((rk 2).emb x))
    (hp3 : ∀ x : (rk 3).shape.Idx, p3 x = blockOut X3 X4 X5 X6 X7 X8 X9 ((rk 3).emb x))
    (hp4 : ∀ x : (rk 4).shape.Idx, p4 x = blockOut X3 X4 X5 X6 X7 X8 X9 ((rk 4).emb x))
    (hp5 : ∀ x : (rk 5).shape.Idx, p5 x = blockOut X3 X4 X5 X6 X7 X8 X9 ((rk 5).emb x))
    (hp6 : ∀ x : (rk 6).shape.Idx, p6 x = blockOut X3 X4 X5 X6 X7 X8 X9 ((rk 6).emb x))
    (hp7 : ∀ x : (rk 7).shape.Idx, p7 x = blockOut X3 X4 X5 X6 X7 X8 X9 ((rk 7).emb x)) :
    v.read (Elt F) (v.writes (Elt F) f [⟨rk 7, p7⟩, ⟨rk 6, p6⟩, ⟨rk 5, p5⟩, ⟨rk 4, p4⟩, ⟨rk 3, p3⟩, ⟨rk 2, p2⟩, ⟨rk 1, p1⟩, ⟨rk 0, p0⟩]) = blockOut X3 X4 X5 X6 X7 X8 X9 := by
  have key : ∀ k : Fin 8, ∃ q ∈ ([⟨rk 7, p7⟩, ⟨rk 6, p6⟩, ⟨rk 5, p5⟩, ⟨rk 4, p4⟩, ⟨rk 3, p3⟩, ⟨rk 2, p2⟩, ⟨rk 1, p1⟩, ⟨rk 0, p0⟩] : List (View.Piece (Elt F) S2048x128 .f32)), q.1 = rk k := by
    intro k
    match k with
    | 0 => exact ⟨⟨rk 0, p0⟩, by simp, rfl⟩
    | 1 => exact ⟨⟨rk 1, p1⟩, by simp, rfl⟩
    | 2 => exact ⟨⟨rk 2, p2⟩, by simp, rfl⟩
    | 3 => exact ⟨⟨rk 3, p3⟩, by simp, rfl⟩
    | 4 => exact ⟨⟨rk 4, p4⟩, by simp, rfl⟩
    | 5 => exact ⟨⟨rk 5, p5⟩, by simp, rfl⟩
    | 6 => exact ⟨⟨rk 6, p6⟩, by simp, rfl⟩
    | 7 => exact ⟨⟨rk 7, p7⟩, by simp, rfl⟩
  have cover : ∀ y : S2048x128.Idx, ∃ q ∈ ([⟨rk 7, p7⟩, ⟨rk 6, p6⟩, ⟨rk 5, p5⟩, ⟨rk 4, p4⟩, ⟨rk 3, p3⟩, ⟨rk 2, p2⟩, ⟨rk 1, p1⟩, ⟨rk 0, p0⟩] : List (View.Piece (Elt F) S2048x128 .f32)), y ∈ q.1.set := by
    intro y
    obtain ⟨q, hq, e⟩ := key ⟨(y 0).val % 8, Nat.mod_lt _ (by decide)⟩
    exact ⟨q, hq, e ▸ mem_rk y⟩
  rw [View.read_writes_eq_canon _ _ _ cover]
  funext y
  refine View.canon_apply_of_pieces (blockOut X3 X4 X5 X6 X7 X8 X9) _ ?_ y (cover y)
  intro q hq x
  simp only [List.mem_cons, List.not_mem_nil, or_false] at hq
  rcases hq with rfl | rfl | rfl | rfl | rfl | rfl | rfl | rfl
  · exact hp7 x
  · exact hp6 x
  · exact hp5 x
  · exact hp4 x
  · exact hp3 x
  · exact hp2 x
  · exact hp1 x
  · exact hp0 x

/-- Whether the tile at a point is in use, from the count the table holds. -/
abbrev live : BitVec 1 := k0_cond1 i ((Memref.whole main_v6).view.read (Elt F) nu (ValueIdx.ix1 (0 : Fin 1)))

theorem run :
    Held c arg3 arg4 arg5 arg6 arg7 arg8 arg9 arg10 te nu X3 X4 X5 X6 X7 X8 X9 X10
      ⊢ wp frame (wpE (defs₀ (F := F)) 𝒱₀ (c : Thread nD τ) none) Set.univ (bodyAt i arg3 h3 arg4 h4 arg5 h5 arg6 h6 arg7 h7 arg8 h8 arg9 h9 arg10 h10)
        fun _ => Held c arg3 arg4 arg5 arg6 arg7 arg8 arg9 arg10 te nu X3 X4 X5 X6 X7 X8 X9
          (if live c i nu = 1#1 then blockOut X3 X4 X5 X6 X7 X8 X9 else X10) := by
  unfold Held
  rw [owns_eq_rep, owns_eq_rep, owns_eq_rep, owns_eq_rep, owns_eq_rep, owns_eq_rep, owns_eq_rep, owns_eq_rep, owns_eq_rep]
  iintro ⟨HT, HN, H3, H4, H5, H6, H7, H8, H9, H10⟩
  sl_unfold [bodyAt]; sl_unfold [cc0_experts_skel]
  sl_exec
  sl_step
  isplitl [HT]; · iexact HT
  isplitl [HN]; · iexact HN
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (pointsTo_rep_of_read (c : Thread nD τ) arg10 _ fullShare
    (if live c i nu = 1#1 then blockOut X3 X4 X5 X6 X7 X8 X9 else X10) ?_) $$ H10
  have hl : run.sl.r c nu = (Memref.whole main_v6).view.read (Elt F) nu (ValueIdx.ix1 (0 : Fin 1)) := by
    unfold run.sl.r
    rw [View.readAt_apply]
    exact congrArg _ (funext fun a => match a with | ⟨0, _⟩ => Subsingleton.elim (α := Fin 1) _ _)
  have hv0 : run.sl.v4 c arg3 X3 = chunk X3 0 := by unfold run.sl.v4; exact View.readAt_rep _ _ _
  have hv1 : run.sl.v5 c arg3 X3 = chunk X3 1 := by unfold run.sl.v5; exact View.readAt_rep _ _ _
  have hv2 : run.sl.v6 c arg3 X3 = chunk X3 2 := by unfold run.sl.v6; exact View.readAt_rep _ _ _
  have hv3 : run.sl.v7 c arg3 X3 = chunk X3 3 := by unfold run.sl.v7; exact View.readAt_rep _ _ _
  have hv4 : run.sl.v8 c arg3 X3 = chunk X3 4 := by unfold run.sl.v8; exact View.readAt_rep _ _ _
  have hv5 : run.sl.v9 c arg3 X3 = chunk X3 5 := by unfold run.sl.v9; exact View.readAt_rep _ _ _
  have hv6 : run.sl.v10 c arg3 X3 = chunk X3 6 := by unfold run.sl.v10; exact View.readAt_rep _ _ _
  have hv7 : run.sl.v11 c arg3 X3 = chunk X3 7 := by unfold run.sl.v11; exact View.readAt_rep _ _ _
  have h1 : run.sl.r_1 c arg3 arg5 arg7 X3 X5 X7 = k0_pay3 (chunk X3 0) (chunk X3 1) (chunk X3 2) (chunk X3 3) (chunk X3 4) (chunk X3 5) (chunk X3 6) (chunk X3 7) X5 X7 := by
    unfold run.sl.r_1
    rw [hv0, hv1, hv2, hv3, hv4, hv5, hv6, hv7, View.readAt_rep_full, View.readAt_rep_full]
  have h2 : run.sl.r_2 c arg3 arg4 arg6 X3 X4 X6 = k0_pay4 (chunk X3 0) (chunk X3 1) (chunk X3 2) (chunk X3 3) (chunk X3 4) (chunk X3 5) (chunk X3 6) (chunk X3 7) X4 X6 := by
    unfold run.sl.r_2
    rw [hv0, hv1, hv2, hv3, hv4, hv5, hv6, hv7, View.readAt_rep_full, View.readAt_rep_full]
  have hy : k0_pay6 (run.sl.r_1 c arg3 arg5 arg7 X3 X5 X7) (run.sl.r_2 c arg3 arg4 arg6 X3 X4 X6) run.sl.cst_24 k0_pay5
      (View.readAt (Elt F) arg8.view (Rect.unit ![0, 0, 0] S1x1024x1024.size inb_S1x1024x1024_S1x1024x1024_0_0_0).toLoadRect (arg8.view.rep X8))
      (View.readAt (Elt F) arg9.view (Rect.unit ![0, 0, 0] S1x1x1024.size inb_S1x1x1024_S1x1x1024_0_0_0).toLoadRect (arg9.view.rep X9))
      = rowsOut X3 X4 X5 X6 X7 X8 X9 := by
    rw [h1, h2, View.readAt_rep_full, View.readAt_rep_full]
    unfold rowsOut run.sl.cst_24
    rfl
  have hr3 : run.sl.r_3 c arg3 arg4 arg5 arg6 arg7 arg8 arg9 X3 X4 X5 X6 X7 X8 X9 = rowsOut X3 X4 X5 X6 X7 X8 X9 := by
    unfold run.sl.r_3
    exact hy
  have hr4 : run.sl.r_4 c arg3 arg4 arg5 arg6 arg7 arg8 arg9 X3 X4 X5 X6 X7 X8 X9
      = extractStridedSlice S256x128 ![0, 768] (rowsOut X3 X4 X5 X6 X7 X8 X9) slices_S256x1024_o0_768_S256x128 := by
    unfold run.sl.r_4 k0_pay13
    exact congrArg (fun R => extractStridedSlice S256x128 ![0, 768] R slices_S256x1024_o0_768_S256x128) hy
  rw [hl, hr3, hr4]
  by_cases h : live c i nu = 1#1
  · rw [dif_pos h, if_pos h]
    refine stored X3 X4 X5 X6 X7 X8 X9 arg10.view _ _ _ _ _ _ _ _ _ (fun x => ?_) (fun x => ?_) (fun x => ?_) (fun x => ?_) (fun x => ?_) (fun x => ?_) (fun x => ?_) (fun x => ?_)
    · unfold k0_pay7; dsimp only; rw [hy]; exact cut_eq X3 X4 X5 X6 X7 X8 X9 0 _ rfl _ x
    · unfold k0_pay8; dsimp only; rw [hy]; exact cut_eq X3 X4 X5 X6 X7 X8 X9 1 _ rfl _ x
    · unfold k0_pay9; dsimp only; rw [hy]; exact cut_eq X3 X4 X5 X6 X7 X8 X9 2 _ rfl _ x
    · unfold k0_pay10; dsimp only; rw [hy]; exact cut_eq X3 X4 X5 X6 X7 X8 X9 3 _ rfl _ x
    · unfold k0_pay11; dsimp only; rw [hy]; exact cut_eq X3 X4 X5 X6 X7 X8 X9 4 _ rfl _ x
    · unfold k0_pay12; dsimp only; rw [hy]; exact cut_eq X3 X4 X5 X6 X7 X8 X9 5 _ rfl _ x
    · exact cut_eq X3 X4 X5 X6 X7 X8 X9 6 _ rfl _ x
    · unfold k0_pay1; exact cut_eq X3 X4 X5 X6 X7 X8 X9 7 _ rfl _ x
  · rw [dif_neg h, if_neg h]
    exact View.read_rep _ _

end Point
end Cert.Kernel2Ideal.Exp
end
-- ==== Proof.XDat.lean ====
module

public import proofs.«01_k».proof.Proof.XBody
public import Idealize.ShloMosaic.Lib.Pipeline.Regions
public import Idealize.ShloMosaic.Lib.StableHlo.RunRead
public import Idealize.ShloMosaic.Lib.StableHlo.ReadAt

@[expose] public section

noncomputable section

/-! # The experts' pipeline

The two tables as numbers, the windows they pin, and what every window's buffer holds at every point: an input its block,
the result the block of the last tile in use so far. -/

namespace Cert.Kernel2Ideal.Exp

open Cert.Kernel2Ideal Cert.Kernel2Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

def V₀ (c : Dev nD) : Valuation τ sig (Elt F) := fun b => m ((c : Dev nD), b)
def V₁ (c : Dev nD) : Valuation τ sig (Elt F) := StableHlo.after hostOps0 (V₀ m c)
def V₂ (c : Dev nD) : Valuation τ sig (Elt F) := StableHlo.after hostOps0_1 (V₁ m c)
def V₃ (c : Dev nD) : Valuation τ sig (Elt F) := StableHlo.after hostOps0_2 (V₂ m c)
def V₄ (c : Dev nD) : Valuation τ sig (Elt F) := StableHlo.after hostOps0_3 (V₃ m c)

/-- The tables the call is given: the expert of every tile, the number of tiles in use. -/
def pfT : pre0.Contents (Elt F) :=
  fun | 0 => V₄ m 0 (Proc.devRef .tc main_v20) | 1 => V₄ m 0 (Proc.devRef .tc main_v6) | ⟨_ + 2, h⟩ => absurd h (Nat.not_lt.2 (Nat.le_add_left _ _))

/-- What the launch needs of the memory: the tables as naturals, in bounds. -/
structure Facts (te : ℕ → ℕ) (n : ℕ) : Prop where
  tab : ∀ t : Fin 544, (V₄ m 0 (Proc.devRef .tc main_v20) : S544.Idx → BitVec 32) (ix1 t) = BitVec.ofNat 32 (te t.val)
  te_lt : ∀ t, te t < 32
  num : ∀ x, (V₄ m 0 (Proc.devRef .tc main_v6) : S1.Idx → BitVec 32) x = BitVec.ofNat 32 n
  pos : 1 ≤ n
  lt : n < 2 ^ 31

theorem coords_val (t : Fin grid0.N) : ((grid0.coords t) 0).val = t.val := by
  have h : ∀ t : Fin grid0.N, ((grid0.coords t) 0).val = t.val := by decide +kernel
  exact h t

theorem coord_lt (i : grid0.Coords) : (i 0).val < 544 := (i 0).isLt

theorem toInt_small (n : ℕ) (h : n < 2 ^ 31) : (BitVec.ofNat 32 n).toInt = (n : Int) := StableHlo.Predicate.toInt_ofNat_small _ h

theorem min_word (a n : ℕ) (ha : a < 2 ^ 31) (hn : n < 2 ^ 31) (h1 : 1 ≤ n) :
    (Scalar.minsi (BitVec.ofNat 32 a) (Scalar.subi (BitVec.ofNat 32 n) 1#32)).toNat = min a (n - 1) := by
  have e : Scalar.subi (BitVec.ofNat 32 n) 1#32 = BitVec.ofNat 32 (n - 1) := by
    show BitVec.ofNat 32 n - BitVec.ofNat 32 1 = _
    rw [show n = (n - 1) + 1 from by omega, BitVec.ofNat_add, BitVec.add_sub_cancel]
    rfl
  rw [e]
  show (IntOp.minsi (BitVec.ofNat 32 a) (BitVec.ofNat 32 (n - 1))).toNat = _
  unfold IntOp.minsi
  rw [BitVec.slt_eq_decide, toInt_small a ha, toInt_small (n - 1) (by omega)]
  by_cases h : a < n - 1
  · simp [h]; omega
  · simp [h]; omega

theorem cond_iff (i : grid0.Coords) (n : ℕ) (hn : n < 2 ^ 31) : k0_cond1 i (BitVec.ofNat 32 n) = 1#1 ↔ (i 0).val < n := by
  have hi := coord_lt i
  have h : (IntOp.cmpi .slt (BitVec.ofNat 32 (i 0).val) (BitVec.ofNat 32 n)) = BitVec.ofBool (decide ((i 0).val < n)) := by
    show BitVec.ofBool _ = _
    rw [BitVec.slt_eq_decide, toInt_small _ (by omega), toInt_small n hn]
    simp
  unfold k0_cond1
  show IntOp.cmpi .ne ((IntOp.cmpi .slt (BitVec.ofNat 32 (i 0).val) (BitVec.ofNat 32 n)).setWidth 32) 0#32 = 1#1 ↔ _
  rw [h]
  by_cases h : (i 0).val < n
  · simp only [h, decide_true, iff_true]; decide
  · simp only [h, decide_false, iff_false]; decide

variable {m} {te : ℕ → ℕ} {n : ℕ} (h : Facts m te n)
include h

/-- The blocks of the activations and of the result: tile `t`, or the last one in use. -/
theorem ix_rows (i : grid0.Coords) : cc0_transform_0 inb_S1_S1_0 numel1_S1 (pfT m) i = ![min (i 0).val (n - 1), 0] := by
  have hi := coord_lt i
  unfold cc0_transform_0
  have e : (pfT m).at 1 (Rect.unit (s := S1) ![0] S1.size inb_S1_S1_0) numel1_S1 = BitVec.ofNat 32 n := h.num _
  dsimp only
  rw [e, min_word _ _ (by omega) h.lt h.pos]
  rfl

theorem ix_out (i : grid0.Coords) : cc0_transform_7 inb_S1_S1_0 numel1_S1 (pfT m) i = ![min (i 0).val (n - 1), 0] := ix_rows h i

/-- The blocks of the weights: the tile's expert. -/
theorem ix_exp (i : grid0.Coords) : cc0_transform_1 k0_off1_inb numel1_S1 (pfT m) i = ![te (i 0).val, 0, 0] := by
  have hi := coord_lt i
  unfold cc0_transform_1
  have e : (pfT m).at 0 (Rect.unit (s := S544) ![(Scalar.indexCast (BitVec.ofNat 32 (i 0).val)).toNat] S1.size (k0_off1_inb i)) numel1_S1 = BitVec.ofNat 32 (te (i 0).val) := by
    refine Eq.trans (congrArg (V₄ m 0 (Proc.devRef .tc main_v20) : S544.Idx → BitVec 32) (funext fun a => ?_)) (h.tab ⟨(i 0).val, hi⟩)
    match a with
    | ⟨0, _⟩ =>
      apply Fin.ext
      show (BitVec.ofNat 32 (i 0).val).toNat + 1 * 0 = (i 0).val
      rw [BitVec.toNat_ofNat]
      omega
  dsimp only
  rw [e, BitVec.toNat_ofNat, Nat.mod_eq_of_lt (lt_trans (h.te_lt _) (by decide))]
  rfl

theorem tables_ok : ok0 (pfT m) := by
  unfold ok0
  have hn := h.pos
  have r : ∀ i : grid0.Coords, ∀ a, (cc0_transform_0 inb_S1_S1_0 numel1_S1 (pfT m) i a + 1) * S2048x128.size a ≤ S1114112x128.size a := by
    intro i a
    have hi := coord_lt i
    rw [ix_rows h i]
    match a with
    | ⟨0, _⟩ => show (min (i 0).val (n - 1) + 1) * 2048 ≤ 1114112; omega
    | ⟨1, _⟩ => show (0 + 1) * 128 ≤ 128; omega
  have w : ∀ i : grid0.Coords, ∀ a, (cc0_transform_1 k0_off1_inb numel1_S1 (pfT m) i a + 1) * S1x1024x1024.size a ≤ S32x1024x1024.size a := by
    intro i a
    have ht := h.te_lt (i 0).val
    rw [ix_exp h i]
    match a with
    | ⟨0, _⟩ => show (te (i 0).val + 1) * 1 ≤ 32; omega
    | ⟨1, _⟩ => show (0 + 1) * 1024 ≤ 1024; omega
    | ⟨2, _⟩ => show (0 + 1) * 1024 ≤ 1024; omega
  have b : ∀ i : grid0.Coords, ∀ a, (cc0_transform_3 k0_off1_inb numel1_S1 (pfT m) i a + 1) * S1x1x1024.size a ≤ S32x1x1024.size a := by
    intro i a
    have ht := h.te_lt (i 0).val
    rw [show cc0_transform_3 k0_off1_inb numel1_S1 (pfT m) i = ![te (i 0).val, 0, 0] from ix_exp h i]
    match a with
    | ⟨0, _⟩ => show (te (i 0).val + 1) * 1 ≤ 32; omega
    | ⟨1, _⟩ => show (0 + 1) * 1 ≤ 1; omega
    | ⟨2, _⟩ => show (0 + 1) * 1024 ≤ 1024; omega
  have ww : ∀ i : grid0.Coords, ∃ hb : (∀ a, (cc0_transform_1 k0_off1_inb numel1_S1 (pfT m) i a + 1) * S1x1024x1024.size a ≤ S32x1024x1024.size a),
      EltTy.bits .bf16 = 32 ∨ (Rect.block (s := S32x1024x1024) S1x1024x1024.size (cc0_transform_1 k0_off1_inb numel1_S1 (pfT m) i) hb).WholeWords (EltTy.packing .bf16) := by
    refine fun i => ⟨w i, .inr (.inr ⟨by decide, rfl, ?_, rfl⟩)⟩
    show cc0_transform_1 k0_off1_inb numel1_S1 (pfT m) i 1 * 1024 = 0
    rw [ix_exp h i]
    rfl
  exact ⟨fun i => ⟨r i, .inl rfl⟩, ww, ww, fun i => ⟨b i, .inl rfl⟩, fun i => ⟨b i, .inl rfl⟩, ww, fun i => ⟨b i, .inl rfl⟩, fun i => ⟨r i, .inl rfl⟩⟩

def adm : (p : Fin 1) → (pcfgs (F := F) p).Adm := fun _ => ⟨pfT m, tables_ok h⟩

/-- The inputs' blocks at a point. -/
def b0 (t : Fin grid0.N) : S2048x128.Idx → Elt F .f32 := ((cfg0 (adm h 0)).win 0).blk t |>.view.read (Elt F) (V₄ m 0 (Proc.devRef .tc main_arg0))
def b1 (t : Fin grid0.N) : S1x1024x1024.Idx → Elt F .bf16 := ((cfg0 (adm h 0)).win 1).blk t |>.view.read (Elt F) (V₄ m 0 (Proc.devRef .tc main_v22))
def b2 (t : Fin grid0.N) : S1x1024x1024.Idx → Elt F .bf16 := ((cfg0 (adm h 0)).win 2).blk t |>.view.read (Elt F) (V₄ m 0 (Proc.devRef .tc main_v24))
def b3 (t : Fin grid0.N) : S1x1x1024.Idx → Elt F .f32 := ((cfg0 (adm h 0)).win 3).blk t |>.view.read (Elt F) (V₄ m 0 (Proc.devRef .tc main_v26))
def b4 (t : Fin grid0.N) : S1x1x1024.Idx → Elt F .f32 := ((cfg0 (adm h 0)).win 4).blk t |>.view.read (Elt F) (V₄ m 0 (Proc.devRef .tc main_v28))
def b5 (t : Fin grid0.N) : S1x1024x1024.Idx → Elt F .bf16 := ((cfg0 (adm h 0)).win 5).blk t |>.view.read (Elt F) (V₄ m 0 (Proc.devRef .tc main_v29))
def b6 (t : Fin grid0.N) : S1x1x1024.Idx → Elt F .f32 := ((cfg0 (adm h 0)).win 6).blk t |>.view.read (Elt F) (V₄ m 0 (Proc.devRef .tc main_v30))

/-- The block of the result at a point. -/
def outAt (t : Fin grid0.N) : S2048x128.Idx → Elt F .f32 := blockOut (b0 h t) (b1 h t) (b2 h t) (b3 h t) (b4 h t) (b5 h t) (b6 h t)

/-- The last point up to `t` whose tile is in use. -/
def lastUsed (n : ℕ) (t : Fin grid0.N) : Fin grid0.N := ⟨min t.val (n - 1), lt_of_le_of_lt (min_le_left _ _) t.isLt⟩

/-- The two tables, held. -/
def Φs (c : Dev nD) : sProp 𝕄 :=
  iprop((teLoc c ↦{fullShare} V₄ m 0 (Proc.devRef .tc main_v20)) ∗ (nuLoc c ↦{fullShare} V₄ m 0 (Proc.devRef .tc main_v6)))

def dat (_ : Fin 1) (c : Dev nD) : Dat τ (Elt F) Unit ℕ UU ℕ (cfg0 (adm h 0)) c where
  A w := match w with
    | ⟨0, _⟩ => V₄ m 0 (Proc.devRef .tc main_arg0) | ⟨1, _⟩ => V₄ m 0 (Proc.devRef .tc main_v22) | ⟨2, _⟩ => V₄ m 0 (Proc.devRef .tc main_v24)
    | ⟨3, _⟩ => V₄ m 0 (Proc.devRef .tc main_v26) | ⟨4, _⟩ => V₄ m 0 (Proc.devRef .tc main_v28) | ⟨5, _⟩ => V₄ m 0 (Proc.devRef .tc main_v29)
    | ⟨6, _⟩ => V₄ m 0 (Proc.devRef .tc main_v30) | ⟨7, _⟩ => V₄ m 0 (Proc.devRef .tc main_v31)
  after w t := match w with
    | ⟨0, _⟩ => b0 h t | ⟨1, _⟩ => b1 h t | ⟨2, _⟩ => b2 h t | ⟨3, _⟩ => b3 h t | ⟨4, _⟩ => b4 h t | ⟨5, _⟩ => b5 h t | ⟨6, _⟩ => b6 h t
    | ⟨7, _⟩ => outAt h (lastUsed n t)
  Φ _ := Φs (m := m) c
  q _ := fullShare
  owed _ := 0

theorem before0 (c : Dev nD) (t : Fin grid0.N) (d) : (dat h 0 c).before 0 t d = b0 h t :=
  (dat h 0 c).before_in_eq_fetched 0 rfl (fun _ => rfl) (fun _ _ _ => rfl) (fun _ => rfl) t d
theorem before1 (c : Dev nD) (t : Fin grid0.N) (d) : (dat h 0 c).before 1 t d = b1 h t :=
  (dat h 0 c).before_in_eq_fetched 1 rfl (fun _ => rfl) (fun _ _ _ => rfl) (fun _ => rfl) t d
theorem before2 (c : Dev nD) (t : Fin grid0.N) (d) : (dat h 0 c).before 2 t d = b2 h t :=
  (dat h 0 c).before_in_eq_fetched 2 rfl (fun _ => rfl) (fun _ _ _ => rfl) (fun _ => rfl) t d
theorem before3 (c : Dev nD) (t : Fin grid0.N) (d) : (dat h 0 c).before 3 t d = b3 h t :=
  (dat h 0 c).before_in_eq_fetched 3 rfl (fun _ => rfl) (fun _ _ _ => rfl) (fun _ => rfl) t d
theorem before4 (c : Dev nD) (t : Fin grid0.N) (d) : (dat h 0 c).before 4 t d = b4 h t :=
  (dat h 0 c).before_in_eq_fetched 4 rfl (fun _ => rfl) (fun _ _ _ => rfl) (fun _ => rfl) t d
theorem before5 (c : Dev nD) (t : Fin grid0.N) (d) : (dat h 0 c).before 5 t d = b5 h t :=
  (dat h 0 c).before_in_eq_fetched 5 rfl (fun _ => rfl) (fun _ _ _ => rfl) (fun _ => rfl) t d
theorem before6 (c : Dev nD) (t : Fin grid0.N) (d) : (dat h 0 c).before 6 t d = b6 h t :=
  (dat h 0 c).before_in_eq_fetched 6 rfl (fun _ => rfl) (fun _ _ _ => rfl) (fun _ => rfl) t d

/-! ## The result's window -/

theorem N544 (t : Fin grid0.N) : t.val < 544 := lt_of_lt_of_eq t.isLt N_0

theorem live_word (t : Fin grid0.N) : (pfT m).atD 1 ![0] = BitVec.ofNat 32 n := by
  unfold Pipeline.Prefetch.Contents.atD
  rw [dif_pos (by decide)]
  exact h.num _

omit h in
theorem idle_at (a : (pcfg0 (F := F)).Adm) (w : Fin 8) (i : grid0.Coords) : (cfg0 a).idle w i = idle0 a.1 w i := rfl

/-- The result's buffer is left alone exactly past the tiles in use. -/
theorem idle7 (t : Fin grid0.N) : (cfg0 (adm h 0)).idle 7 (grid0.coords t) = !decide (t.val < n) := by
  have key : ∀ w : BitVec 32, w = BitVec.ofNat 32 n → (!(k0_cond1 (grid0.coords t) w == 1#1)) = !decide (t.val < n) := by
    rintro w rfl
    have := cond_iff (grid0.coords t) n h.lt
    rw [coords_val] at this
    by_cases hc : t.val < n
    · rw [this.2 hc]; simp [hc]
    · have : ¬ k0_cond1 (grid0.coords t) (BitVec.ofNat 32 n) = 1#1 := fun e => hc (this.1 e)
      simp [this, hc]
  have lw := live_word h t
  have e : (cfg0 (adm h 0)).idle 7 (grid0.coords t) = !(k0_cond1 (grid0.coords t) ((pfT m).atD 1 ![0]) == 1#1) := by
    have e1 := idle_at (adm h 0) 7 (grid0.coords t)
    have e2 : ∀ pf i, idle0 (F := F) pf 7 i = !(k0_cond1 i (pf.atD 1 ![0]) == 1#1) := fun pf i => rfl
    exact e1.trans (e2 _ _)
  generalize (pfT m).atD 1 ![0] = w at lw e
  exact e.trans (key w lw)

theorem index7 (t : Fin grid0.N) : ((cfg0 (adm h 0)).win 7).index t = ![min t.val (n - 1), 0] := by
  have := ix_out h (grid0.coords t)
  rw [coords_val] at this
  exact this

/-- A block goes out where the next point's is another, and at the last point. -/
theorem flush7 (t : Fin grid0.N) : ((cfg0 (adm h 0)).win 7).flush t = decide (t.val + 1 = 544 ∨ t.val + 1 < n) := by
  have hN := N_0
  have ht := N544 h t
  rw [Pipeline.Window.flush_eq_flushF]
  unfold Pipeline.Window.flushF
  rw [show ((cfg0 (adm h 0)).win 7).isOut = true from rfl, Bool.true_and]
  rw [Bool.eq_iff_iff]
  simp only [Bool.or_eq_true, decide_eq_true_eq]
  constructor
  · rintro (h1 | ⟨h1, a, ha⟩)
    · exact .inl (by rw [← hN]; exact h1)
    · right
      by_contra hc
      refine ha ?_
      rw [index7 h, index7 h]
      have e : min (t.val + 1) (n - 1) = min t.val (n - 1) := by omega
      show (![min (t.val + 1) (n - 1), 0] : Fin 2 → ℕ) a = _
      rw [e]
  · rintro (h1 | h1)
    · exact .inl (h1.trans hN.symm)
    · by_cases h2 : t.val + 1 = 544
      · exact .inl (h2.trans hN.symm)
      · refine .inr ⟨by show t.val + 1 < grid0.N; omega, (0 : Fin 2), ?_⟩
        rw [index7 h, index7 h]
        show min (t.val + 1) (n - 1) ≠ min t.val (n - 1)
        omega

/-- Past the tiles in use the buffer still holds the last one's block. -/
theorem fresh7 : ∀ t : ℕ, t < 544 → n ≤ t → (cfg0 (adm h 0)).fresh 7 t = false
  | 0, _, hn => absurd h.pos (by omega)
  | t + 1, ht, hn => by
    have hN := N_0
    rw [Pipeline.Cfg.fresh_succ _ _ _ (show t < grid0.N by omega), flush7 h, idle7 h]
    have e1 : decide (t + 1 = 544 ∨ t + 1 < n) = false := decide_eq_false (by omega)
    simp only [e1, Bool.false_or]
    by_cases hc : t < n
    · simp [hc]
    · rw [fresh7 t (by omega) (by omega), Bool.and_false]

theorem before7 (c : Dev nD) (t : Fin grid0.N) (ht : n ≤ t.val) (d) : (dat h 0 c).before 7 t d = outAt h (lastUsed n t) := by
  have hp := h.pos
  rw [(dat h 0 c).before_out_traj 7 rfl (fun _ _ => rfl) (fun t h0 hi _ => ?_) t.val t rfl d, if_neg (by rw [fresh7 h _ (N544 h t) ht]; exact Bool.false_ne_true)]
  · show outAt h (lastUsed n _) = _
    refine congrArg (outAt h) (Fin.ext ?_)
    show min (t.val - 1) (n - 1) = min t.val (n - 1)
    omega
  · have hi' : (!decide (t.val < n)) = true := (idle7 h t).symm.trans hi
    have : ¬ t.val < n := by simpa using hi'
    show outAt h (lastUsed n t) = outAt h (lastUsed n _)
    refine congrArg (outAt h) (Fin.ext ?_)
    show min t.val (n - 1) = min (t.val - 1) (n - 1)
    omega

end Cert.Kernel2Ideal.Exp
end
-- ==== Proof.XLaunch.lean ====
module

public import proofs.«01_k».proof.Proof.XDat

@[expose] public section

noncomputable section

/-! # The experts' launch

The host operations (the tables, the interleaved weights taken apart), then the grid: every tile in use ends with its
block of the result. -/

namespace Cert.Kernel2Ideal.Exp

open Cert.Kernel2Ideal Cert.Kernel2Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing
open Idealize.ShloMosaic.Pipeline (Dat BodyObligation)

variable {F : FTy → Type} [FloatOps F]

local notation "𝕄" => MT nD τ sig Unit (Elt F) ℕ UU ℕ

section Grid

variable {m : (ℓ : Loc nD τ sig) → Buf (Elt F) ℓ} {te : ℕ → ℕ} {n : ℕ} (h : Facts m te n)
include h

theorem live_iff (c : Dev nD) (t : Fin grid0.N) : live c (grid0.coords t) (V₄ m 0 (Proc.devRef .tc main_v6)) = 1#1 ↔ t.val < n := by
  have := cond_iff (grid0.coords t) n h.lt
  rw [coords_val] at this
  refine Iff.trans (Iff.of_eq (congrArg (fun w => k0_cond1 (grid0.coords t) w = 1#1) ?_)) this
  exact h.num _

/-- One grid point. -/
theorem point (c : Dev nD) (t : Fin grid0.N)
    (arg3 : Memref sig .tc .vmem S2048x128 .f32) (h3 : arg3.IsWhole) (arg4 : Memref sig .tc .vmem S1x1024x1024 .bf16) (h4 : arg4.IsWhole)
    (arg5 : Memref sig .tc .vmem S1x1024x1024 .bf16) (h5 : arg5.IsWhole) (arg6 : Memref sig .tc .vmem S1x1x1024 .f32) (h6 : arg6.IsWhole)
    (arg7 : Memref sig .tc .vmem S1x1x1024 .f32) (h7 : arg7.IsWhole) (arg8 : Memref sig .tc .vmem S1x1024x1024 .bf16) (h8 : arg8.IsWhole)
    (arg9 : Memref sig .tc .vmem S1x1x1024 .f32) (h9 : arg9.IsWhole) (arg10 : Memref sig .tc .vmem S2048x128 .f32) (h10 : arg10.IsWhole)
    (X3 : S2048x128.Idx → Elt F .f32) (X4 : S1x1024x1024.Idx → Elt F .bf16) (X5 : S1x1024x1024.Idx → Elt F .bf16)
    (X6 : S1x1x1024.Idx → Elt F .f32) (X7 : S1x1x1024.Idx → Elt F .f32) (X8 : S1x1024x1024.Idx → Elt F .bf16) (X9 : S1x1x1024.Idx → Elt F .f32)
    (X10 : S2048x128.Idx → Elt F .f32)
    (e3 : X3 = b0 h t) (e4 : X4 = b1 h t) (e5 : X5 = b2 h t) (e6 : X6 = b3 h t) (e7 : X7 = b4 h t) (e8 : X8 = b5 h t) (e9 : X9 = b6 h t)
    (Y10 : S2048x128.Idx → Elt F .f32) (e10 : Y10 = if t.val < n then outAt h t else X10) :
    iprop(Φs (m := m) c ∗ (∃ W, owes (c : Thread nD τ) (0 : CellTallies nD τ sig Unit) W) ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare X8 ∗ owns (c : Thread nD τ) arg9 fullShare X9 ∗ owns (c : Thread nD τ) arg10 fullShare X10)
      ⊢ wp frame (wpE (defs₀ (F := F)) 𝒱₀ (c : Thread nD τ) none) Set.univ
          (bodyAt (grid0.coords t) arg3 h3 arg4 h4 arg5 h5 arg6 h6 arg7 h7 arg8 h8 arg9 h9 arg10 h10)
          fun _ => iprop(Φs (m := m) c ∗ (∃ W, owes (c : Thread nD τ) (0 : CellTallies nD τ sig Unit) W) ∗ owns (c : Thread nD τ) arg3 fullShare (b0 h t) ∗ owns (c : Thread nD τ) arg4 fullShare (b1 h t)
            ∗ owns (c : Thread nD τ) arg5 fullShare (b2 h t) ∗ owns (c : Thread nD τ) arg6 fullShare (b3 h t) ∗ owns (c : Thread nD τ) arg7 fullShare (b4 h t)
            ∗ owns (c : Thread nD τ) arg8 fullShare (b5 h t) ∗ owns (c : Thread nD τ) arg9 fullShare (b6 h t)
            ∗ owns (c : Thread nD τ) arg10 fullShare Y10) := by
  subst e10 e3 e4 e5 e6 e7 e8 e9
  have hr := run c (grid0.coords t) arg3 h3 arg4 h4 arg5 h5 arg6 h6 arg7 h7 arg8 h8 arg9 h9 arg10 h10
    (V₄ m 0 (Proc.devRef .tc main_v20)) (V₄ m 0 (Proc.devRef .tc main_v6)) (b0 h t) (b1 h t) (b2 h t) (b3 h t) (b4 h t) (b5 h t) (b6 h t) X10
  rw [if_congr (live_iff h c t) rfl rfl] at hr
  unfold Held at hr
  rw [View.set_whole, View.set_whole] at hr
  have hr2 := (sep_mono_left (Q := iprop(∃ W, owes (c : Thread nD τ) (0 : CellTallies nD τ sig Unit) W)) hr).trans (wp_frame_r _ _ _)
  unfold Φs
  iintro ⟨⟨HT, HN⟩, HO, H⟩
  iapply (hr2.trans (wp_mono _ _ _ fun _ => ?_)) $$ [HT HN H HO]
  · iintro ⟨⟨HT, HN, H⟩, HO⟩
    isplitl [HT HN]
    · isplitl [HT] <;> iassumption
    isplitl [HO]; · iexact HO
    iexact H
  · isplitr [HO]
    · isplitl [HT]; · iexact HT
      isplitl [HN]; · iexact HN
      iexact H
    · iexact HO

theorem lastUsed_of_lt (t : Fin grid0.N) (ht : t.val < n) : lastUsed n t = t := Fin.ext (by show min t.val (n - 1) = t.val; omega)

set_option maxHeartbeats 1600000 in
theorem body (c : Dev nD) : BodyObligation (dat h 0 c) (defs₀ (F := F)) 𝒱₀ () Set.univ := fun t => by
  rw [bigSep_W0, bigSep_W0]
  rw [show (dat h 0 c).Φ t.castSucc = Φs (m := m) c from rfl, show (dat h 0 c).Φ t.succ = Φs (m := m) c from rfl]
  unfold Pipeline.Dat.owesAt Pipeline.owesWithin
  rw [show (dat h 0 c).owed t.castSucc = 0 from rfl, show (dat h 0 c).owed t.succ = 0 from rfl]
  have e : ∀ d0 d1 d2 d3 d4 d5 d6 d7 Y10 e10, _ := fun d0 d1 d2 d3 d4 d5 d6 d7 Y10 e10 => point h c t
    (((cfg0 (adm h 0)).win 0).stage ((cfg0 (adm h 0)).slots t 0)) (stage_whole0 0 _) (((cfg0 (adm h 0)).win 1).stage ((cfg0 (adm h 0)).slots t 1)) (stage_whole0 1 _)
    (((cfg0 (adm h 0)).win 2).stage ((cfg0 (adm h 0)).slots t 2)) (stage_whole0 2 _) (((cfg0 (adm h 0)).win 3).stage ((cfg0 (adm h 0)).slots t 3)) (stage_whole0 3 _)
    (((cfg0 (adm h 0)).win 4).stage ((cfg0 (adm h 0)).slots t 4)) (stage_whole0 4 _) (((cfg0 (adm h 0)).win 5).stage ((cfg0 (adm h 0)).slots t 5)) (stage_whole0 5 _)
    (((cfg0 (adm h 0)).win 6).stage ((cfg0 (adm h 0)).slots t 6)) (stage_whole0 6 _) (((cfg0 (adm h 0)).win 7).stage ((cfg0 (adm h 0)).slots t 7)) (stage_whole0 7 _)
    ((dat h 0 c).before 0 t d0) ((dat h 0 c).before 1 t d1) ((dat h 0 c).before 2 t d2) ((dat h 0 c).before 3 t d3) ((dat h 0 c).before 4 t d4)
    ((dat h 0 c).before 5 t d5) ((dat h 0 c).before 6 t d6) ((dat h 0 c).before 7 t d7)
    (before0 h c t d0) (before1 h c t d1) (before2 h c t d2) (before3 h c t d3) (before4 h c t d4) (before5 h c t d5) (before6 h c t d6) Y10 e10
  by_cases ht : t.val < n
  · have i7 : (cfg0 (adm h 0)).idle (7 : Fin 8) ((cfg0 (adm h 0)).grid.coords t) = false := (idle7 h t).trans (by simp [ht])
    have e7 : (dat h 0 c).after 7 t = outAt h t := congrArg (outAt h) (lastUsed_of_lt h t ht)
    rw [i7]
    iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((e d0 d1 d2 d3 d4 d5 d6 d7 ((dat h 0 c).after 7 t) (e7.trans (if_pos ht).symm)).trans (wp_mono _ _ _ fun _ => ?_)) $$ [HΦ HO H0 H1 H2 H3 H4 H5 H6 H7]
    · iintro ⟨HΦ, ⟨%W', HO⟩, H0, H1, H2, H3, H4, H5, H6, H7⟩
      isplitl [HΦ]; · iexact HΦ
      isplitl [HO]
      · iexists W'; isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [HΦ]; · iexact HΦ
      isplitl [HO]; · iexists W; iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have i7 : (cfg0 (adm h 0)).idle (7 : Fin 8) ((cfg0 (adm h 0)).grid.coords t) = true := (idle7 h t).trans (by simp [ht])
    rw [i7]
    cases hf : ((cfg0 (adm h 0)).win (7 : Fin 8)).flush t
    · iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((e d0 d1 d2 d3 d4 d5 d6 d7 ((dat h 0 c).before 7 t d7) (if_neg ht).symm).trans (wp_mono _ _ _ fun _ => ?_)) $$ [HΦ HO H0 H1 H2 H3 H4 H5 H6 H7]
      · iintro ⟨HΦ, ⟨%W', HO⟩, H0, H1, H2, H3, H4, H5, H6, H7⟩
        isplitl [HΦ]; · iexact HΦ
        isplitl [HO]
        · iexists W'; isplitr; · ipureintro; exact fun _ _ => Or.inl trivial
          iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        iexists d7
        iexact H7
      · isplitl [HΦ]; · iexact HΦ
        isplitl [HO]; · iexists W; iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((e d0 d1 d2 d3 d4 d5 d6 d7 ((dat h 0 c).after 7 t) ((before7 h c t (not_lt.mp ht) d7).symm.trans (if_neg ht).symm)).trans (wp_mono _ _ _ fun _ => ?_)) $$ [HΦ HO H0 H1 H2 H3 H4 H5 H6 H7]
      · iintro ⟨HΦ, ⟨%W', HO⟩, H0, H1, H2, H3, H4, H5, H6, H7⟩
        isplitl [HΦ]; · iexact HΦ
        isplitl [HO]
        · iexists W'; isplitr; · ipureintro; exact fun _ _ => Or.inl trivial
          iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · isplitl [HΦ]; · iexact HΦ
        isplitl [HO]; · iexists W; iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-! ## The result after the grid -/

/-- Element `x` of point `t`'s block of a window over all the rows. -/
def rowIdx (n : ℕ) (t : Fin grid0.N) (x : S2048x128.Idx) : S1114112x128.Idx :=
  ValueIdx.ix2 (⟨2048 * min t.val (n - 1) + (x 0).val, by have : t.val < 544 := lt_of_lt_of_eq t.isLt N_0; have : (x 0).val < 2048 := (x 0).isLt; omega⟩ : Fin 1114112) (⟨(x 1).val, (x 1).isLt⟩ : Fin 128)

theorem emb7 (t : Fin grid0.N) (x : S2048x128.Idx) : (((cfg0 (adm h 0)).win 7).blk t).view.emb x = rowIdx n t x := by
  have key : ∀ a : Fin 2, (![min t.val (n - 1), 0] : Fin 2 → ℕ) a * S2048x128.size a + (x a).val = (rowIdx n t x a).val := fun a =>
    match a with
    | ⟨0, _⟩ => by show min t.val (n - 1) * 2048 + (x 0).val = 2048 * min t.val (n - 1) + (x 0).val; omega
    | ⟨1, _⟩ => by show 0 * 128 + (x 1).val = (x 1).val; omega
  funext a
  apply Fin.ext
  have e := Pipeline.Window.rect_emb_val ((cfg0 (adm h 0)).win 7) t x a
  rw [index7 h] at e
  exact Eq.trans e (key a)

/-- The row's place in its tile. -/
def inTile (y : S1114112x128.Idx) : S2048x128.Idx :=
  ValueIdx.ix2 (⟨(y 0).val % 2048, Nat.mod_lt _ (by decide)⟩ : Fin 2048) (⟨(y 1).val, (y 1).isLt⟩ : Fin 128)

def tileOf (y : S1114112x128.Idx) : Fin grid0.N := ⟨(y 0).val / 2048, by
  have h1 : (y 0).val < 1114112 := (y 0).isLt
  rw [N_0]; omega⟩

/-- The result, where a tile in use reaches. -/
def outG (y : S1114112x128.Idx) : Elt F .f32 := outAt h (tileOf y) (inTile y)

theorem outG_rowIdx (t : Fin grid0.N) (x : S2048x128.Idx) : outG h (rowIdx n t x) = outAt h (lastUsed n t) x := by
  have hx : (x 0).val < 2048 := (x 0).isLt
  have e1 : tileOf (rowIdx n t x) = lastUsed n t := Fin.ext (by show (2048 * min t.val (n - 1) + (x 0).val) / 2048 = min t.val (n - 1); omega)
  have e2 : inTile (rowIdx n t x) = x := by
    funext a
    apply Fin.ext
    match a with
    | ⟨0, _⟩ => show (2048 * min t.val (n - 1) + (x 0).val) % 2048 = (x 0).val; omega
    | ⟨1, _⟩ => rfl
  unfold outG
  rw [e1, e2]

/-- The result's array as the grid leaves it. -/
def final (c : Dev nD) : S1114112x128.Idx → Elt F .f32 := (dat h 0 c).arrAt 7 (cfg0 (adm h 0)).N

theorem final_apply (c : Dev nD) (y : S1114112x128.Idx) (hy : (y 0).val / 2048 < n) : final h c y = outG h y := by
  have hN := N_0
  have hp := h.pos
  have h1 : (y 0).val < 1114112 := (y 0).isLt
  have hG : ∀ t, ((cfg0 (adm h 0)).win 7).flush t = true → (dat h 0 c).flushed 7 t = (((cfg0 (adm h 0)).win 7).blk t).view.read (Elt F) (outG h) := by
    intro t _
    funext x
    show outAt h (lastUsed n t) x = outG h ((((cfg0 (adm h 0)).win 7).blk t).view.emb x)
    exact ((congrArg (outG h) (emb7 h t x)).trans (outG_rowIdx h t x)).symm
  have key : ∀ t : Fin grid0.N, t.val + 1 = 544 ∨ t.val + 1 < n → min t.val (n - 1) = (y 0).val / 2048 → final h c y = outG h y := by
    intro t ht e
    have ey : rowIdx n t (inTile y) = y := by
      funext a
      apply Fin.ext
      match a with
      | ⟨0, _⟩ => show 2048 * min t.val (n - 1) + (y 0).val % 2048 = (y 0).val; rw [e]; omega
      | ⟨1, _⟩ => rfl
    refine (dat h 0 c).arrAt_apply_of_mem 7 (outG h) hG (cfg0 (adm h 0)).N t y t.isLt ((flush7 h t).trans (decide_eq_true ht)) ?_
    have hm := (((cfg0 (adm h 0)).win 7).blk t).view.emb_mem_set (inTile y)
    rw [emb7 h, ey] at hm
    exact hm
  by_cases hc : (y 0).val / 2048 + 1 < n
  · exact key ⟨(y 0).val / 2048, by rw [hN]; omega⟩ (.inr hc) (by show min ((y 0).val / 2048) (n - 1) = _; omega)
  · exact key ⟨543, by rw [hN]; omega⟩ (.inl rfl) (by show min 543 (n - 1) = _; omega)

end Grid

end Cert.Kernel2Ideal.Exp

end
-- ==== Proof.XRun.lean ====
module

public import proofs.«01_k».proof.Proof.XLaunch

@[expose] public section

noncomputable section

/-! # The experts' run

The launch as segments: the host operations, then the grid. -/

namespace Cert.Kernel2Ideal.Exp

open Cert.Kernel2Ideal Cert.Kernel2Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing
open Idealize.ShloMosaic.Pipeline (Dat BodyObligation)

variable {F : FTy → Type} [FloatOps F]

local notation "𝕄" => MT nD τ sig Unit (Elt F) ℕ UU ℕ

abbrev EP : Emb (UR sig nD τ) 𝕄 := embL

/-- The buffers the host operations run within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, BI.bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The buffers the call and the claims name. -/
def named : Finset (DevRef τ sig) :=
  {Proc.devRef .tc main_arg0, Proc.devRef .tc main_arg1, Proc.devRef .tc main_arg2, Proc.devRef .tc main_arg3, Proc.devRef .tc main_arg4,
    Proc.devRef .tc main_arg5, Proc.devRef .tc main_v20, Proc.devRef .tc main_v6, Proc.devRef .tc main_v22, Proc.devRef .tc main_v24,
    Proc.devRef .tc main_v26, Proc.devRef .tc main_v28, Proc.devRef .tc main_v29, Proc.devRef .tc main_v30, Proc.devRef .tc main_v31}

theorem named_sub : named ⊆ ucRefs := by decide

abbrev lc (c : Dev nD) (b : Ref sig .tc) : Loc nD τ sig := (c : Thread nD τ).loc b

omit [FloatOps F] in
theorem named_eq (c : Dev nD) (W : Valuation τ sig (Elt F)) : (StableHlo.held (c : Thread nD τ) named W : sProp 𝕄)
    = iprop((lc c main_arg0 ↦{fullShare} W (Proc.devRef .tc main_arg0)) ∗ (lc c main_arg1 ↦{fullShare} W (Proc.devRef .tc main_arg1))
      ∗ (lc c main_arg2 ↦{fullShare} W (Proc.devRef .tc main_arg2)) ∗ (lc c main_arg3 ↦{fullShare} W (Proc.devRef .tc main_arg3))
      ∗ (lc c main_arg4 ↦{fullShare} W (Proc.devRef .tc main_arg4)) ∗ (lc c main_arg5 ↦{fullShare} W (Proc.devRef .tc main_arg5))
      ∗ (lc c main_v20 ↦{fullShare} W (Proc.devRef .tc main_v20)) ∗ (lc c main_v6 ↦{fullShare} W (Proc.devRef .tc main_v6))
      ∗ (lc c main_v22 ↦{fullShare} W (Proc.devRef .tc main_v22)) ∗ (lc c main_v24 ↦{fullShare} W (Proc.devRef .tc main_v24))
      ∗ (lc c main_v26 ↦{fullShare} W (Proc.devRef .tc main_v26)) ∗ (lc c main_v28 ↦{fullShare} W (Proc.devRef .tc main_v28))
      ∗ (lc c main_v29 ↦{fullShare} W (Proc.devRef .tc main_v29)) ∗ (lc c main_v30 ↦{fullShare} W (Proc.devRef .tc main_v30))
      ∗ (lc c main_v31 ↦{fullShare} W (Proc.devRef .tc main_v31))) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_arg5, Proc.devRef .tc main_v20, Proc.devRef .tc main_v6, Proc.devRef .tc main_v22, Proc.devRef .tc main_v24,
    Proc.devRef .tc main_v26, Proc.devRef .tc main_v28, Proc.devRef .tc main_v29, Proc.devRef .tc main_v30, Proc.devRef .tc main_v31] (by decide) (by decide)]
  rfl

omit [FloatOps F] in
theorem held_named (c : Dev nD) (W : Valuation τ sig (Elt F)) :
    (StableHlo.held (c : Thread nD τ) ucRefs W : sProp 𝕄) = iprop(StableHlo.held (c : Thread nD τ) named W ∗ StableHlo.held (c : Thread nD τ) (ucRefs \ named) W) :=
  StableHlo.held_sub_split _ named_sub W

section
variable (m : (ℓ : Loc nD τ sig) → Buf (Elt F) ℓ)

/-- No host operation writes an argument. -/
theorem V₄_arg (c : Dev nD) (b : Ref sig .tc) (hb : b = main_arg0 ∨ b = main_arg1 ∨ b = main_arg2 ∨ b = main_arg3 ∨ b = main_arg4 ∨ b = main_arg5) :
    V₄ m c (Proc.devRef .tc b) = m ((c : Thread nD τ).loc b) := by
  rcases hb with rfl | rfl | rfl | rfl | rfl | rfl <;> unfold V₄ V₃ V₂ V₁ <;> after_reads_simp <;> rfl

abbrev L : GSem nD τ sig → Finset Unit := fun _ => ∅
abbrev lv : GSem nD τ sig → Unit → ℕ := fun _ _ => 0

/-- What rides beside the buffers: what the core owes. -/
abbrev R (c : Dev nD) : sProp 𝕄 := iprop(∃ W, owes (c : Thread nD τ) (0 : CellTallies nD τ sig Unit) W)

abbrev Host' := Pipeline.HostSeg (Name := ℕ) (U := UU) (pcfgs (F := F)) defs₀ 𝒱₀ L lv

def seg0 : Host' (F := F) :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R
def seg1 : Host' (F := F) :=
  Pipeline.HostSeg.ofOps _ _ _ _ _ ucRefs hostOps0_1 (fun op h => sub_ucRefs op ((List.forall_iff_forall_mem.mp hostOps0_1_sub) op h))
    (by intro _ h; (repeat (cases h with | head => rfl | tail _ h => ?_)); exact nomatch h) (V₁ m) R
def seg2 : Host' (F := F) :=
  Pipeline.HostSeg.ofOps _ _ _ _ _ ucRefs hostOps0_2 (fun op h => sub_ucRefs op ((List.forall_iff_forall_mem.mp hostOps0_2_sub) op h))
    (by intro _ h; (repeat (cases h with | head => rfl | tail _ h => ?_)); exact nomatch h) (V₂ m) R
def seg3 : Host' (F := F) :=
  Pipeline.HostSeg.ofOps _ _ _ _ _ ucRefs hostOps0_3 (fun op h => sub_ucRefs op ((List.forall_iff_forall_mem.mp hostOps0_3_sub) op h))
    (by intro _ h; (repeat (cases h with | head => rfl | tail _ h => ?_)); exact nomatch h) (V₃ m) R
end

omit [FloatOps F] in
theorem prefHeld_pair (c : Dev nD) (q : Fin 2 → PosShare TreeShare) (v : pre0.Contents (Elt F)) :
    (Pipeline.prefHeld pre0 c q v : sProp 𝕄)
      = iprop((teLoc c ↦{q 0} (show Buf (Elt F) (teLoc c) from v 0)) ∗ (nuLoc c ↦{q 1} (show Buf (Elt F) (nuLoc c) from v 1))) := by
  unfold Pipeline.prefHeld
  rw [show (Finset.univ : Finset (Fin 2)) = insert 0 {1} from by decide, BI.bigSep_insert (by decide), BI.bigSep_singleton]
  rfl

/-- The call has no semaphores of its own. -/
def osem : Fin 0 → SemLoc sig := fun k => nomatch k

theorem ownSemFacts : Pipeline.OwnSemFacts spec0 osem := by decide

omit [FloatOps F] in
theorem ownSems0_eq (c : Dev nD) :
    (Pipeline.ownSems0 (Ix := Unit) (Name := ℕ) (U := UU) (Lvl := ℕ) (Val := Elt F) (τ := τ) osem c : sProp 𝕄) = iprop(emp) :=
  Pipeline.ownSems0_eq_of_list c osem [] (by decide) (by decide)

section Run

variable {m : (ℓ : Loc nD τ sig) → Buf (Elt F) ℓ} {te : ℕ → ℕ} {n : ℕ} (h : Facts m te n)
include h

def u₀ : UU := (initOf (Pipeline.cells (Pipeline.pin (pcfgs (F := F)) (adm h)) (cellOf_inj (adm h)))
  (Pipeline.launchToks (Pipeline.pin (pcfgs (F := F)) (adm h)) (cellOf_inj (adm h))), 1)

theorem arrays_eq (c : Dev nD) (A) : ((dat h 0 c).arrays A : sProp 𝕄) = iprop((lc c main_arg0 ↦{fullShare} (A 0)) ∗ (lc c main_v22 ↦{fullShare} (A 1))
    ∗ (lc c main_v24 ↦{fullShare} (A 2)) ∗ (lc c main_v26 ↦{fullShare} (A 3)) ∗ (lc c main_v28 ↦{fullShare} (A 4)) ∗ (lc c main_v29 ↦{fullShare} (A 5))
    ∗ (lc c main_v30 ↦{fullShare} (A 6)) ∗ (lc c main_v31 ↦{fullShare} (A 7))) := by
  exact (Pipeline.arrays_eq (Pipeline.pin (pcfgs (F := F)) (adm h)) (dat h) 0 c arr_whole0 ((dat h 0 c).share_full fun _ => rfl) A).trans (bigSep_W0 _)

/-- What the launch ends with. -/
abbrev Tₙ (c : Dev nD) : sProp 𝕄 :=
  iprop((lc c main_v31 ↦{fullShare} final h c)
    ∗ (lc c main_arg0 ↦{fullShare} V₄ m 0 (Proc.devRef .tc main_arg0)) ∗ (lc c main_arg1 ↦{fullShare} V₄ m 0 (Proc.devRef .tc main_arg1))
    ∗ (lc c main_arg2 ↦{fullShare} V₄ m 0 (Proc.devRef .tc main_arg2)) ∗ (lc c main_arg3 ↦{fullShare} V₄ m 0 (Proc.devRef .tc main_arg3))
    ∗ (lc c main_arg4 ↦{fullShare} V₄ m 0 (Proc.devRef .tc main_arg4)) ∗ (lc c main_arg5 ↦{fullShare} V₄ m 0 (Proc.devRef .tc main_arg5)))

set_option backward.isDefEq.respectTransparency.types false in
set_option maxHeartbeats 1600000 in
set_option maxRecDepth 20000 in
def reg0 : Pipeline.RegionSeg (pcfgs (F := F)) (adm h) (dat h) () defs₀ 𝒱₀ L lv 0 where
  win := winFacts0.to₀
  block_pos := block_pos0
  stage_whole := stage_whole0
  K := Fin 0
  osem := osem
  ho := ownSemFacts
  hbody c := (body h c).loose
  hwaits := Pipeline.hwaits_of_owed_zero _ _ _ _ L lv 0 fun _ _ => rfl
  pre c := iprop(StableHlo.held (c : Thread nD τ) ucRefs (V₄ m c) ∗ R c)
  post c := iprop(Tₙ h c ∗ R c)
  X c := iprop(emp)
  Y c := iprop(emp)
  Z c := iprop((lc c main_arg1 ↦{fullShare} V₄ m 0 (Proc.devRef .tc main_arg1))
    ∗ (lc c main_arg2 ↦{fullShare} V₄ m 0 (Proc.devRef .tc main_arg2)) ∗ (lc c main_arg3 ↦{fullShare} V₄ m 0 (Proc.devRef .tc main_arg3))
    ∗ (lc c main_arg4 ↦{fullShare} V₄ m 0 (Proc.devRef .tc main_arg4)) ∗ (lc c main_arg5 ↦{fullShare} V₄ m 0 (Proc.devRef .tc main_arg5)))
  hentry c := by
    obtain rfl : c = 0 := Subsingleton.elim _ _
    rw [held_named, named_eq, ownSems0_eq, arrays_eq, prefHeld_pair]
    iintro ⟨⟨⟨⟨H0, H1, H2, H3, H4, H5, HT, HN, W1, W2, W3, W4, W5, W6, W7⟩, -⟩, HO⟩, -, -⟩
    imodintro
    isplitl [H0 W1 W2 W3 W4 W5 W6 W7]
    · isplitl [H0]; · iexact H0
      isplitl [W1]; · iexact W1
      isplitl [W2]; · iexact W2
      isplitl [W3]; · iexact W3
      isplitl [W4]; · iexact W4
      isplitl [W5]; · iexact W5
      isplitl [W6]; · iexact W6
      iexact W7
    isplitl [HT HN]
    · isplitl [HT]; · iexact HT
      iexact HN
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    isplitl [H2]; · iexact H2
    isplitl [H3]; · iexact H3
    isplitl [H4]; · iexact H4
    iexact H5
  hin c := by
    obtain rfl : c = 0 := Subsingleton.elim _ _
    rw [show (dat h 0 0).Φ 0 = Φs (m := m) 0 from rfl, prefHeld_pair, scopedRest0_eq]
    unfold Φs
    iintro ⟨-, ⟨HC, HB⟩, -⟩
    isplitl [HC]; · iexact HC
    iexact HB
  hout c := by
    rw [ownSems0_eq, scopedRest0_eq]
    iintro -
    isplitr; · iempintro
    isplitr; · iempintro
    iempintro
  hexit c := by
    obtain rfl : c = 0 := Subsingleton.elim _ _
    rw [arrays_eq, (dat h 0 0).arrAt_in 0 rfl]
    iintro ⟨⟨H0, -, -, -, -, -, -, H7⟩, HO, -, H1, H2, H3, H4, H5⟩
    imodintro
    isplitr [HO]
    · isplitl [H7]; · iexact H7
      isplitl [H0]; · iexact H0
      isplitl [H1]; · iexact H1
      isplitl [H2]; · iexact H2
      isplitl [H3]; · iexact H3
      isplitl [H4]; · iexact H4
      iexact H5
    · unfold Pipeline.Dat.owesAt Pipeline.owesWithin
      icases HO with ⟨%W, -, HO⟩; iexists W; iexact HO

abbrev segs : List (Pipeline.Seg (pcfgs (F := F)) (adm h) (dat h) () defs₀ 𝒱₀ L lv) :=
  [.host (seg0 m), .host (seg1 m), .host (seg2 m), .host (seg3 m), .region (reg0 h)]

theorem main_eq (c : Dev nD) : Pipeline.Seg.run (segs h) = main (F := F) c := by
  exact (Pipeline.Seg.run_eq_chain (segs h)).trans (main_chain (F := F) c).symm

set_option backward.isDefEq.respectTransparency.types false in
/-- The whole run: it ends, the arguments unchanged, every semaphore at zero, every tile in use holding its block. -/
theorem run_main (ρ : Dev nD → PrngReg) :
    θ_run defs (onTc (τ := τ) (main (F := F))) ⟨m, fun _ => 0, ρ⟩ (fun r =>
      (∀ c : Dev nD, (r.2.mem (lc c main_arg0) = m (lc c main_arg0) ∧ r.2.mem (lc c main_arg1) = m (lc c main_arg1) ∧ r.2.mem (lc c main_arg2) = m (lc c main_arg2)
        ∧ r.2.mem (lc c main_arg3) = m (lc c main_arg3) ∧ r.2.mem (lc c main_arg4) = m (lc c main_arg4) ∧ r.2.mem (lc c main_arg5) = m (lc c main_arg5))
        ∧ r.2.mem (lc c main_v31) = final h c) ∧ r.2.sem = fun _ => 0) :=
  Pipeline.θ_run_regions_kit_sems (pcfgs (F := F)) (adm h) (dat h) () (cellOf_inj (adm h)) EP defs₀ 𝒱₀ L lv m ρ main (segs h)
    (fun c Q => by rw [main_eq h c])
    (by simp only [segs, Pipeline.Seg.pipes_host, Pipeline.Seg.pipes_region, Pipeline.Seg.pipes_nil]; decide) (O₀ := 0) (hL := fun _ _ => rfl) (G := fun _ => iprop(emp)) (u₀ := u₀ h)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ h)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => (s.mem (lc c main_arg0) = m (lc c main_arg0) ∧ s.mem (lc c main_arg1) = m (lc c main_arg1) ∧ s.mem (lc c main_arg2) = m (lc c main_arg2)
        ∧ s.mem (lc c main_arg3) = m (lc c main_arg3) ∧ s.mem (lc c main_arg4) = m (lc c main_arg4) ∧ s.mem (lc c main_arg5) = m (lc c main_arg5))
        ∧ s.mem (lc c main_v31) = final h c)
    (hfin := fun c s' => by
      obtain rfl : c = 0 := Subsingleton.elim _ _
      dsimp only [Tₙ]
      rw [V₄_arg m 0 main_arg0 (by simp), V₄_arg m 0 main_arg1 (by simp), V₄_arg m 0 main_arg2 (by simp), V₄_arg m 0 main_arg3 (by simp),
        V₄_arg m 0 main_arg4 (by simp), V₄_arg m 0 main_arg5 (by simp)]
      iintro ⟨⟨Ho, H0, H1, H2, H3, H4, H5⟩, HSI⟩
      icombine HSI Ho gives %ho
      icombine HSI H0 gives %h0
      icombine HSI H1 gives %h1
      icombine HSI H2 gives %h2
      icombine HSI H3 gives %h3
      icombine HSI H4 gives %h4
      icombine HSI H5 gives %h5
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, Buf.eq_of_forall_mem_univ ho⟩
      iexact HSI)
    (hQ := fun _ h hz => ⟨h, funext fun g => hz g (.inr (by revert g; decide))⟩)

end Run

end Cert.Kernel2Ideal.Exp

end
-- ==== Proof.XPre.lean ====
module

public import proofs.«01_k».proof.Proof.XRun
public import proofs.«01_k».proof.Proof.Pre
public import proofs.«01_k».proof.Proof.Gen.Pre_routed
public import proofs.«01_k».proof.Proof.Gen.Pre_counted
public import proofs.«01_k».proof.Proof.Gen.On_tiles_in_use

@[expose] public section

noncomputable section

/-! # The experts' tables from the counts

The tiles before each expert, the expert of each tile and the number of tiles in use, as the programs compute them from
the counts and as numbers. -/

namespace Cert.Tiles

open Idealize.ShloMosaic Idealize.ShloMosaic.Routing Idealize.ShloMosaic.ValueIdx Cert.Routed Cert.Pre_routed

variable {F : FTy → Type} [FloatOps F]

/-- The tiles of the first `e` experts. -/
def upTo (cnt : S32.Idx → BitVec 32) (e : ℕ) : ℕ := ((List.range e).map (tl cnt)).sum
/-- The tiles in use. -/
def num (cnt : S32.Idx → BitVec 32) : ℕ := upTo cnt 32
/-- How many experts end at tile `t` or before it: the expert tile `t` belongs to. -/
def own (cnt : S32.Idx → BitVec 32) (t : ℕ) : ℕ := Nat.count (fun e => upTo cnt (e + 1) ≤ t) 32
/-- The table's entry for tile `t`. -/
def te (cnt : S32.Idx → BitVec 32) (t : ℕ) : ℕ := min (own cnt (min t (num cnt - 1))) 31

theorem upTo_succ (cnt : S32.Idx → BitVec 32) (e : ℕ) : upTo cnt (e + 1) = upTo cnt e + tl cnt e := by
  unfold upTo
  rw [List.range_succ, List.map_append, List.sum_append]
  simp

theorem bs_eq (cnt : S32.Idx → BitVec 32) (e : ℕ) : bs cnt e = 256 * upTo cnt e := rfl

theorem num_eq (cnt : S32.Idx → BitVec 32) : upTo cnt 32 = num cnt := rfl

theorem te_def (cnt : S32.Idx → BitVec 32) (t : ℕ) :
    te cnt t = min (Nat.count (fun e => upTo cnt (e + 1) ≤ min t (num cnt - 1)) 32) 31 := by
  unfold te own
  rfl

theorem te_lt (cnt : S32.Idx → BitVec 32) (t : ℕ) : te cnt t < 32 := by unfold te; omega

theorem own_lt (cnt : S32.Idx → BitVec 32) (t : ℕ) (h : t < num cnt) : own cnt t < 32 := by
  unfold own
  rw [Nat.count_succ, if_neg (by show ¬ (num cnt ≤ t); omega)]
  have := Nat.count_le (p := fun e => upTo cnt (e + 1) ≤ t) (n := 31)
  omega

theorem te_eq (cnt : S32.Idx → BitVec 32) (t : ℕ) (h : t < num cnt) : te cnt t = own cnt t := by
  have := own_lt cnt t h
  unfold te
  rw [Nat.min_eq_left (by omega : t ≤ num cnt - 1)]
  omega

theorem min_ofNat (a b : ℕ) (ha : a < 2 ^ 31) (hb : b < 2 ^ 31) : IntOp.minsi (BitVec.ofNat 32 a) (BitVec.ofNat 32 b) = BitVec.ofNat 32 (min a b) := by
  unfold IntOp.minsi
  rw [BitVec.slt_eq_decide, toInt_word a ha, toInt_word b hb]
  by_cases h : a < b
  · simp [h]; congr 1; omega
  · simp [h]; congr 1; omega

/-- The running sum of the tiles, as the programs compute it. -/
def sumW (F : FTy → Type) [FloatOps F] (cnt : IVec S32 32) : IVec S32 32 := Cert.Pre_routed.fn_cumsum (F := F) (tilesW F cnt)

theorem sumW_def (cnt : IVec S32 32) : sumW F cnt = Cert.Pre_routed.fn_cumsum (F := F) (tilesW F cnt) := rfl

section Words
variable (cnt : IVec S32 32) (hc : ∀ e, e < 32 → cn cnt e ≤ 131072)
include hc

theorem sum_word (e : Fin 32) : sumW F cnt (ValueIdx.ix1 e) = BitVec.ofNat 32 (upTo cnt (e.val + 1)) := by
  have ht := tiles_word (F := F) cnt hc
  unfold sumW
  generalize tilesW F cnt = T at ht ⊢
  unfold Cert.Pre_routed.fn_cumsum Cert.Pre_routed.fn_cumsum_0
  exact cumsum1 (N := 32) (Nm1 := 31) rfl T (tl cnt) ht _ (by rfl) Cert.Pre_routed.Facts.reduceWindows_S32_S32_w32s1p31_0 Cert.Pre_routed.Facts.h_S_ e

theorem upTo_le (e : ℕ) (he : e ≤ 32) : upTo cnt e ≤ 16416 := by
  have := sum_le cnt hc e
  unfold upTo
  omega

theorem num_le : num cnt ≤ 16416 := upTo_le cnt hc 32 le_rfl

theorem num_pos (h : ∃ e, e < 32 ∧ 0 < cn cnt e) : 1 ≤ num cnt := by
  obtain ⟨e, he, h⟩ := h
  have h1 : 1 ≤ upTo cnt (e + 1) := by
    rw [upTo_succ]
    unfold tl
    omega
  have h2 := bs_mono cnt (e + 1) (32 - (e + 1))
  rw [show e + 1 + (32 - (e + 1)) = 32 from by omega, bs_eq, bs_eq] at h2
  show 1 ≤ upTo cnt 32
  omega

end Words

theorem toNat_pos (x : BitVec 32) (h : 0 < x.toInt) : 0 < x.toNat := by
  rcases Nat.eq_zero_or_pos x.toNat with h0 | h0
  · rw [show x = 0#32 from BitVec.eq_of_toNat_eq h0] at h
    exact absurd h (by decide)
  · exact h0

/-- What the precondition says of the counts. -/
theorem read (A : FVec F Cert.Pre_counted.S1114112x128 .f32) (cnt : IVec S32 32) (U : FVec F Cert.Pre_counted.S32x1024x2048 .f32)
    (bU : FVec F Cert.Pre_counted.S32x2048 .f32) (D : FVec F Cert.Pre_counted.S32x1024x1024 .f32) (bD : FVec F Cert.Pre_counted.S32x1024 .f32)
    (h : Cert.Pre_counted.fn (F := F) A cnt U bU D bD = fun _ => 1#1) :
    (∀ e, e < 32 → cn cnt e ≤ 131072) ∧ ∃ e, e < 32 ∧ 0 < cn cnt e := by
  have h0 := congrFun h ValueIdx.ix0
  unfold Cert.Pre_counted.fn at h0
  obtain ⟨h1, h2⟩ := IntOp.andi_eq_one.1 h0
  have hs : ∀ e : Fin 32, 0 ≤ (cnt (ValueIdx.ix1 e)).toInt ∧ (cnt (ValueIdx.ix1 e)).toInt ≤ ((131072 : ℕ) : Int) := fun e => by
    obtain ⟨ha, hb⟩ := IntOp.andi_eq_one.1 (Host.reduce_andi_all _ _ _ _ _ h1 (ValueIdx.ix1 e))
    exact ⟨IntOp.cmpi_sge.1 ha, IntOp.cmpi_sle.1 hb⟩
  refine ⟨fun e he => ?_, ?_⟩
  · unfold cn
    rw [dif_pos he]
    exact toNat_le _ 131072 (hs ⟨e, he⟩).1 (hs ⟨e, he⟩).2
  · obtain ⟨j, -, hx⟩ := (reduce_ori _ _ _ _ rfl _).1 h2
    have hj : j = ValueIdx.ix1 (j 0) := funext fun a => match a with | ⟨0, _⟩ => rfl
    have hx' := IntOp.cmpi_sgt.1 hx
    refine ⟨(j 0).val, (j 0).isLt, ?_⟩
    unfold cn
    have hlt : (j 0).val < 32 := (j 0).isLt
    rw [dif_pos hlt]
    have h3 : (0 : Int) < (cnt j).toInt := hx'
    rw [hj] at h3
    exact toNat_pos _ h3

/-- An element the mask selects is in a tile in use. -/
theorem mask_tiles (A : FVec F Cert.Pre_counted.S1114112x128 .f32) (cnt : IVec S32 32) (U : FVec F Cert.Pre_counted.S32x1024x2048 .f32)
    (bU : FVec F Cert.Pre_counted.S32x2048 .f32) (D : FVec F Cert.Pre_counted.S32x1024x1024 .f32) (bD : FVec F Cert.Pre_counted.S32x1024 .f32)
    (hc : ∀ e, e < 32 → cn cnt e ≤ 131072)
    (i : Cert.On_tiles_in_use.S1114112x128.Idx) (h : Cert.On_tiles_in_use.fn (F := F) A cnt U bU D bD i = 1#1) : (i 0).val / 2048 < num cnt := by
  unfold Cert.On_tiles_in_use.fn at h
  have hi : (i 0).val < 1114112 := (i 0).isLt
  have hr : Cert.On_tiles_in_use.fn_floor_divide_0 (F := F) (iotaInDim Cert.On_tiles_in_use.S1114112x128 32 0) (constantI Cert.On_tiles_in_use.S_ 32 8#32) i
      = BitVec.ofNat 32 ((i 0).val / 8) :=
    pyDiv_ap Cert.On_tiles_in_use.Facts.bcast_S_S1114112x128 (iotaInDim Cert.On_tiles_in_use.S1114112x128 32 0) (constantI Cert.On_tiles_in_use.S_ 32 8#32) i
      (a := (i 0).val) (b := 8) rfl rfl (by omega) (by omega) (by omega)
  have hn : Host.reduce IntOp.addi (muli (tilesW F cnt) (broadcastInDim Cert.On_tiles_in_use.S32 ![] Cert.On_tiles_in_use.Facts.bcast_S_S32 (constantI Cert.On_tiles_in_use.S_ 32 256#32)))
      (constantI Cert.On_tiles_in_use.S_ 32 0#32) Cert.On_tiles_in_use.Facts.reducesTo_S32_S_d0 Cert.On_tiles_in_use.Facts.h_S_ ValueIdx.ix0
      = BitVec.ofNat 32 ((List.range 32).map fun e => tl cnt e * 256).sum := by
    refine reduce_sum (N := 32) _ (fun e => tl cnt e * 256) (fun e => ?_) _ _
    show tilesW F cnt (ValueIdx.ix1 e) * 256#32 = _
    rw [tiles_word cnt hc, show (256#32 : BitVec 32) = BitVec.ofNat 32 256 from rfl, word_mul]
  have hsum : ((List.range 32).map fun e => tl cnt e * 256).sum = num cnt * 256 := by
    unfold num upTo
    rw [List.sum_map_mul_right]
  rw [hsum] at hn
  have hl := num_le cnt hc
  have h1 := IntOp.cmpi_slt.1 ((congrArg₂ (fun a b => IntOp.cmpi .slt a b) hr ((bc0 Cert.On_tiles_in_use.Facts.bcast_S_S1114112x128 _ i).trans hn)).symm.trans h)
  rw [toInt_word _ (by omega), toInt_word _ (by omega)] at h1
  have h2 : (i 0).val / 8 < num cnt * 256 := by exact_mod_cast h1
  omega

end Cert.Tiles

namespace Cert.Kernel2Ideal.Exp

open Cert.Kernel2Ideal Cert.Kernel2Ideal.Gen
open Idealize.ShloMosaic Idealize.ShloMosaic.TcCoe Idealize.SL.Sem Idealize.ShloMosaic.StableHlo Idealize.ShloMosaic.Routing

variable {F : FTy → Type} [FloatOps F]
variable (m : (ℓ : Loc nD τ sig) → Buf (Elt F) ℓ)

attribute [local irreducible] Cert.Tiles.upTo Cert.Tiles.num Cert.Tiles.own Cert.Tiles.te Cert.Tiles.sumW

/-- The counts. -/
abbrev cnts (c : Dev nD) : IVec S32 32 := m ((c : Thread nD τ).loc main_arg1)

/-- The division's stretch: its result from its operands. -/
theorem div_ops (V : Valuation τ sig (Elt F)) : StableHlo.after hostOps0_1 V (Proc.devRef .tc main_v4)
    = Cert.Pre_routed.fn_floor_divide (F := F) (V (Proc.devRef .tc main_v3)) (V (Proc.devRef .tc main_c_1)) := by
  after_reads_simp
  rfl

/-- The running sum's stretch. -/
theorem sum_ops (V : Valuation τ sig (Elt F)) : StableHlo.after hostOps0_2 V (Proc.devRef .tc main_v5)
    = Cert.Pre_routed.fn_cumsum (F := F) (V (Proc.devRef .tc main_v4)) := by
  after_reads_simp
  generalize V (Proc.devRef .tc main_v4) = T
  have cast (X : IVec S32 32) : (StableHlo.TRef.of main_v5 : StableHlo.TRef sig ⟨S32, .i32⟩).toBuf (Val := Elt F) X = X := rfl
  refine (cast _).trans ?_
  show _ = Host.reduceWindow IntOp.addi ![32] ![1] ![31] ![0] (T : IVec S32 32) (broadcastInDim S_ ![] Cert.Pre_routed.Facts.bcast_S_S_ (constantI S_ 32 0#32))
    Cert.Pre_routed.Facts.reduceWindows_S32_S32_w32s1p31_0 Cert.Pre_routed.Facts.h_S_
  refine congrArg₂ (fun (x : IVec S32 32) (v : IVec S_ 32) => (Host.reduceWindow IntOp.addi ![32] ![1] ![31] ![0] x v reduceWindows_S32_S32_w32s1p31_0 h_S_ : IVec S32 32)) ?_ ?_
  · rfl
  · rfl

theorem V₃_sum (c : Dev nD) : V₃ m c (Proc.devRef .tc main_v5) = Cert.Tiles.sumW F (cnts m c) := by
  have h3 : V₁ m c (Proc.devRef .tc main_v3) = subi (addi (cnts m c) (broadcastInDim S32 ![] Cert.Pre_routed.Facts.bcast_S_S32 (constantI S_ 32 256#32)))
      (broadcastInDim S32 ![] Cert.Pre_routed.Facts.bcast_S_S32 (constantI S_ 32 1#32)) := by
    unfold V₁
    after_reads_simp
    rfl
  have hc : V₁ m c (Proc.devRef .tc main_c_1) = constantI S_ 32 256#32 := by
    unfold V₁
    after_reads_simp
  have h4 : V₂ m c (Proc.devRef .tc main_v4) = Cert.Routed.tilesW F (cnts m c) :=
    (div_ops (V₁ m c)).trans (congrArg₂ (Cert.Pre_routed.fn_floor_divide (F := F)) h3 hc)
  exact (sum_ops (V₂ m c)).trans ((congrArg (Cert.Pre_routed.fn_cumsum (F := F)) h4).trans (Cert.Tiles.sumW_def _).symm)

/-- The number of tiles, from the running sum. -/
def numW (s : IVec S32 32) : IVec S1 32 := extractStridedSlice S1 ![31] s slices_S32_S1_31

/-- A tile, or the last one in use. -/
def tileW (s : IVec S32 32) : IVec S544 32 :=
  minsi (iotaInDim S544 32 0) (broadcastInDim S544 ![] bcast_S_S544 (subi (shapeCast S_ (numW s) shapeCasts_S1_S_) (constantI S_ 32 1#32)))

/-- The tiles' experts, from the running sum. -/
def teW (s : IVec S32 32) : IVec S544 32 :=
  minsi (Host.reduce IntOp.addi (extui 32 (cmpi .sle (broadcastInDim S544x32 ![0, 1] bcast_S1x32_S544x32_0_1 (broadcastInDim S1x32 ![1] bcast_S32_S1x32_1 s))
      (broadcastInDim S544x32 ![0, 1] bcast_S544x1_S544x32_0_1 (broadcastInDim S544x1 ![0] bcast_S544_S544x1_0 (tileW s)))) natLt_1_32)
    (constantI S_ 32 0#32) reducesTo_S544x32_S544_d1 h_S_) (broadcastInDim S544 ![] bcast_S_S544 (constantI S_ 32 31#32))

theorem num_ops (V : Valuation τ sig (Elt F)) : StableHlo.after hostOps0_3 V (Proc.devRef .tc main_v6) = numW (V (Proc.devRef .tc main_v5)) := by
  after_reads_simp
  rfl

theorem te_ops (V : Valuation τ sig (Elt F)) : StableHlo.after hostOps0_3 V (Proc.devRef .tc main_v20) = teW (V (Proc.devRef .tc main_v5)) := by
  after_reads_simp
  rfl

section Words
variable (cnt : IVec S32 32) (hc : ∀ e, e < 32 → Cert.Routed.cn cnt e ≤ 131072) (hp : 1 ≤ Cert.Tiles.num cnt)
include hc

theorem numW_word (x : S1.Idx) : numW (Cert.Tiles.sumW F cnt) x = BitVec.ofNat 32 (Cert.Tiles.num cnt) := by
  have hx : x = ValueIdx.ix1 (0 : Fin 1) := funext fun a => match a with
    | ⟨0, _⟩ => Fin.ext (by have h : (x 0).val < 1 := (x 0).isLt; show (x 0).val = 0; omega)
  subst hx
  have hs := Cert.Tiles.sum_word (F := F) cnt hc 31
  generalize Cert.Tiles.sumW F cnt = s at hs ⊢
  rw [← Cert.Tiles.num_eq]
  exact (slice1 (m := 32) (n := 1) 31 s slices_S32_S1_31 0 (by decide)).trans hs

include hp

theorem tileW_word (t : Fin 544) : tileW (Cert.Tiles.sumW F cnt) (ValueIdx.ix1 t) = BitVec.ofNat 32 (min t.val (Cert.Tiles.num cnt - 1)) := by
  have hl := Cert.Tiles.num_le cnt hc
  have ht := t.isLt
  have e1 : broadcastInDim S544 ![] bcast_S_S544 (subi (shapeCast S_ (numW (Cert.Tiles.sumW F cnt)) shapeCasts_S1_S_) (constantI S_ 32 1#32)) (ValueIdx.ix1 t)
      = BitVec.ofNat 32 (Cert.Tiles.num cnt - 1) := by
    have hN := numW_word (F := F) cnt hc
    generalize numW (Cert.Tiles.sumW F cnt) = N at hN ⊢
    refine (bc0 bcast_S_S544 _ _).trans ?_
    show N _ - BitVec.ofNat 32 1 = _
    rw [hN, show Cert.Tiles.num cnt = (Cert.Tiles.num cnt - 1) + 1 from by omega, Cert.Routed.word_sub, Nat.add_sub_cancel]
  refine (congrArg (fun w => IntOp.minsi (BitVec.ofNat 32 t.val) w) e1).trans ?_
  exact Cert.Tiles.min_ofNat _ _ (by omega) (by omega)

theorem teW_word (t : Fin 544) : teW (Cert.Tiles.sumW F cnt) (ValueIdx.ix1 t) = BitVec.ofNat 32 (Cert.Tiles.te cnt t.val) := by
  have hl := Cert.Tiles.num_le cnt hc
  have ht := t.isLt
  have hs := Cert.Tiles.sum_word (F := F) cnt hc
  have hw := tileW_word (F := F) cnt hc hp t
  unfold teW
  generalize tileW (Cert.Tiles.sumW F cnt) = T at hw ⊢
  generalize Cert.Tiles.sumW F cnt = s at hs ⊢
  rw [Cert.Tiles.te_def]
  have e1 := reduce_count (n := 544) (m := 32) (by decide)
    (cmpi .sle (broadcastInDim S544x32 ![0, 1] bcast_S1x32_S544x32_0_1 (broadcastInDim S1x32 ![1] bcast_S32_S1x32_1 s))
      (broadcastInDim S544x32 ![0, 1] bcast_S544x1_S544x32_0_1 (broadcastInDim S544x1 ![0] bcast_S544_S544x1_0 T)))
    natLt_1_32 reducesTo_S544x32_S544_d1 h_S_ t (fun e => Cert.Tiles.upTo cnt (e + 1) ≤ min t.val (Cert.Tiles.num cnt - 1)) (fun e => by
      have he := Cert.Tiles.upTo_le cnt hc (e.val + 1) (by omega)
      refine Iff.trans (Eq.to_iff (congrArg (fun w => w = 1#1) (congrArg₂ (fun a b => IntOp.cmpi .sle a b)
        ((bcCols bcast_S32_S1x32_1 bcast_S1x32_S544x32_0_1 s t e).trans (hs e))
        ((bcRows bcast_S544_S544x1_0 bcast_S544x1_S544x32_0_1 T t e).trans hw)))) ?_
      rw [IntOp.cmpi_sle, Cert.Routed.toInt_word _ (by omega), Cert.Routed.toInt_word _ (by omega)]
      exact_mod_cast Iff.rfl)
  have h32 : Nat.count (fun e => Cert.Tiles.upTo cnt (e + 1) ≤ min t.val (Cert.Tiles.num cnt - 1)) 32 ≤ 32 := Nat.count_le ..
  refine (congrArg (fun w => IntOp.minsi w (BitVec.ofNat 32 31)) e1).trans ?_
  exact Cert.Tiles.min_ofNat _ _ (by omega) (by omega)

end Words

/-- The launch's hypotheses, from the counts. -/
theorem facts_of (hc : ∀ e, e < 32 → Cert.Routed.cn (cnts m 0) e ≤ 131072) (hp : ∃ e, e < 32 ∧ 0 < Cert.Routed.cn (cnts m 0) e) :
    Facts m (Cert.Tiles.te (cnts m 0)) (Cert.Tiles.num (cnts m 0)) := by
  have hp' := Cert.Tiles.num_pos (cnts m 0) hc hp
  have hl := Cert.Tiles.num_le (cnts m 0) hc
  have e6 : V₄ m 0 (Proc.devRef .tc main_v6) = numW (Cert.Tiles.sumW F (cnts m 0)) := (num_ops (V₃ m 0)).trans (congrArg numW (V₃_sum m 0))
  have e20 : V₄ m 0 (Proc.devRef .tc main_v20) = teW (Cert.Tiles.sumW F (cnts m 0)) := (te_ops (V₃ m 0)).trans (congrArg teW (V₃_sum m 0))
  refine ⟨fun t => ?_, Cert.Tiles.te_lt _, fun x => ?_, hp', by omega⟩
  · refine (congrFun e20 _).trans (Eq.trans ?_ (teW_word (F := F) (cnts m 0) hc hp' t))
    refine congrArg (teW (Cert.Tiles.sumW F (cnts m 0))) (funext fun a => ?_)
    match a with
    | ⟨0, _⟩ => rfl
  · exact (congrFun e6 x).trans (numW_word (F := F) (cnts m 0) hc x)

end Cert.Kernel2Ideal.Exp

end
-- ==== Proof.XRef.lean ====
module

public import proofs.«01_k».proof.Proof.XPre
public import proofs.«01_k».proof.Proof.Gen.Reference2Ideal.Read

@[expose] public section

noncomputable section

/-! # The experts' value over the reals, and the reference's

Row `r` of the packed rows goes through its expert's two layers: `hid` is the first, `act` the gated product between
them, `out` the second. -/

namespace Cert.Tiles

open Idealize.ShloMosaic

/-- The first layer, before the activation. -/
def hid (A : (⟨2, ![1114112, 128]⟩ : Shape).Idx → EReal) (U : (⟨3, ![32, 1024, 2048]⟩ : Shape).Idx → EReal) (bU : (⟨2, ![32, 2048]⟩ : Shape).Idx → EReal)
    (r : Fin 139264) (e : Fin 32) (j : Fin 2048) : EReal :=
  (∑ k : Fin 1024, A (ValueIdx.ix2 ⟨(r.val * 1024 + k.val) / 128, by omega⟩ ⟨(r.val * 1024 + k.val) % 128, by omega⟩) * U (ValueIdx.ix3 e k j)) + bU (ValueIdx.ix2 e j)

/-- The gate's half of a column. -/
def gate (H : Fin 2048 → EReal) (j : Fin 1024) : EReal := min (H ⟨2 * j.val, by omega⟩) (Ideal.ofBits .f32 0x40E00000#32)
/-- The linear half of a column. -/
def lin (H : Fin 2048 → EReal) (j : Fin 1024) : EReal :=
  min (Ideal.ofBits .f32 0x40E00000#32) (max (Ideal.ofBits .f32 0xC0E00000#32) (H ⟨1 + 2 * j.val, by omega⟩))
/-- The activation of a gate and a linear part. -/
def actOf (g l : EReal) : EReal := (g * Ideal.logistic (Ideal.ofBits .f32 0x3FD9DB23#32 * g)) * (l + Ideal.ofBits .f32 0x3F800000#32)

/-- The second layer. -/
def out (A : (⟨2, ![1114112, 128]⟩ : Shape).Idx → EReal) (U : (⟨3, ![32, 1024, 2048]⟩ : Shape).Idx → EReal) (bU : (⟨2, ![32, 2048]⟩ : Shape).Idx → EReal)
    (D : (⟨3, ![32, 1024, 1024]⟩ : Shape).Idx → EReal) (bD : (⟨2, ![32, 1024]⟩ : Shape).Idx → EReal) (r : Fin 139264) (e : Fin 32) (c : Fin 1024) : EReal :=
  (∑ j : Fin 1024, actOf (gate (hid A U bU r e) j) (lin (hid A U bU r e) j) * D (ValueIdx.ix3 e j c)) + bD (ValueIdx.ix2 e c)

theorem one_bits : Ideal.ofBits .f32 0x3F800000#32 = 1 := by
  simp [Ideal.ofBits, Ideal.ieee, -EReal.coe_mul]
  norm_num

/-- Rows of a stack of matrices by a word index: entry `(c, p, q)` is the entry `(b, p, q)` of the stack. -/
theorem gather_mat {α : Type} {nb P Q n : ℕ} (d : GatherDims ⟨3, ![nb, P, Q]⟩ ⟨2, ![n, 1]⟩ ⟨3, ![n, P, Q]⟩) (hoff : d.offsetDims = [1, 2])
    (hcoll : d.collapsedSliceDims = [0]) (hob : d.operandBatchingDims = []) (hsb : d.startIndicesBatchingDims = []) (hsim : d.startIndexMap = [0])
    (hivd : d.indexVectorDim = 1) (x : (⟨3, ![nb, P, Q]⟩ : Shape).Idx → α) (idx : IVec ⟨2, ![n, 1]⟩ 32) (c : Fin n) (p : Fin P) (q : Fin Q) (b : Fin nb)
    (hb : idx (ValueIdx.ix2 c (0 : Fin 1)) = BitVec.ofNat 32 b.val) (hnb : nb < 2 ^ 31) :
    Host.gather d x idx (ValueIdx.ix3 c p q) = x (ValueIdx.ix3 b p q) := by
  obtain ⟨od, cd, ob, sb, sm, iv, ss, wf⟩ := d
  simp only at hoff hcoll hob hsb hsim hivd
  subst hoff hcoll hob hsb hsim hivd
  unfold Host.gather
  refine congrArg x (funext fun a => Fin.ext ?_)
  match a with
  | ⟨0, _⟩ =>
    have hss := GatherDims.slice_collapsed (⟨[1, 2], [0], [], [], [0], 1, ss, wf⟩ : GatherDims ⟨3, ![nb, P, Q]⟩ ⟨2, ![n, 1]⟩ ⟨3, ![n, P, Q]⟩) 0 (List.mem_singleton.2 rfl)
    have hs : ss 0 = 1 := hss
    show min (idx _).toInt.toNat (nb - ss 0) + 0 + 0 = b.val
    have hi : (GatherDims.siIdx (⟨[1, 2], [0], [], [], [0], 1, ss, wf⟩ : GatherDims ⟨3, ![nb, P, Q]⟩ ⟨2, ![n, 1]⟩ ⟨3, ![n, P, Q]⟩) (ValueIdx.ix3 c p q)
        ⟨List.idxOf 0 [0], List.idxOf_lt_length_iff.2 (List.mem_singleton.2 rfl)⟩) = ValueIdx.ix2 c (0 : Fin 1) := funext fun a => match a with
      | ⟨0, _⟩ => rfl
      | ⟨1, _⟩ => rfl
    have hv := b.isLt
    refine (congrArg (fun w => min (idx w).toInt.toNat (nb - ss 0) + 0 + 0) hi).trans ?_
    show min (idx _).toInt.toNat (nb - ss 0) + 0 + 0 = b.val
    rw [hb, hs, Cert.Routed.toInt_word _ (by omega), Int.toNat_natCast]
    omega
  | ⟨1, _⟩ =>
    show 0 + 0 + p.val = p.val
    omega
  | ⟨2, _⟩ =>
    show 0 + 0 + q.val = q.val
    omega

end Cert.Tiles

namespace Cert.Reference2Ideal.Read

open Cert.Reference2Ideal Cert.Reference2Ideal.Gen
open Idealize.ShloMosaic Idealize.ShloMosaic.TcCoe Idealize.SL.Sem Idealize.ShloMosaic.StableHlo Idealize.ShloMosaic.Routing

variable {F : FTy → Type} [FloatOps F]

attribute [local irreducible] Cert.Tiles.upTo Cert.Tiles.num Cert.Tiles.own Cert.Tiles.te Cert.Tiles.sumW

theorem tiles_eq (cnt : IVec S32 32) : val_main_v5 (F := F) cnt = Cert.Routed.tilesW F cnt := rfl

section Words
variable (cnt : IVec S32 32) (hc : ∀ e, e < 32 → Cert.Routed.cn cnt e ≤ 131072)
include hc

theorem v8_word (e : Fin 32) : val_main_v8 (F := F) cnt (ValueIdx.ix1 e) = BitVec.ofNat 32 (Cert.Tiles.upTo cnt (e.val + 1) * 256) := by
  have ht := Cert.Routed.tiles_word (F := F) cnt hc
  have h7 : ∀ i : Fin 32, val_main_v7 (F := F) cnt (ValueIdx.ix1 i) = BitVec.ofNat 32 (Cert.Routed.tl cnt i.val * 256) := fun i => by
    rw [val_main_v7_apply, tiles_eq, val_main_v6_apply]
    show IntOp.muli (Cert.Routed.tilesW F cnt (ValueIdx.ix1 i)) (BitVec.ofNat 32 256) = _
    rw [ht, ← Cert.Routed.word_mul]
    rfl
  have hs : ((List.range (e.val + 1)).map fun e => Cert.Routed.tl cnt e * 256).sum = Cert.Tiles.upTo cnt (e.val + 1) * 256 := by
    unfold Cert.Tiles.upTo
    rw [List.sum_map_mul_right]
  rw [← hs]
  unfold val_main_v8
  generalize val_main_v7 (F := F) cnt = T at h7 ⊢
  exact cumsum1 (N := 32) (Nm1 := 31) rfl T (fun e => Cert.Routed.tl cnt e * 256) h7 _ (by rfl) reduceWindows_S32_S32_w32s1p31_0 h_S_ e

theorem v16_word (r : Fin 139264) : val_main_v16 (F := F) cnt (ValueIdx.ix1 r) = BitVec.ofNat 32 (Cert.Tiles.own cnt (r.val / 256)) := by
  have hr := r.isLt
  have e1 := reduce_count (n := 139264) (m := 32) (by decide) (val_main_v14 (F := F) cnt) natLt_1_32 reducesTo_S139264x32_S139264_d1 h_S_ r
    (fun e => Cert.Tiles.upTo cnt (e + 1) ≤ r.val / 256) (fun e => by
      have he := Cert.Tiles.upTo_le cnt hc (e.val + 1) (by omega)
      have hi : idx_main_v10 (idx_main_v12 (ValueIdx.ix2 r e)) = ValueIdx.ix1 e := funext fun a => match a with | ⟨0, _⟩ => rfl
      rw [val_main_v14_apply, val_main_v12_apply, val_main_v10_apply, val_main_v13_apply, val_main_v11_apply, val_main_v9_apply]
      refine Iff.trans (Eq.to_iff (congrArg (fun w => IntOp.cmpi .sle w _ = 1#1) ((congrArg (val_main_v8 (F := F) cnt) hi).trans (v8_word (F := F) cnt hc e)))) ?_
      show IntOp.cmpi .sle _ (BitVec.ofNat 32 r.val) = 1#1 ↔ _
      rw [IntOp.cmpi_sle, Cert.Routed.toInt_word _ (by omega), Cert.Routed.toInt_word _ (by omega), Nat.le_div_iff_mul_le (by decide)]
      exact_mod_cast Iff.rfl)
  unfold Cert.Tiles.own
  exact e1

theorem own_le (t : ℕ) : Cert.Tiles.own cnt t ≤ 32 := by
  unfold Cert.Tiles.own
  exact Nat.count_le ..

theorem wrapped (r : Fin 139264) (a : BitVec 32) :
    Scalar.select (IntOp.cmpi .slt (val_main_v16 (F := F) cnt (ValueIdx.ix1 r)) 0#32) a (val_main_v16 (F := F) cnt (ValueIdx.ix1 r))
      = BitVec.ofNat 32 (Cert.Tiles.own cnt (r.val / 256)) := by
  have := own_le cnt hc (r.val / 256)
  rw [v16_word cnt hc r]
  refine wrap_of_lt _ a ?_
  rw [BitVec.toNat_ofNat]
  omega

theorem v22_word (r : Fin 139264) : val_main_v22 (F := F) cnt (ValueIdx.ix2 r (0 : Fin 1)) = BitVec.ofNat 32 (Cert.Tiles.own cnt (r.val / 256)) := by
  have hi : idx_main_v22 (ValueIdx.ix2 r (0 : Fin 1)) = ValueIdx.ix1 r := funext fun a => match a with | ⟨0, _⟩ => rfl
  rw [val_main_v22_apply, hi, val_main_v21_apply, val_main_v18_apply, val_main_v17_apply]
  exact wrapped cnt hc r _
theorem v30_word (r : Fin 139264) : val_main_v30 (F := F) cnt (ValueIdx.ix2 r (0 : Fin 1)) = BitVec.ofNat 32 (Cert.Tiles.own cnt (r.val / 256)) := by
  have hi : idx_main_v30 (ValueIdx.ix2 r (0 : Fin 1)) = ValueIdx.ix1 r := funext fun a => match a with | ⟨0, _⟩ => rfl
  rw [val_main_v30_apply, hi, val_main_v29_apply, val_main_v26_apply, val_main_v25_apply]
  exact wrapped cnt hc r _
theorem v55_word (r : Fin 139264) : val_main_v55 (F := F) cnt (ValueIdx.ix2 r (0 : Fin 1)) = BitVec.ofNat 32 (Cert.Tiles.own cnt (r.val / 256)) := by
  have hi : idx_main_v55 (ValueIdx.ix2 r (0 : Fin 1)) = ValueIdx.ix1 r := funext fun a => match a with | ⟨0, _⟩ => rfl
  rw [val_main_v55_apply, hi, val_main_v54_apply, val_main_v51_apply, val_main_v50_apply]
  exact wrapped cnt hc r _
theorem v63_word (r : Fin 139264) : val_main_v63 (F := F) cnt (ValueIdx.ix2 r (0 : Fin 1)) = BitVec.ofNat 32 (Cert.Tiles.own cnt (r.val / 256)) := by
  have hi : idx_main_v63 (ValueIdx.ix2 r (0 : Fin 1)) = ValueIdx.ix1 r := funext fun a => match a with | ⟨0, _⟩ => rfl
  rw [val_main_v63_apply, hi, val_main_v62_apply, val_main_v59_apply, val_main_v58_apply]
  exact wrapped cnt hc r _

end Words

section Value
variable (A : FVec Ideal S1114112x128 .f32) (cnt : IVec S32 32) (U : FVec Ideal S32x1024x2048 .f32) (bU : FVec Ideal S32x2048 .f32)
  (D : FVec Ideal S32x1024x1024 .f32) (bD : FVec Ideal S32x1024 .f32) (hc : ∀ e, e < 32 → Cert.Routed.cn cnt e ≤ 131072)
  (r : Fin 139264) (e : Fin 32) (he : Cert.Tiles.own cnt (r.val / 256) = e.val)
include hc he

theorem hid_apply (j : Fin 2048) : val_main_v32 (F := Ideal) A cnt U bU (ValueIdx.ix2 r j) = Cert.Tiles.hid A U bU r e j := by
  have e24 : val_main_v24 (F := Ideal) A cnt U (ValueIdx.ix2 r j)
      = ∑ k : Fin 1024, A (ValueIdx.ix2 ⟨(r.val * 1024 + k.val) / 128, by omega⟩ ⟨(r.val * 1024 + k.val) % 128, by omega⟩) * U (ValueIdx.ix3 e k j) := by
    refine (val_main_v24_apply A cnt U _).trans (Finset.sum_congr rfl fun k _ => congrArg₂ (fun a b : EReal => a * b) ?_ ?_)
    · refine (val_main_v0_apply (F := Ideal) A _).trans (congrArg A (funext fun a => ?_))
      match a with
      | ⟨0, _⟩ => rfl
      | ⟨1, _⟩ => rfl
    · have hi : ridx_main_v24 (ValueIdx.ix2 r j) k = ValueIdx.ix3 r k j := funext fun a => match a with
        | ⟨0, _⟩ => rfl
        | ⟨1, _⟩ => rfl
        | ⟨2, _⟩ => rfl
      rw [hi]
      unfold val_main_v23
      exact Cert.Tiles.gather_mat gather_S32x1024x2048_S139264x1_S139264x1024x2048_12_0_n_n_0_1_110242048 rfl rfl rfl rfl rfl rfl U _ r k j e
        (by rw [v22_word cnt hc r, he]) (by decide)
  have e31 : val_main_v31 (F := Ideal) cnt bU (ValueIdx.ix2 r j) = bU (ValueIdx.ix2 e j) := by
    unfold val_main_v31
    exact gather_row gather_S32x2048_S139264x1_S139264x2048_1_0_n_n_0_1_12048 rfl rfl rfl rfl rfl bU _ r j e
      ((v30_word cnt hc r).trans (by rw [he])) (by decide)
  rw [val_main_v32_apply]
  exact congrArg₂ (fun a b : EReal => a + b) e24 e31

theorem gate_apply (j : Fin 1024) : val_main_v35 (F := Ideal) A cnt U bU (ValueIdx.ix2 r j) = Cert.Tiles.gate (Cert.Tiles.hid A U bU r e) j := by
  have hi : val_main_v33 (F := Ideal) A cnt U bU (ValueIdx.ix2 r j) = val_main_v32 (F := Ideal) A cnt U bU (ValueIdx.ix2 r ⟨2 * j.val, by omega⟩) := by
    unfold val_main_v33 Host.slice
    refine congrArg (val_main_v32 (F := Ideal) A cnt U bU) (funext fun a => Fin.ext ?_)
    match a with
    | ⟨0, _⟩ => show 0 + 1 * r.val = r.val; omega
    | ⟨1, _⟩ => show 0 + 2 * j.val = 2 * j.val; omega
  rw [val_main_v35_apply, hi, hid_apply A cnt U bU hc r e he, val_main_v34_apply]
  rfl

theorem lin_apply (j : Fin 1024) : val_main_v37 (F := Ideal) A cnt U bU (ValueIdx.ix2 r j) = Cert.Tiles.lin (Cert.Tiles.hid A U bU r e) j := by
  have hi : val_main_v36 (F := Ideal) A cnt U bU (ValueIdx.ix2 r j) = val_main_v32 (F := Ideal) A cnt U bU (ValueIdx.ix2 r ⟨1 + 2 * j.val, by omega⟩) := by
    unfold val_main_v36 Host.slice
    refine congrArg (val_main_v32 (F := Ideal) A cnt U bU) (funext fun a => Fin.ext ?_)
    match a with
    | ⟨0, _⟩ => show 0 + 1 * r.val = r.val; omega
    | ⟨1, _⟩ => rfl
  rw [val_main_v37_apply, val_main_call2_v2_apply, hi, hid_apply A cnt U bU hc r e he, val_main_call2_v4_apply, val_main_call2_v1_apply]
  rfl

theorem act_apply (j : Fin 1024) : val_main_v49 (F := Ideal) A cnt U bU (ValueIdx.ix2 r j)
    = Cert.Tiles.actOf (Cert.Tiles.gate (Cert.Tiles.hid A U bU r e) j) (Cert.Tiles.lin (Cert.Tiles.hid A U bU r e) j) := by
  rw [val_main_v49_apply, val_main_v46_apply, val_main_v48_apply, val_main_v45_apply, val_main_v43_apply, val_main_v41_apply, val_main_v40_apply,
    val_main_v39_apply, gate_apply A cnt U bU hc r e he, lin_apply A cnt U bU hc r e he]
  generalize Cert.Tiles.gate _ j = g
  generalize Cert.Tiles.lin _ j = l
  unfold Cert.Tiles.actOf Ideal.logistic
  rw [← Cert.Tiles.one_bits]
  rfl

theorem out_apply (c : Fin 1024) : val_main_v65 (F := Ideal) A cnt U bU D bD (ValueIdx.ix2 r c) = Cert.Tiles.out A U bU D bD r e c := by
  have e57 : val_main_v57 (F := Ideal) A cnt U bU D (ValueIdx.ix2 r c)
      = ∑ j : Fin 1024, Cert.Tiles.actOf (Cert.Tiles.gate (Cert.Tiles.hid A U bU r e) j) (Cert.Tiles.lin (Cert.Tiles.hid A U bU r e) j) * D (ValueIdx.ix3 e j c) := by
    refine (val_main_v57_apply A cnt U bU D _).trans (Finset.sum_congr rfl fun k _ => congrArg₂ (fun a b : EReal => a * b) ?_ ?_)
    · have hi : lidx_main_v57 (ValueIdx.ix2 r c) k = ValueIdx.ix2 r k := funext fun a => match a with
        | ⟨0, _⟩ => rfl
        | ⟨1, _⟩ => rfl
      rw [hi]
      exact act_apply A cnt U bU hc r e he k
    · have hi : ridx_main_v57 (ValueIdx.ix2 r c) k = ValueIdx.ix3 r k c := funext fun a => match a with
        | ⟨0, _⟩ => rfl
        | ⟨1, _⟩ => rfl
        | ⟨2, _⟩ => rfl
      rw [hi]
      unfold val_main_v56
      exact Cert.Tiles.gather_mat gather_S32x1024x1024_S139264x1_S139264x1024x1024_12_0_n_n_0_1_110241024 rfl rfl rfl rfl rfl rfl D _ r k c e
        (by rw [v55_word cnt hc r, he]) (by decide)
  have e64 : val_main_v64 (F := Ideal) cnt bD (ValueIdx.ix2 r c) = bD (ValueIdx.ix2 e c) := by
    unfold val_main_v64
    exact gather_row gather_S32x1024_S139264x1_S139264x1024_1_0_n_n_0_1_11024 rfl rfl rfl rfl rfl bD _ r c e
      ((v63_word cnt hc r).trans (by rw [he])) (by decide)
  rw [val_main_v65_apply]
  exact congrArg₂ (fun a b : EReal => a + b) e57 e64

end Value

/-- The reference's result at an element of a tile in use. -/
theorem ref_apply (A : FVec Ideal S1114112x128 .f32) (cnt : IVec S32 32) (U : FVec Ideal S32x1024x2048 .f32) (bU : FVec Ideal S32x2048 .f32)
    (D : FVec Ideal S32x1024x1024 .f32) (bD : FVec Ideal S32x1024 .f32) (hc : ∀ e, e < 32 → Cert.Routed.cn cnt e ≤ 131072)
    (y : S1114112x128.Idx) (r : Fin 139264) (hr : r.val = (y 0).val / 8) (e : Fin 32) (he : Cert.Tiles.own cnt (r.val / 256) = e.val)
    (c : Fin 1024) (hcv : c.val = (y 0).val % 8 * 128 + (y 1).val) :
    val_main_v66 (F := Ideal) A cnt U bU D bD y = Cert.Tiles.out A U bU D bD r e c := by
  rw [val_main_v66_apply]
  refine Eq.trans (congrArg (val_main_v65 (F := Ideal) A cnt U bU D bD) (funext fun a => Fin.ext ?_)) (out_apply A cnt U bU D bD hc r e he c)
  have h1 : (y 1).val < 128 := (y 1).isLt
  match a with
  | ⟨0, _⟩ => show ((y 0).val * 128 + (y 1).val) / 1024 = r.val; omega
  | ⟨1, _⟩ => show ((y 0).val * 128 + (y 1).val) % 1024 = c.val; omega

end Cert.Reference2Ideal.Read

end
-- ==== Proof.XVal.lean ====
module

public import proofs.«01_k».proof.Proof.XRef
public import Idealize.ShloMosaic.Lib.MatmulPlain

@[expose] public section

noncomputable section

/-! # The kernel's value over the reals

A tile's block, element by element, is the experts' value of its rows. -/

namespace Cert.Kernel2Ideal.Exp

open Cert.Kernel2Ideal Cert.Kernel2Ideal.Gen
open Idealize.ShloMosaic Idealize.ShloMosaic.TcCoe Idealize.SL.Sem Idealize.ShloMosaic.StableHlo

/-! ## One block -/

/-- A tile's rows, put together from their eight chunks. -/
theorem rows_apply (X3 : S2048x128.Idx → Elt Ideal .f32) (q : Fin 256) (k : Fin 1024) :
    k0_pay2 (F := Ideal) (chunk X3 0) (chunk X3 1) (chunk X3 2) (chunk X3 3) (chunk X3 4) (chunk X3 5) (chunk X3 6) (chunk X3 7) (ValueIdx.ix2 q k)
      = X3 (ValueIdx.ix2 ⟨8 * q.val + k.val / 128, by omega⟩ ⟨k.val % 128, by omega⟩) := by
  have e := concatenate_ofFn_apply (t := S256x1024) (s₁ := S256x128) 1 (fun n : Fin 8 => chunk X3 n)
    concatenates_S256x128_S256x128_S256x128_S256x128_S256x128_S256x128_S256x128_S256x128_S256x1024_d1 rfl 128 rfl (ValueIdx.ix2 q k)
    ⟨k.val / 128, by omega⟩ rfl (ValueIdx.ix2 q ⟨k.val % 128, by omega⟩) rfl (fun b hb => by
      match b with
      | ⟨0, _⟩ => rfl
      | ⟨1, _⟩ => exact absurd (Fin.ext rfl) hb)
  refine Eq.trans e (congrArg X3 (funext fun a => Fin.ext ?_))
  match a with
  | ⟨0, _⟩ => show k.val / 128 + 8 * q.val = 8 * q.val + k.val / 128; omega
  | ⟨1, _⟩ => show 0 + 1 * (k.val % 128) = k.val % 128; omega

/-- A block of weights as a matrix. -/
theorem mat_apply (X : S1x1024x1024.Idx → Elt Ideal .bf16) (k j : Fin 1024) :
    shapeCast S1024x1024 X shapeCasts_S1x1024x1024_S1024x1024 (ValueIdx.ix2 k j) = X (ValueIdx.ix3 0 k j) :=
  shapeCast_apply X _ _ _ (by
    rw [Shape.rowMajor_val_three, Shape.rowMajor_val_two]
    show (0 * 1024 + k.val) * 1024 + j.val = k.val * 1024 + j.val
    omega)

/-- A block of biases, on every row. -/
theorem bias_apply (X : S1x1x1024.Idx → Elt Ideal .f32) (q : Fin 256) (j : Fin 1024) :
    broadcastTo S256x1024 (shapeCast S1x1024 X shapeCasts_S1x1x1024_S1x1024) broadcasts_S1x1024_S256x1024 (ValueIdx.ix2 q j) = X (ValueIdx.ix3 0 0 j) := by
  refine (broadcastTo_apply _ _ _ (ValueIdx.ix2 (0 : Fin 1) j) fun a => ?_).trans (shapeCast_apply X _ _ _ ?_)
  · match a with
    | ⟨0, _⟩ => rfl
    | ⟨1, _⟩ => rfl
  · rw [Shape.rowMajor_val_three, Shape.rowMajor_val_two]
    rfl

/-- A product into zeros. -/
theorem prod_apply (L : FVec Ideal S256x1024 .bf16) (R : FVec Ideal S1024x1024 .bf16) (q : Fin 256) (j : Fin 1024) :
    matmul dot_S256x1024_S1024x1024_S256x1024_1_0_0_1_n_n none L R (constant (F := Ideal) S256x1024 .f32 0x00000000#32) (ValueIdx.ix2 q j)
      = ∑ k : Fin 1024, L (ValueIdx.ix2 q k) * R (ValueIdx.ix2 k j) := by
  refine (Ideal.matmul_plain_apply (M := 256) (K := 1024) (N := 1024) none L R _ q j).trans ?_
  show Ideal.ofBits .f32 0x00000000#32 + _ = _
  rw [Ideal.ofBits_zero_f32, zero_add]

section Block
variable (X3 : S2048x128.Idx → Elt Ideal .f32) (X4 X5 : S1x1024x1024.Idx → Elt Ideal .bf16) (X6 X7 : S1x1x1024.Idx → Elt Ideal .f32)
  (X8 : S1x1024x1024.Idx → Elt Ideal .bf16) (X9 : S1x1x1024.Idx → Elt Ideal .f32)

/-- One half of the first layer. -/
def half (X : S1x1024x1024.Idx → Elt Ideal .bf16) (Y : S1x1x1024.Idx → Elt Ideal .f32) (q : Fin 256) (j : Fin 1024) : EReal :=
  (∑ k : Fin 1024, (X3 (ValueIdx.ix2 ⟨8 * q.val + k.val / 128, by omega⟩ ⟨k.val % 128, by omega⟩) : EReal) * X (ValueIdx.ix3 0 k j)) + Y (ValueIdx.ix3 0 0 j)

theorem half_apply (X : S1x1024x1024.Idx → Elt Ideal .bf16) (Y : S1x1x1024.Idx → Elt Ideal .f32) (q : Fin 256) (j : Fin 1024) :
    k0_pay3 (F := Ideal) (chunk X3 0) (chunk X3 1) (chunk X3 2) (chunk X3 3) (chunk X3 4) (chunk X3 5) (chunk X3 6) (chunk X3 7) X Y (ValueIdx.ix2 q j)
      = half X3 X Y q j := by
  have hr := rows_apply X3 q
  unfold k0_pay3
  generalize k0_pay2 (F := Ideal) (chunk X3 0) (chunk X3 1) (chunk X3 2) (chunk X3 3) (chunk X3 4) (chunk X3 5) (chunk X3 6) (chunk X3 7) = L at hr ⊢
  refine congrArg₂ (fun a b : EReal => a + b) ((prod_apply L _ q j).trans (Finset.sum_congr rfl fun k _ => congrArg₂ (fun a b : EReal => a * b) (hr k) (mat_apply X k j)))
    (bias_apply Y q j)

theorem gated_apply (X : S1x1024x1024.Idx → Elt Ideal .bf16) (Y : S1x1x1024.Idx → Elt Ideal .f32) (q : Fin 256) (j : Fin 1024) :
    k0_pay4 (F := Ideal) (chunk X3 0) (chunk X3 1) (chunk X3 2) (chunk X3 3) (chunk X3 4) (chunk X3 5) (chunk X3 6) (chunk X3 7) X Y (ValueIdx.ix2 q j)
      = min (half X3 X Y q j) (Ideal.ofBits .f32 0x40E00000#32) :=
  congrArg (fun a : EReal => min a (Ideal.ofBits .f32 0x40E00000#32)) (half_apply X3 X Y q j)

/-- A tile's rows through the expert, element by element. -/
theorem rowsOut_apply (q : Fin 256) (c : Fin 1024) : rowsOut X3 X4 X5 X6 X7 X8 X9 (ValueIdx.ix2 q c)
    = (∑ j : Fin 1024, Cert.Tiles.actOf (min (half X3 X4 X6 q j) (Ideal.ofBits .f32 0x40E00000#32))
        (min (Ideal.ofBits .f32 0x40E00000#32) (max (Ideal.ofBits .f32 0xC0E00000#32) (half X3 X5 X7 q j))) * (X8 (ValueIdx.ix3 0 j c) : EReal))
      + X9 (ValueIdx.ix3 0 0 c) := by
  have hl := half_apply X3 X5 X7 q
  have hg := gated_apply X3 X4 X6 q
  unfold rowsOut
  generalize k0_pay3 (F := Ideal) (chunk X3 0) (chunk X3 1) (chunk X3 2) (chunk X3 3) (chunk X3 4) (chunk X3 5) (chunk X3 6) (chunk X3 7) X5 X7 = l at hl ⊢
  generalize k0_pay4 (F := Ideal) (chunk X3 0) (chunk X3 1) (chunk X3 2) (chunk X3 3) (chunk X3 4) (chunk X3 5) (chunk X3 6) (chunk X3 7) X4 X6 = g at hg ⊢
  unfold k0_pay6 k0_pay5
  refine congrArg₂ (fun a b : EReal => a + b) ((prod_apply _ _ q c).trans (Finset.sum_congr rfl fun j _ => congrArg₂ (fun a b : EReal => a * b) ?_ (mat_apply X8 j c)))
    (bias_apply X9 q c)
  rw [← hl j, ← hg j]
  rfl

end Block

/-! ## The arrays the blocks are of -/

section Arrays
variable {F : FTy → Type} [FloatOps F] (m : (ℓ : Loc nD τ sig) → Buf (Elt F) ℓ)

theorem V₃_arg (c : Dev nD) (b : Ref sig .tc) (hb : b = main_arg2 ∨ b = main_arg3 ∨ b = main_arg4 ∨ b = main_arg5) :
    V₃ m c (Proc.devRef .tc b) = m ((c : Thread nD τ).loc b) := by
  rcases hb with rfl | rfl | rfl | rfl <;> unfold V₃ V₂ V₁ <;> after_reads_simp <;> rfl

theorem ops_v22 (V : Valuation τ sig (Elt F)) : StableHlo.after hostOps0_3 V (Proc.devRef .tc main_v22)
    = truncf .bf16 (Host.slice S32x1024x1024 ![0, 0, 0] ![1, 1, 2] (V (Proc.devRef .tc main_arg2) : FVec F S32x1024x2048 .f32) slicesBy_S32x1024x2048_S32x1024x1024_0s1_0s1_0s2) bitsLt_bf16_f32 := by
  after_reads_simp
theorem ops_v24 (V : Valuation τ sig (Elt F)) : StableHlo.after hostOps0_3 V (Proc.devRef .tc main_v24)
    = truncf .bf16 (Host.slice S32x1024x1024 ![0, 0, 1] ![1, 1, 2] (V (Proc.devRef .tc main_arg2) : FVec F S32x1024x2048 .f32) slicesBy_S32x1024x2048_S32x1024x1024_0s1_0s1_1s2) bitsLt_bf16_f32 := by
  after_reads_simp
theorem ops_v26 (V : Valuation τ sig (Elt F)) : StableHlo.after hostOps0_3 V (Proc.devRef .tc main_v26)
    = broadcastInDim S32x1x1024 ![0, 2] bcast_S32x1024_S32x1x1024_0_2 (Host.slice S32x1024 ![0, 0] ![1, 2] (V (Proc.devRef .tc main_arg3) : FVec F S32x2048 .f32) slicesBy_S32x2048_S32x1024_0s1_0s2) := by
  after_reads_simp
theorem ops_v28 (V : Valuation τ sig (Elt F)) : StableHlo.after hostOps0_3 V (Proc.devRef .tc main_v28)
    = broadcastInDim S32x1x1024 ![0, 2] bcast_S32x1024_S32x1x1024_0_2 (Host.slice S32x1024 ![0, 1] ![1, 2] (V (Proc.devRef .tc main_arg3) : FVec F S32x2048 .f32) slicesBy_S32x2048_S32x1024_0s1_1s2) := by
  after_reads_simp
theorem ops_v29 (V : Valuation τ sig (Elt F)) : StableHlo.after hostOps0_3 V (Proc.devRef .tc main_v29)
    = truncf .bf16 (V (Proc.devRef .tc main_arg4) : FVec F S32x1024x1024 .f32) bitsLt_bf16_f32 := by
  after_reads_simp
theorem ops_v30 (V : Valuation τ sig (Elt F)) : StableHlo.after hostOps0_3 V (Proc.devRef .tc main_v30)
    = broadcastInDim S32x1x1024 ![0, 2] bcast_S32x1024_S32x1x1024_0_2 (V (Proc.devRef .tc main_arg5) : FVec F S32x1024 .f32) := by
  after_reads_simp

end Arrays

/-- A stack of rows at `[e, 0, j]`. -/
theorem stack_apply {α : Type} (x : S32x1024.Idx → α) (e : Fin 32) (j : Fin 1024) :
    broadcastInDim S32x1x1024 ![0, 2] bcast_S32x1024_S32x1x1024_0_2 x (ValueIdx.ix3 e 0 j) = x (ValueIdx.ix2 e j) :=
  broadcastInDim_apply _ _ x _ _ fun a => match a with
    | ⟨0, _⟩ => by show e.val = if (32 : ℕ) = 1 then 0 else e.val; rw [if_neg (by decide)]
    | ⟨1, _⟩ => by show j.val = if (1024 : ℕ) = 1 then 0 else j.val; rw [if_neg (by decide)]

section Blocks

variable {m : (ℓ : Loc nD τ sig) → Buf (Elt Ideal) ℓ} {te : ℕ → ℕ} {n : ℕ} (h : Facts m te n)
include h

/-- The windows' block numbers. -/
theorem index0 (t : Fin grid0.N) : ((cfg0 (adm h 0)).win 0).index t = ![min t.val (n - 1), 0] := by
  have := ix_rows h (grid0.coords t)
  rw [coords_val] at this
  exact this
omit h in
theorem index_exp (a : (pcfg0 (F := Ideal)).Adm) (t : Fin grid0.N) : ((cfg0 a).win 1).index t = cc0_transform_1 k0_off1_inb numel1_S1 a.1 (grid0.coords t) := rfl
theorem index1 (t : Fin grid0.N) : ((cfg0 (adm h 0)).win 1).index t = ![te t.val, 0, 0] := by
  have e1 := ix_exp h (grid0.coords t)
  rw [coords_val] at e1
  exact (index_exp (adm h 0) t).trans e1
theorem index2 (t : Fin grid0.N) : ((cfg0 (adm h 0)).win 2).index t = ![te t.val, 0, 0] := index1 h t
theorem index3 (t : Fin grid0.N) : ((cfg0 (adm h 0)).win 3).index t = ![te t.val, 0, 0] := index1 h t
theorem index4 (t : Fin grid0.N) : ((cfg0 (adm h 0)).win 4).index t = ![te t.val, 0, 0] := index1 h t
theorem index5 (t : Fin grid0.N) : ((cfg0 (adm h 0)).win 5).index t = ![te t.val, 0, 0] := index1 h t
theorem index6 (t : Fin grid0.N) : ((cfg0 (adm h 0)).win 6).index t = ![te t.val, 0, 0] := index1 h t

theorem emb0 (t : Fin grid0.N) (x : S2048x128.Idx) : (((cfg0 (adm h 0)).win 0).blk t).view.emb x = rowIdx n t x := by
  have key : ∀ a : Fin 2, (![min t.val (n - 1), 0] : Fin 2 → ℕ) a * S2048x128.size a + (x a).val = (rowIdx n t x a).val := fun a =>
    match a with
    | ⟨0, _⟩ => by show min t.val (n - 1) * 2048 + (x 0).val = 2048 * min t.val (n - 1) + (x 0).val; omega
    | ⟨1, _⟩ => by show 0 * 128 + (x 1).val = (x 1).val; omega
  funext a
  apply Fin.ext
  have e := Pipeline.Window.rect_emb_val ((cfg0 (adm h 0)).win 0) t x a
  rw [index0 h] at e
  exact Eq.trans e (key a)

variable (e : Fin 32) (t : Fin grid0.N) (he : te t.val = e.val)
include he

theorem key_mat (k j : Fin 1024) (a : Fin 3) : (![te t.val, 0, 0] : Fin 3 → ℕ) a * S1x1024x1024.size a + (ValueIdx.ix3 (0 : Fin 1) k j a).val
    = (ValueIdx.ix3 e k j a).val :=
  match a with
  | ⟨0, _⟩ => by show te t.val * 1 + 0 = e.val; omega
  | ⟨1, _⟩ => by show 0 * 1024 + k.val = k.val; omega
  | ⟨2, _⟩ => by show 0 * 1024 + j.val = j.val; omega
theorem key_row (j : Fin 1024) (a : Fin 3) : (![te t.val, 0, 0] : Fin 3 → ℕ) a * S1x1x1024.size a + (ValueIdx.ix3 (0 : Fin 1) (0 : Fin 1) j a).val
    = (ValueIdx.ix3 e (0 : Fin 1) j a).val :=
  match a with
  | ⟨0, _⟩ => by show te t.val * 1 + 0 = e.val; omega
  | ⟨1, _⟩ => by show 0 * 1 + 0 = 0; omega
  | ⟨2, _⟩ => by show 0 * 1024 + j.val = j.val; omega

theorem emb1 (k j : Fin 1024) : (((cfg0 (adm h 0)).win 1).blk t).view.emb (ValueIdx.ix3 0 k j : S1x1024x1024.Idx) = (ValueIdx.ix3 e k j : S32x1024x1024.Idx) := by
  funext a
  apply Fin.ext
  have e1 := Pipeline.Window.rect_emb_val ((cfg0 (adm h 0)).win 1) t (ValueIdx.ix3 0 k j : S1x1024x1024.Idx) a
  rw [index1 h] at e1
  exact Eq.trans e1 (key_mat h e t he k j a)
theorem emb2 (k j : Fin 1024) : (((cfg0 (adm h 0)).win 2).blk t).view.emb (ValueIdx.ix3 0 k j : S1x1024x1024.Idx) = (ValueIdx.ix3 e k j : S32x1024x1024.Idx) := by
  funext a
  apply Fin.ext
  have e1 := Pipeline.Window.rect_emb_val ((cfg0 (adm h 0)).win 2) t (ValueIdx.ix3 0 k j : S1x1024x1024.Idx) a
  rw [index2 h] at e1
  exact Eq.trans e1 (key_mat h e t he k j a)
theorem emb5 (k j : Fin 1024) : (((cfg0 (adm h 0)).win 5).blk t).view.emb (ValueIdx.ix3 0 k j : S1x1024x1024.Idx) = (ValueIdx.ix3 e k j : S32x1024x1024.Idx) := by
  funext a
  apply Fin.ext
  have e1 := Pipeline.Window.rect_emb_val ((cfg0 (adm h 0)).win 5) t (ValueIdx.ix3 0 k j : S1x1024x1024.Idx) a
  rw [index5 h] at e1
  exact Eq.trans e1 (key_mat h e t he k j a)
theorem emb3 (j : Fin 1024) : (((cfg0 (adm h 0)).win 3).blk t).view.emb (ValueIdx.ix3 0 0 j : S1x1x1024.Idx) = (ValueIdx.ix3 e 0 j : S32x1x1024.Idx) := by
  funext a
  apply Fin.ext
  have e1 := Pipeline.Window.rect_emb_val ((cfg0 (adm h 0)).win 3) t (ValueIdx.ix3 0 0 j : S1x1x1024.Idx) a
  rw [index3 h] at e1
  exact Eq.trans e1 (key_row h e t he j a)
theorem emb4 (j : Fin 1024) : (((cfg0 (adm h 0)).win 4).blk t).view.emb (ValueIdx.ix3 0 0 j : S1x1x1024.Idx) = (ValueIdx.ix3 e 0 j : S32x1x1024.Idx) := by
  funext a
  apply Fin.ext
  have e1 := Pipeline.Window.rect_emb_val ((cfg0 (adm h 0)).win 4) t (ValueIdx.ix3 0 0 j : S1x1x1024.Idx) a
  rw [index4 h] at e1
  exact Eq.trans e1 (key_row h e t he j a)
theorem emb6 (j : Fin 1024) : (((cfg0 (adm h 0)).win 6).blk t).view.emb (ValueIdx.ix3 0 0 j : S1x1x1024.Idx) = (ValueIdx.ix3 e 0 j : S32x1x1024.Idx) := by
  funext a
  apply Fin.ext
  have e1 := Pipeline.Window.rect_emb_val ((cfg0 (adm h 0)).win 6) t (ValueIdx.ix3 0 0 j : S1x1x1024.Idx) a
  rw [index6 h] at e1
  exact Eq.trans e1 (key_row h e t he j a)

/-! The arguments. -/

omit h he in
/-- The arguments as arrays of reals. -/
abbrev aA (m : (ℓ : Loc nD τ sig) → Buf (Elt Ideal) ℓ) (c : Dev nD) : S1114112x128.Idx → EReal := m ((c : Thread nD τ).loc main_arg0)
omit h he in
abbrev aU (m : (ℓ : Loc nD τ sig) → Buf (Elt Ideal) ℓ) (c : Dev nD) : S32x1024x2048.Idx → EReal := m ((c : Thread nD τ).loc main_arg2)
omit h he in
abbrev aV (m : (ℓ : Loc nD τ sig) → Buf (Elt Ideal) ℓ) (c : Dev nD) : S32x2048.Idx → EReal := m ((c : Thread nD τ).loc main_arg3)
omit h he in
abbrev aD (m : (ℓ : Loc nD τ sig) → Buf (Elt Ideal) ℓ) (c : Dev nD) : S32x1024x1024.Idx → EReal := m ((c : Thread nD τ).loc main_arg4)
omit h he in
abbrev aE (m : (ℓ : Loc nD τ sig) → Buf (Elt Ideal) ℓ) (c : Dev nD) : S32x1024.Idx → EReal := m ((c : Thread nD τ).loc main_arg5)

omit he in
theorem b0_apply (x : S2048x128.Idx) : b0 h t x = aA m 0 (rowIdx n t x) := by
  have e1 := V₄_arg m 0 main_arg0 (.inl rfl)
  exact (congrArg (V₄ m 0 (Proc.devRef .tc main_arg0)) (emb0 h t x)).trans (congrFun e1 (rowIdx n t x))

theorem b1_apply (k j : Fin 1024) : b1 h t (ValueIdx.ix3 0 k j) = aU m 0 (ValueIdx.ix3 e k ⟨2 * j.val, by omega⟩) := by
  have e1 : V₄ m 0 (Proc.devRef .tc main_v22) = _ := ops_v22 (V₃ m 0)
  rw [V₃_arg m 0 main_arg2 (.inl rfl)] at e1
  refine (congrArg (V₄ m 0 (Proc.devRef .tc main_v22)) (emb1 h e t he k j)).trans ((congrFun e1 (ValueIdx.ix3 e k j)).trans ?_)
  refine congrArg (aU m 0) (funext fun a => Fin.ext ?_)
  match a with
  | ⟨0, _⟩ => show 0 + 1 * e.val = e.val; omega
  | ⟨1, _⟩ => show 0 + 1 * k.val = k.val; omega
  | ⟨2, _⟩ => show 0 + 2 * j.val = 2 * j.val; omega
theorem b2_apply (k j : Fin 1024) : b2 h t (ValueIdx.ix3 0 k j) = aU m 0 (ValueIdx.ix3 e k ⟨1 + 2 * j.val, by omega⟩) := by
  have e1 : V₄ m 0 (Proc.devRef .tc main_v24) = _ := ops_v24 (V₃ m 0)
  rw [V₃_arg m 0 main_arg2 (.inl rfl)] at e1
  refine (congrArg (V₄ m 0 (Proc.devRef .tc main_v24)) (emb2 h e t he k j)).trans ((congrFun e1 (ValueIdx.ix3 e k j)).trans ?_)
  refine congrArg (aU m 0) (funext fun a => Fin.ext ?_)
  match a with
  | ⟨0, _⟩ => show 0 + 1 * e.val = e.val; omega
  | ⟨1, _⟩ => show 0 + 1 * k.val = k.val; omega
  | ⟨2, _⟩ => rfl
theorem b3_apply (j : Fin 1024) : b3 h t (ValueIdx.ix3 0 0 j) = aV m 0 (ValueIdx.ix2 e ⟨2 * j.val, by omega⟩) := by
  have e1 : V₄ m 0 (Proc.devRef .tc main_v26) = _ := ops_v26 (V₃ m 0)
  rw [V₃_arg m 0 main_arg3 (.inr (.inl rfl))] at e1
  refine (congrArg (V₄ m 0 (Proc.devRef .tc main_v26)) (emb3 h e t he j)).trans ((congrFun e1 (ValueIdx.ix3 e 0 j)).trans ((stack_apply _ e j).trans ?_))
  refine congrArg (aV m 0) (funext fun a => Fin.ext ?_)
  match a with
  | ⟨0, _⟩ => show 0 + 1 * e.val = e.val; omega
  | ⟨1, _⟩ => show 0 + 2 * j.val = 2 * j.val; omega
theorem b4_apply (j : Fin 1024) : b4 h t (ValueIdx.ix3 0 0 j) = aV m 0 (ValueIdx.ix2 e ⟨1 + 2 * j.val, by omega⟩) := by
  have e1 : V₄ m 0 (Proc.devRef .tc main_v28) = _ := ops_v28 (V₃ m 0)
  rw [V₃_arg m 0 main_arg3 (.inr (.inl rfl))] at e1
  refine (congrArg (V₄ m 0 (Proc.devRef .tc main_v28)) (emb4 h e t he j)).trans ((congrFun e1 (ValueIdx.ix3 e 0 j)).trans ((stack_apply _ e j).trans ?_))
  refine congrArg (aV m 0) (funext fun a => Fin.ext ?_)
  match a with
  | ⟨0, _⟩ => show 0 + 1 * e.val = e.val; omega
  | ⟨1, _⟩ => rfl
theorem b5_apply (k j : Fin 1024) : b5 h t (ValueIdx.ix3 0 k j) = aD m 0 (ValueIdx.ix3 e k j) := by
  have e1 : V₄ m 0 (Proc.devRef .tc main_v29) = _ := ops_v29 (V₃ m 0)
  rw [V₃_arg m 0 main_arg4 (.inr (.inr (.inl rfl)))] at e1
  exact (congrArg (V₄ m 0 (Proc.devRef .tc main_v29)) (emb5 h e t he k j)).trans (congrFun e1 (ValueIdx.ix3 e k j))
theorem b6_apply (j : Fin 1024) : b6 h t (ValueIdx.ix3 0 0 j) = aE m 0 (ValueIdx.ix2 e j) := by
  have e1 : V₄ m 0 (Proc.devRef .tc main_v30) = _ := ops_v30 (V₃ m 0)
  rw [V₃_arg m 0 main_arg5 (.inr (.inr (.inr rfl)))] at e1
  exact (congrArg (V₄ m 0 (Proc.devRef .tc main_v30)) (emb6 h e t he j)).trans ((congrFun e1 (ValueIdx.ix3 e 0 j)).trans (stack_apply _ e j))

theorem half_gate (ht : t.val < n) (q : Fin 256) (r : Fin 139264) (hr : r.val = 256 * t.val + q.val) (j : Fin 1024) :
    half (b0 h t) (b1 h t) (b3 h t) q j = Cert.Tiles.hid (aA m 0) (aU m 0) (aV m 0) r e ⟨2 * j.val, by omega⟩ := by
  unfold half Cert.Tiles.hid
  refine congrArg₂ (fun a b : EReal => a + b) (Finset.sum_congr rfl fun k _ => congrArg₂ (fun a b : EReal => a * b) ?_ (b1_apply h e t he k j)) (b3_apply h e t he j)
  refine (b0_apply h t _).trans (congrArg (aA m 0) (funext fun a => Fin.ext ?_))
  match a with
  | ⟨0, _⟩ => show 2048 * min t.val (n - 1) + (8 * q.val + k.val / 128) = (r.val * 1024 + k.val) / 128; omega
  | ⟨1, _⟩ => show k.val % 128 = (r.val * 1024 + k.val) % 128; omega
theorem half_lin (ht : t.val < n) (q : Fin 256) (r : Fin 139264) (hr : r.val = 256 * t.val + q.val) (j : Fin 1024) :
    half (b0 h t) (b2 h t) (b4 h t) q j = Cert.Tiles.hid (aA m 0) (aU m 0) (aV m 0) r e ⟨1 + 2 * j.val, by omega⟩ := by
  unfold half Cert.Tiles.hid
  refine congrArg₂ (fun a b : EReal => a + b) (Finset.sum_congr rfl fun k _ => congrArg₂ (fun a b : EReal => a * b) ?_ (b2_apply h e t he k j)) (b4_apply h e t he j)
  refine (b0_apply h t _).trans (congrArg (aA m 0) (funext fun a => Fin.ext ?_))
  match a with
  | ⟨0, _⟩ => show 2048 * min t.val (n - 1) + (8 * q.val + k.val / 128) = (r.val * 1024 + k.val) / 128; omega
  | ⟨1, _⟩ => show k.val % 128 = (r.val * 1024 + k.val) % 128; omega

end Blocks

/-- The kernel's result at an element of a tile in use. -/
theorem outG_apply {m : (ℓ : Loc nD τ sig) → Buf (Elt Ideal) ℓ} {te : ℕ → ℕ} {n : ℕ} (h : Facts m te n) (y : S1114112x128.Idx)
    (hy : (y 0).val / 2048 < n) (e : Fin 32) (he : te ((y 0).val / 2048) = e.val) (r : Fin 139264) (hr : r.val = (y 0).val / 8)
    (c : Fin 1024) (hc : c.val = (y 0).val % 8 * 128 + (y 1).val) :
    outG h y = Cert.Tiles.out (aA m 0) (aU m 0) (aV m 0) (aD m 0) (aE m 0) r e c := by
  have h1 : (y 1).val < 128 := (y 1).isLt
  have q : ∃ q : Fin 256, q.val = (y 0).val % 2048 / 8 := ⟨⟨_, by omega⟩, rfl⟩
  obtain ⟨q, hq⟩ := q
  have e1 : outG h y = rowsOut (b0 h (tileOf y)) (b1 h (tileOf y)) (b2 h (tileOf y)) (b3 h (tileOf y)) (b4 h (tileOf y)) (b5 h (tileOf y)) (b6 h (tileOf y)) (ValueIdx.ix2 q c) := by
    unfold outG outAt blockOut
    refine congrArg (rowsOut _ _ _ _ _ _ _) (funext fun a => Fin.ext ?_)
    match a with
    | ⟨0, _⟩ => exact hq.symm
    | ⟨1, _⟩ => show (y 0).val % 2048 % 8 * 128 + (y 1).val = c.val; omega
  have hr' : r.val = 256 * (tileOf y).val + q.val := by show r.val = 256 * ((y 0).val / 2048) + q.val; omega
  rw [e1, rowsOut_apply]
  unfold Cert.Tiles.out Cert.Tiles.gate Cert.Tiles.lin
  refine congrArg₂ (fun a b : EReal => a + b) (Finset.sum_congr rfl fun j _ => congrArg₂ (fun a b : EReal => a * b) ?_ (b5_apply h e (tileOf y) he j c)) (b6_apply h e (tileOf y) he c)
  rw [half_gate h e (tileOf y) he hy q r hr' j, half_lin h e (tileOf y) he hy q r hr' j]

end Cert.Kernel2Ideal.Exp

end
-- ==== Proof.XClaims.lean ====
module

public import proofs.«01_k».proof.Proof.Claims
public import proofs.«01_k».proof.Proof.XVal
public import proofs.«01_k».proof.Proof.Gen.Kernel2
public import proofs.«01_k».proof.Proof.Gen.Kernel2.Skeleton
public import proofs.«01_k».proof.Proof.Gen.Kernel2.Launch
public import proofs.«01_k».proof.Proof.Gen.Reference2Ideal.Run

@[expose] public section

noncomputable section

/-! # The experts' claims -/

namespace Cert.Kernel2Ideal.Exp

open Cert.Kernel2Ideal Cert.Kernel2Ideal.Gen
open Idealize.ShloMosaic Idealize.ShloMosaic.TcCoe Idealize.SL.Sem Idealize.ShloMosaic.StableHlo

variable {F : FTy → Type} [FloatOps F]

/-- The launch's hypotheses, from the precondition. -/
theorem facts_pre (m : (ℓ : Loc nD τ sig) → Buf (Elt F) ℓ)
    (hp : Cert.Pre_counted.fn (F := F) (m ((0 : Dev nD).tc.loc main_arg0)) (m ((0 : Dev nD).tc.loc main_arg1)) (m ((0 : Dev nD).tc.loc main_arg2))
      (m ((0 : Dev nD).tc.loc main_arg3)) (m ((0 : Dev nD).tc.loc main_arg4)) (m ((0 : Dev nD).tc.loc main_arg5)) = fun _ => 1#1) :
    (∀ e, e < 32 → Cert.Routed.cn (cnts m 0) e ≤ 131072) ∧ Facts m (Cert.Tiles.te (cnts m 0)) (Cert.Tiles.num (cnts m 0)) := by
  obtain ⟨h1, h2⟩ := Cert.Tiles.read (F := F) _ _ _ _ _ _ hp
  exact ⟨h1, facts_of m h1 h2⟩

end Cert.Kernel2Ideal.Exp

namespace Cert.Proof

open Idealize.ShloMosaic Idealize.ShloMosaic.TcCoe Idealize.SL.Sem Idealize.ShloMosaic.StableHlo

set_option maxHeartbeats 4000000 in
/-- The two programs' body tables are one. -/
theorem defs2_eq : Cert.Kernel2.defs (F := Bits) = Cert.Kernel2Ideal.defs (F := Bits) :=
  congrArg (Pipeline.defs _) (show Cert.Kernel2.defs₀ (F := Bits) = Cert.Kernel2Ideal.defs₀ (F := Bits) from
    congrArg Defs.onTc (funext fun l => match l with | 0 => rfl))

theorem ops20_eq : Cert.Kernel2.Gen.hostOps0 (F := Bits) = Cert.Kernel2Ideal.Gen.hostOps0 (F := Bits) := rfl
theorem ops21_eq : Cert.Kernel2.Gen.hostOps0_1 (F := Bits) = Cert.Kernel2Ideal.Gen.hostOps0_1 (F := Bits) := rfl
theorem ops22_eq : Cert.Kernel2.Gen.hostOps0_2 (F := Bits) = Cert.Kernel2Ideal.Gen.hostOps0_2 (F := Bits) := rfl
theorem ops23_eq : Cert.Kernel2.Gen.hostOps0_3 (F := Bits) = Cert.Kernel2Ideal.Gen.hostOps0_3 (F := Bits) := rfl

set_option maxHeartbeats 4000000 in
/-- The two programs' functions are one. -/
theorem main2_eq : Cert.Kernel2.main (F := Bits) = Cert.Kernel2Ideal.main (F := Bits) := by
  funext c
  refine (Cert.Kernel2.Gen.main_chain (F := Bits) c).trans (Eq.trans ?_ (Cert.Kernel2Ideal.Gen.main_chain (F := Bits) c).symm)
  rw [ops20_eq, ops21_eq, ops22_eq, ops23_eq]
  rfl

theorem frame_kernel2 : Cert.quiescent_Kernel2 := fun m ρ hp =>
  moved defs2_eq main2_eq ((θ_run Cert.Kernel2Ideal.defs _ _).mono (fun _ h => ⟨fun c => (h.1 c).1, h.2⟩)
    (Cert.Kernel2Ideal.Exp.run_main (Cert.Kernel2Ideal.Exp.facts_pre (F := Bits) m (hp 0)).2 ρ))

theorem frame_kernel2Ideal : Cert.quiescent_Kernel2Ideal := fun m ρ hp =>
  (θ_run Cert.Kernel2Ideal.defs _ _).mono (fun _ h => ⟨fun c => (h.1 c).1, h.2⟩)
    (Cert.Kernel2Ideal.Exp.run_main (Cert.Kernel2Ideal.Exp.facts_pre (F := Ideal) m (hp 0)).2 ρ)

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- An element of a tile in use, in the kernel's run and in the reference's. -/
theorem value2 (m : (ℓ : Loc Cert.Kernel2Ideal.nD Cert.Kernel2Ideal.τ Cert.Kernel2Ideal.sig) → Buf (Elt Ideal) ℓ)
    (hc : ∀ e, e < 32 → Cert.Routed.cn (Cert.Kernel2Ideal.Exp.cnts m 0) e ≤ 131072)
    (hf : Cert.Kernel2Ideal.Exp.Facts m (Cert.Tiles.te (Cert.Kernel2Ideal.Exp.cnts m 0)) (Cert.Tiles.num (Cert.Kernel2Ideal.Exp.cnts m 0)))
    (y : Cert.Kernel2Ideal.S1114112x128.Idx) (hy : (y 0).val / 2048 < Cert.Tiles.num (Cert.Kernel2Ideal.Exp.cnts m 0)) :
    Cert.Kernel2Ideal.Exp.final hf 0 y = Cert.Reference2Ideal.Read.val_main_v66 (F := Ideal) (Cert.Kernel2Ideal.Exp.aA m 0) (Cert.Kernel2Ideal.Exp.cnts m 0)
      (Cert.Kernel2Ideal.Exp.aU m 0) (Cert.Kernel2Ideal.Exp.aV m 0) (Cert.Kernel2Ideal.Exp.aD m 0) (Cert.Kernel2Ideal.Exp.aE m 0) y := by
  have h0 : (y 0).val < 1114112 := (y 0).isLt
  have h1 : (y 1).val < 128 := (y 1).isLt
  have ho := Cert.Tiles.own_lt (Cert.Kernel2Ideal.Exp.cnts m 0) _ hy
  have hte := Cert.Tiles.te_eq (Cert.Kernel2Ideal.Exp.cnts m 0) _ hy
  have e1 := Cert.Kernel2Ideal.Exp.outG_apply hf y hy ⟨_, ho⟩ hte ⟨(y 0).val / 8, by omega⟩ rfl ⟨(y 0).val % 8 * 128 + (y 1).val, by omega⟩ rfl
  have e2 := Cert.Reference2Ideal.Read.ref_apply (Cert.Kernel2Ideal.Exp.aA m 0) (Cert.Kernel2Ideal.Exp.cnts m 0)
    (Cert.Kernel2Ideal.Exp.aU m 0) (Cert.Kernel2Ideal.Exp.aV m 0) (Cert.Kernel2Ideal.Exp.aD m 0) (Cert.Kernel2Ideal.Exp.aE m 0) hc y
    ⟨(y 0).val / 8, by omega⟩ rfl ⟨_, ho⟩ (by
      show Cert.Tiles.own _ ((y 0).val / 8 / 256) = Cert.Tiles.own _ ((y 0).val / 2048)
      rw [Nat.div_div_eq_div_mul]) ⟨(y 0).val % 8 * 128 + (y 1).val, by omega⟩ rfl
  exact (Cert.Kernel2Ideal.Exp.final_apply hf 0 y hy).trans (e1.trans e2.symm)

theorem algebraic2 : Cert.algebraic_Kernel2Ideal_Reference2Ideal_on_tiles_in_use := by
  intro m ρ m' ρ' hp ha
  obtain ⟨hc, hf⟩ := Cert.Kernel2Ideal.Exp.facts_pre (F := Ideal) m (hp 0)
  refine ⟨fun c => Cert.Reference2Ideal.Read.val_main_v66 (F := Ideal) (Cert.Kernel2Ideal.Exp.aA m c) (Cert.Kernel2Ideal.Exp.cnts m c)
      (Cert.Kernel2Ideal.Exp.aU m c) (Cert.Kernel2Ideal.Exp.aV m c) (Cert.Kernel2Ideal.Exp.aD m c) (Cert.Kernel2Ideal.Exp.aE m c), ?_, ?_⟩
  · refine (θ_run Cert.Kernel2Ideal.defs _ _).mono (fun r h c => ⟨fun i hi => ?_, (h.1 c).1⟩) (Cert.Kernel2Ideal.Exp.run_main hf ρ)
    have e := congrFun (h.1 c).2 i
    obtain rfl : c = 0 := Subsingleton.elim _ _
    exact e.trans (value2 m hc hf i (Cert.Tiles.mask_tiles (F := Ideal) _ _ _ _ _ _ hc i hi))
  · refine (θ_run Cert.Reference2Ideal.defs _ _).mono (fun r h c => ⟨fun i _ => ?_, (h c).2⟩) (Cert.Reference2Ideal.Value.run (F := Ideal) m' ρ')
    have e := congrFun ((h c).1.trans (Cert.Reference2Ideal.Read.val_main_v66_eq (F := Ideal) m' c)) i
    refine e.trans ?_
    obtain ⟨a0, a1, a2, a3, a4, a5⟩ := ha c
    refine congrFun ?_ i
    rw [a0, a1, a2, a3, a4, a5]

end Cert.Proof

end
-- ==== Proof.YRows.lean ====
module

public import proofs.«01_k».proof.Proof.Gen.Kernel3Ideal.Skeleton
public import proofs.«01_k».proof.Proof.Gen.Kernel3Ideal.Loops
public import proofs.«01_k».proof.Proof.Gen.Kernel3Ideal.Launch
public import Idealize.ShloMosaic.Lib.Routing.Words
public import Idealize.ShloMosaic.Lib.Pipeline.Regions
public import Idealize.ShloMosaic.Lib.Pipeline.Kit
public import Idealize.ShloMosaic.Lib.Pipeline.ValueKit
public import Idealize.ShloMosaic.Lib.QuiescentFlight
public import Idealize.ShloMosaic.Lib.StableHlo
public import Idealize.ShloMosaic.Lib.Tactic
public import Idealize.ShloMosaic.Lib.Batch

@[expose] public section

noncomputable section

/-! # Rows of the combine's buffer, and a batch of row transfers

A row is eight lines of 128 elements. A batch of transfers fills pairwise different rows of the buffer; what it
leaves is one function of the contents before it. -/

namespace Cert.Kernel3Ideal.Comb

open Cert.Kernel3Ideal Cert.Kernel3Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing Idealize.ShloMosaic.ValueKit

variable {F : FTy → Type} [FloatOps F]

/-- The ghost state: the pipeline's, and the counters of the batches. -/
abbrev UU : Type := UR sig nD τ × Counters

local notation "𝕄" => MT nD τ sig Unit (Elt F) ℕ UU ℕ

/-- The counters, inside the ghost state. -/
abbrev EC : UEmb Counters 𝕄 := countersEmb

/-! ## The kernel's words -/

theorem t1_trips : k0_t1_loop.trips = 1024 := by decide
theorem t2_trips : k0_t2_loop.trips = 1024 := by decide

/-- The buffer's row of pair `t` of a block: choice `t % 4` of token `t / 4`. -/
def slot (t : ℕ) : ℕ := t % 4 * 256 + t / 4

theorem off1_word (k : Fin k0_t1_loop.trips) : k0_off1 k = ![0, 0, k.val] := by
  have hk : k.val < 1024 := lt_of_lt_of_eq k.isLt t1_trips
  have e : (0#32 + BitVec.ofNat 32 k.val * 1#32).toNat = k.val := by
    simp only [BitVec.toNat_mul, BitVec.toNat_add, BitVec.toNat_ofNat]
    omega
  unfold k0_off1
  dsimp only
  simp only [Scf.iv, Scalar.indexCast]
  rw [e]

theorem off2_word (k : Fin k0_t1_loop.trips) : k0_off2 k = ![8 * slot k.val, 0] := by
  have h : ∀ k : Fin k0_t1_loop.trips, k0_off2 k 0 = 8 * slot k.val := by decide +kernel
  funext a
  match a with
  | ⟨0, _⟩ => exact h k
  | ⟨1, _⟩ => rfl

theorem off3_word (r : ℕ) (h : 8 * r < 2 ^ 32) : k0_off3 (BitVec.ofNat 32 r) = ![8 * r, 0] := by
  have e : (BitVec.ofNat 32 r * 8#32).toNat = 8 * r := by
    simp only [BitVec.toNat_mul, BitVec.toNat_ofNat]
    omega
  unfold k0_off3
  dsimp only
  simp only [Scalar.muli, IntOp.muli]
  rw [e]

theorem chk1 (r : ℕ) (h : r < 139264) : k0_chk1 (BitVec.ofNat 32 r) := by
  refine ⟨by rw [show (k0_mult1 (BitVec.ofNat 32 r)).toNat = 8 * r from congrFun (off3_word r (by omega)) 0]; exact Dvd.intro _ rfl, ?_⟩
  rw [off3_word r (by omega)]
  intro a
  match a with
  | ⟨0, _⟩ => show 8 * r + 8 ≤ 1114112; omega
  | ⟨1, _⟩ => show 0 + 128 ≤ 128; omega

/-! ## Rows -/

/-- The eight lines of row `r` of the buffer. -/
def rowSet (r : ℕ) : Finset S8192x128.Idx := Finset.univ.filter fun y => (y 0).val / 8 = r

theorem mem_rowSet {r : ℕ} {y : S8192x128.Idx} : y ∈ rowSet r ↔ (y 0).val / 8 = r := by
  simp [rowSet]

theorem rowSet_disjoint {r r' : ℕ} (h : r ≠ r') : Disjoint (rowSet r) (rowSet r') := by
  rw [Finset.disjoint_left]; intro y h1 h2
  rw [mem_rowSet] at h1 h2; exact h (h1 ▸ h2)

/-- An element inside its row. -/
def inRow (y : S8192x128.Idx) : S8x128.Idx := ix2 ⟨(y 0).val % 8, Nat.mod_lt _ (by decide)⟩ (y 1)

/-- The buffer's row `r`, as the kernel slices it. -/
theorem row_set (r : ℕ) (off : Fin 2 → ℕ) (hoff : off = ![8 * r, 0])
    (h : ∀ a, off a + S8x128.size a ≤ S8192x128.size a) (hs) :
    ((Memref.whole cc0_scratch0).slice (Rect.unit (s := S8192x128) off S8x128.size h) hs : Memref sig .tc .vmem S8x128 .f32).view.set
      = rowSet r := by
  subst hoff
  ext y
  rw [mem_rowSet]
  refine mem_set_slice_whole_iff cc0_scratch0 _ y (Rect.mem_set_unit.trans ?_)
  refine Iff.trans (Fin.forall_fin_two (p := fun a => (![8 * r, 0] : Fin 2 → ℕ) a ≤ (y a : ℕ) ∧ (y a : ℕ) < (![8 * r, 0] : Fin 2 → ℕ) a + S8x128.size a)) ?_
  have h1 : (y 1).val < 128 := (y 1).isLt
  show (8 * r ≤ (y 0).val ∧ (y 0).val < 8 * r + 8) ∧ (0 ≤ (y 1).val ∧ (y 1).val < 0 + 128) ↔ _
  omega

/-- A whole write, at an element the view names. -/
theorem write_at {κ : Kind} {sp} {s : Shape} {e : EltTy} {v : View sig κ sp s e} {x : s.Idx} {y : v.ty.Idx} (h : v.emb x = y)
    (f : v.ty.Contents (Elt F)) (w : s.Idx → Elt F e) :
    v.write (Elt F) f w Finset.univ y = _root_.cast (congrArg (Elt F) v.elt_eq.symm) (w x) := by
  subst h; exact View.write_emb_of_mem f w (Finset.mem_univ _)

/-- Row `r` written: an element of it is the payload's. -/
theorem row_write (r : ℕ) (off : Fin 2 → ℕ) (hoff : off = ![8 * r, 0])
    (h : ∀ a, off a + S8x128.size a ≤ S8192x128.size a) (hs)
    (f : S8192x128.Idx → Elt F .f32) (w : S8x128.Idx → Elt F .f32) (y : S8192x128.Idx) (hy : y ∈ rowSet r) :
    ((Memref.whole cc0_scratch0).slice (Rect.unit (s := S8192x128) off S8x128.size h) hs : Memref sig .tc .vmem S8x128 .f32).view.write
      (Elt F) f w Finset.univ y = w (inRow y) := by
  subst hoff
  rw [mem_rowSet] at hy
  have key : ∀ a : Fin 2, (![8 * r, 0] : Fin 2 → ℕ) a + (inRow y a).val = (y a).val := by
    rw [Fin.forall_fin_two]
    constructor
    · show 8 * r + (y 0).val % 8 = (y 0).val; omega
    · show 0 + (y 1).val = (y 1).val; omega
  have e : ((View.whole cc0_scratch0).slice (Rect.unit (s := S8192x128) ![8 * r, 0] S8x128.size h)).emb (inRow y) = y :=
    funext fun a => Fin.ext ((view_emb_slice_whole_unit_val cc0_scratch0 _ _ _ _ _).trans (key a))
  exact write_at e f w

/-- Row `s` of the experts' rows, as the kernel slices it. -/
def ysRow (A : S1114112x128.Idx → Elt F .f32) (s : ℕ) (hs : s < 139264) : S8x128.Idx → Elt F .f32 :=
  fun x => A (ix2 ⟨8 * s + (x 0).val, by have : (x 0).val < 8 := (x 0).isLt; show _ < 1114112; omega⟩ (x 1))

theorem ys_read (s : ℕ) (hs : s < 139264) (off : Fin 2 → ℕ) (hoff : off = ![8 * s, 0])
    (h : ∀ a, off a + S8x128.size a ≤ S1114112x128.size a) (hs')
    (A : S1114112x128.Idx → Elt F .f32) :
    ((Memref.whole main_arg0).slice (Rect.unit (s := S1114112x128) off S8x128.size h) hs' : Memref sig .tc .hbm S8x128 .f32).view.read
      (Elt F) A = ysRow A s hs := by
  subst hoff
  funext (x : S8x128.Idx)
  show A (((View.whole main_arg0).slice (Rect.unit (s := S1114112x128) ![8 * s, 0] S8x128.size h)).emb x) = _
  have key : ∀ a : Fin 2, (![8 * s, 0] : Fin 2 → ℕ) a + (x a).val
      = ((ix2 ⟨8 * s + (x 0).val, by have : (x 0).val < 8 := (x 0).isLt; show _ < 1114112; omega⟩ (x 1) : S1114112x128.Idx) a).val := by
    rw [Fin.forall_fin_two]
    constructor
    · rfl
    · show 0 + (x 1).val = (x 1).val; omega
  exact congrArg A (funext fun a => Fin.ext ((view_emb_slice_whole_unit_val main_arg0 _ _ _ _ _).trans (key a)))

/-- What a batch leaves: row `dst t` at transfer `t`'s payload, everything else as it was. -/
def landed {n : ℕ} (dst : Fin n → ℕ) (pay : Fin n → S8x128.Idx → Elt F .f32) (f : S8192x128.Idx → Elt F .f32) :
    S8192x128.Idx → Elt F .f32 :=
  fun y => open Classical in if h : ∃ t, dst t = (y 0).val / 8 then pay h.choose (inRow y) else f y

theorem landed_hit {n : ℕ} {dst : Fin n → ℕ} (hinj : Function.Injective dst) (pay : Fin n → S8x128.Idx → Elt F .f32)
    (f : S8192x128.Idx → Elt F .f32) (y : S8192x128.Idx) (t : Fin n) (h : (y 0).val / 8 = dst t) :
    landed dst pay f y = pay t (inRow y) := by
  unfold landed
  have hx : ∃ t, dst t = (y 0).val / 8 := ⟨t, h.symm⟩
  rw [dif_pos hx, show hx.choose = t from hinj (hx.choose_spec.trans h)]

theorem landed_miss {n : ℕ} {dst : Fin n → ℕ} (pay : Fin n → S8x128.Idx → Elt F .f32)
    (f : S8192x128.Idx → Elt F .f32) (y : S8192x128.Idx) (h : ∀ t, dst t ≠ (y 0).val / 8) :
    landed dst pay f y = f y := by
  unfold landed
  rw [dif_neg (by push Not; exact h)]

/-- The buffer's location on core `c`. -/
abbrev bufLoc (c : Dev nD) : Loc nD τ sig := (c : Thread nD τ).loc cc0_scratch0

variable {n : ℕ} (c : Dev nD) (dst : Fin n → ℕ) (ℓ : Loc nD τ sig) (K : Fin n → Finset (Idx ℓ)) (A : Buf (Elt F) ℓ)

/-- One transfer's pieces: its row of the buffer, and its share of the source block. -/
def piece (f : S8192x128.Idx → Elt F .f32) (t : Fin n) : sProp 𝕄 :=
  iprop((bufLoc c ↦[rowSet (dst t)]{fullShare} f) ∗ (ℓ ↦[K t]{Transfers.shareTokN fullShare t.val} A))

/-- The pieces from transfer `k` on: those of transfer `k`, and those after it. -/
theorem pending_open (f : S8192x128.Idx → Elt F .f32) (k : ℕ) (hk : k < n) :
    bigSep (Transfers.pending k) (piece (F := F) c dst ℓ K A f)
      ⊢ (iprop(((bufLoc c ↦[rowSet (dst ⟨k, hk⟩)]{fullShare} f) ∗ (ℓ ↦[K ⟨k, hk⟩]{Transfers.shareTokN fullShare k} A))
        ∗ bigSep (Transfers.pending (k + 1)) (piece (F := F) c dst ℓ K A f)) : sProp 𝕄) :=
  Entails.of_eq (Transfers.bigSep_pending_step _ k hk)

instance piece_storable (f : S8192x128.Idx → Elt F .f32) (t : Fin n) :
    Storable (upEmb : UEmb _ 𝕄) (piece (F := F) c dst ℓ K A f t) := by unfold piece; infer_instance

/-- What no transfer of the batch touches. -/
def rest (f : S8192x128.Idx → Elt F .f32) : sProp 𝕄 :=
  iprop((bufLoc c ↦[Finset.univ \ Finset.univ.biUnion fun t => rowSet (dst t)]{fullShare} f)
    ∗ (ℓ ↦{Transfers.shareDrop fullShare n} A)
    ∗ bigSep Finset.univ fun t : Fin n => ℓ ↦[Finset.univ \ K t]{Transfers.shareTokN fullShare t.val} A)

theorem split_batch (hinj : Function.Injective dst) (f : S8192x128.Idx → Elt F .f32) :
    (iprop((bufLoc c ↦{fullShare} f) ∗ (ℓ ↦{fullShare} A)) : sProp 𝕄)
      ⊣⊢ iprop(bigSep Finset.univ (piece (F := F) c dst ℓ K A f) ∗ rest (F := F) c dst ℓ K A f) := by
  have h1 : (bufLoc c ↦{fullShare} f : sProp 𝕄)
      ⊣⊢ iprop((bigSep Finset.univ fun t => bufLoc c ↦[rowSet (dst t)]{fullShare} f)
        ∗ (bufLoc c ↦[Finset.univ \ Finset.univ.biUnion fun t => rowSet (dst t)]{fullShare} f)) := by
    have e := pointsTo_biUnion (ℓ := bufLoc c) (q := fullShare) (f := f) (Ix := Unit) (Val := Elt F) (Name := ℕ) (U := UU) (Lvl := ℕ)
      (Finset.univ : Finset (Fin n)) (fun t => rowSet (dst t))
      (fun t _ t' _ hne => rowSet_disjoint fun e => hne (hinj e))
    rw [← e]
    exact pointsTo_split_subset (Finset.subset_univ _)
  have h2 : (ℓ ↦{fullShare} A : sProp 𝕄)
      ⊣⊢ iprop((ℓ ↦{Transfers.shareDrop fullShare n} A)
        ∗ (bigSep Finset.univ fun t : Fin n => ℓ ↦[K t]{Transfers.shareTokN fullShare t.val} A)
        ∗ bigSep Finset.univ fun t : Fin n => ℓ ↦[Finset.univ \ K t]{Transfers.shareTokN fullShare t.val} A) := by
    have e : (bigSep (Finset.range n) (fun i => ℓ ↦{Transfers.shareTokN fullShare i} A) : sProp 𝕄)
        = bigSep Finset.univ fun t : Fin n => (ℓ ↦{Transfers.shareTokN fullShare t.val} A : sProp 𝕄) := by
      rw [show Finset.range n = (Finset.univ : Finset (Fin n)).map ⟨fun t => t.val, Fin.val_injective⟩ from by
        ext i; simp only [Finset.mem_range, Finset.mem_map, Finset.mem_univ, true_and, Function.Embedding.coeFn_mk]
        exact ⟨fun h => ⟨⟨i, h⟩, rfl⟩, fun ⟨t, ht⟩ => ht ▸ t.isLt⟩, BI.bigSep_map]
      rfl
    have e2 := BI.bigSep_sep (Finset.univ : Finset (Fin n)) (fun t => (ℓ ↦[K t]{Transfers.shareTokN fullShare t.val} A : sProp 𝕄))
      (fun t => (ℓ ↦[Finset.univ \ K t]{Transfers.shareTokN fullShare t.val} A : sProp 𝕄))
    rw [show (iprop((bigSep Finset.univ fun t : Fin n => ℓ ↦[K t]{Transfers.shareTokN fullShare t.val} A)
        ∗ bigSep Finset.univ fun t : Fin n => ℓ ↦[Finset.univ \ K t]{Transfers.shareTokN fullShare t.val} A) : sProp 𝕄) = _ from e2.symm]
    refine ⟨(Transfers.pointsTo_toks_range fullShare n).1.trans ?_, Entails.trans ?_ (Transfers.pointsTo_toks_range fullShare n).2⟩
    · rw [e]
      exact sep_mono_right (BI.bigSep_mono fun t _ => (pointsTo_split_subset (Finset.subset_univ _)).1)
    · rw [e]
      exact sep_mono_right (BI.bigSep_mono fun t _ => (pointsTo_split_subset (Finset.subset_univ _)).2)
  have h3 : bigSep Finset.univ (piece (F := F) c dst ℓ K A f)
      = iprop((bigSep Finset.univ fun t => bufLoc c ↦[rowSet (dst t)]{fullShare} f)
        ∗ (bigSep Finset.univ fun t : Fin n => ℓ ↦[K t]{Transfers.shareTokN fullShare t.val} A)) := by
    unfold piece; exact BI.bigSep_sep _ _ _
  rw [h3]; unfold rest
  constructor
  · iintro ⟨Ho, Hs⟩
    ihave Ho := h1.1 $$ Ho
    ihave Hs := h2.1 $$ Hs
    icases Ho with ⟨Ho1, Ho2⟩
    icases Hs with ⟨Hs1, Hs2, Hs3⟩
    isplitl [Ho1 Hs2]
    · isplitl [Ho1] <;> iassumption
    isplitl [Ho2]; · iexact Ho2
    isplitl [Hs1] <;> iassumption
  · iintro ⟨⟨Ho1, Hs2⟩, Ho2, Hs1, Hs3⟩
    isplitl [Ho1 Ho2]
    · iapply h1.2
      isplitl [Ho1] <;> iassumption
    · iapply h2.2
      isplitl [Hs1]; · iexact Hs1
      isplitl [Hs2] <;> iassumption

/-- What no transfer touches is the same after the batch. -/
theorem rest_landed (pay : Fin n → S8x128.Idx → Elt F .f32) (f : S8192x128.Idx → Elt F .f32) :
    rest (F := F) c dst ℓ K A f = rest (F := F) c dst ℓ K A (landed dst pay f) := by
  unfold rest
  rw [pointsTo_congr (ℓ := bufLoc c) (g := landed dst pay f)]
  intro y hy
  rw [landed_miss]
  intro t ht
  rw [Finset.mem_sdiff] at hy
  exact hy.2 (Finset.mem_biUnion.2 ⟨t, Finset.mem_univ _, mem_rowSet.2 ht.symm⟩)

end Cert.Kernel3Ideal.Comb
end
-- ==== Proof.YLoops.lean ====
module

public import proofs.«01_k».proof.Proof.YRows

@[expose] public section

noncomputable section

/-! # The combine's loops

The loop that starts the transfers of a block's chosen rows into the buffer, and the loop that waits for them. -/

namespace Cert.Kernel3Ideal.Comb

open Cert.Kernel3Ideal Cert.Kernel3Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing Idealize.ShloMosaic.ValueKit

variable {F : FTy → Type} [FloatOps F]

local notation "𝕄" => MT nD τ sig Unit (Elt F) ℕ UU ℕ

abbrev 𝒱₀ : Variants := Variants.none

/-- A rule applied by hand leaves its continuation applied, `(Prog.ret a).bind k`: the next statement is `k a`. -/
theorem ret_bind' {E : Type → Type} {α β : Type} (a : α) (k : α → Prog E β) : (Prog.ret a).bind k = k a := rfl

/-- One row's credit on the transfers' semaphore. -/
abbrev NN : ℕ := RefSig.tileCredit S8x128 .f32

theorem NN_pos : 0 < NN := by decide

/-- The positions' word `k` of the point's block. -/
theorem pos_word (M : Memref sig .tc .smem S1x1x1024 .i32) (c : Dev nD) (g : Buf (Elt F) (M.view.loc (c : Thread nD τ)))
    (k : Fin 1024) (off : Fin 3 → ℕ) (hoff : off = ![0, 0, k.val]) (h : ∀ a, off a + S1x1x1.size a ≤ S1x1x1024.size a) (h1) :
    View.readAt (Elt F) M.view (Rect.unit (s := S1x1x1024) off S1x1x1.size h).toLoadRect g (Shape.Idx.first h1)
      = M.view.read (Elt F) g (ix3 0 0 k) := by
  subst hoff
  show M.view.read (Elt F) g ((Rect.unit (s := S1x1x1024) ![0, 0, k.val] S1x1x1.size h).emb _) = _
  have key : ∀ a : Fin 3, (![0, 0, k.val] : Fin 3 → ℕ) a + 0 = ((ix3 0 0 k : S1x1x1024.Idx) a).val := by
    intro a
    match a with
    | 0 => rfl
    | 1 => rfl
    | 2 => rfl
  refine congrArg (M.view.read (Elt F) g) (funext fun a => Fin.ext ?_)
  refine (rect_emb_unit_val _ _ _ _ _).trans (Eq.trans ?_ (key a))
  congr 1

/-- The buffer's row of a pair. -/
def dst1 (t : Fin k0_t1_loop.trips) : ℕ := slot t.val

theorem dst1_inj : Function.Injective dst1 := by
  intro a b h
  have ha : a.val < 1024 := lt_of_lt_of_eq a.isLt t1_trips
  have hb : b.val < 1024 := lt_of_lt_of_eq b.isLt t1_trips
  unfold dst1 slot at h
  exact Fin.ext (by omega)

/-- The location of the experts' rows. -/
abbrev ysLoc (c : Dev nD) : Loc nD τ sig := (c : Thread nD τ).loc main_arg0

section Rows

variable (c : Dev nD) (i : grid0.Coords) (M : Memref sig .tc .smem S1x1x1024 .i32) (hM : M.IsWhole)
  (arg3 : Memref sig .tc .vmem S256x1024 .f32) (h3 : arg3.IsWhole) (arg4 : Memref sig .tc .vmem S256x4 .f32) (h4 : arg4.IsWhole)
  (arg5 : Memref sig .tc .vmem S256x1024 .f32) (h5 : arg5.IsWhole)
  (g : Buf (Elt F) (M.view.loc (c : Thread nD τ))) (p : ℕ → ℕ) (hp : ∀ k, k < 1024 → p k < 139264)
  (A : S1114112x128.Idx → Elt F .f32) (f : S8192x128.Idx → Elt F .f32)

include hp in
theorem p_lt (t : Fin k0_t1_loop.trips) : p t.val < 139264 := hp _ (lt_of_lt_of_eq t.isLt t1_trips)

/-- The source slice of pair `t` of the point's block. -/
def srcRow (t : Fin k0_t1_loop.trips) : Memref sig .tc .hbm S8x128 .f32 :=
  (Memref.whole main_arg0).slice (Rect.unit (s := S1114112x128) (k0_off3 (BitVec.ofNat 32 (p t.val))) S8x128.size
    (k0_off3_inb _ (chk1 _ (p_lt p hp t)))) (fun _ => rfl)

def K1 (c : Dev nD) (t : Fin k0_t1_loop.trips) : Finset (Idx (ysLoc c)) := (srcRow p hp t).view.set

def pay1 (t : Fin k0_t1_loop.trips) : S8x128.Idx → Elt F .f32 := ysRow A (p t.val) (p_lt p hp t)

/-- The batch with `k` of its transfers started, beside the positions. -/
abbrev rowsAt (k : ℕ) : sProp 𝕄 :=
  iprop((M.view.loc (c : Thread nD τ) ↦[M.view.set]{fullShare} g)
    ∗ Transfers.Batch (EC (F := F)) (c : Thread nD τ) (.dma cc0_scratch1.sem) () NN
        (piece (F := F) c dst1 (ysLoc c) (K1 p hp c) A (landed dst1 (pay1 p hp A) f)) k 0
    ∗ bigSep (Transfers.pending k) (piece (F := F) c dst1 (ysLoc c) (K1 p hp c) A f))

/-- The batch all started, `k` rows' credit taken off it. -/
abbrev rowsDrain (k : ℕ) : sProp 𝕄 :=
  iprop((∃ W, owes (c : Thread nD τ) (0 : CellTallies nD τ sig Unit) W)
    ∗ Transfers.Batch (EC (F := F)) (c : Thread nD τ) (.dma cc0_scratch1.sem) () NN
        (piece (F := F) c dst1 (ysLoc c) (K1 p hp c) A (landed dst1 (pay1 p hp A) f)) k0_t1_loop.trips (k * NN))

set_option warn.classDefReducibility false in
/-- After `k` starts: `k` transfers in the batch, the rest of the rows still in hand. -/
def loopInv_t1 (hX : ∀ k : Fin 1024, M.view.read (Elt F) g (ix3 0 0 k) = BitVec.ofNat 32 (p k.val)) :
    LoopInvTy_k0_t1 (F := F) Unit ℕ UU ℕ 𝒱₀ c none Set.univ i M hM (Memref.whole main_arg0) (Memref.isWhole_whole _)
      arg3 h3 arg4 h4 arg5 h5 (Memref.whole cc0_scratch0) (Memref.isWhole_whole _) cc0_scratch1 where
  inv k _ := rowsAt c M g p hp A f k
  step k acc := by
    iintro ⟨HM, HB, HP⟩
    sl_unfold [k0_t1_body]
    sl_exec
    have hk : k.val < 1024 := lt_of_lt_of_eq k.isLt t1_trips
    have hv : loopInv_t1.sl.r c M g k = BitVec.ofNat 32 (p k.val) := by
      unfold loopInv_t1.sl.r
      exact (pos_word M c g ⟨k.val, hk⟩ _ (off1_word k) _ _).trans (hX ⟨k.val, hk⟩)
    generalize loopInv_t1.sl.r c M g k = v at hv
    subst hv
    have hk5 : 8 * p k.val < 2 ^ 32 := by have := hp _ hk; omega
    have hc1 := chk1 (p k.val) (hp _ hk)
    sl_exec
    ihave HP := (pending_open (F := F) c dst1 (ysLoc c) (K1 p hp c) A f k.val k.isLt) $$ HP
    icases HP with ⟨⟨Hd, Hs⟩, HP⟩
    iapply (Transfers.wp_dmaBatch (EC (F := F)) 𝒱₀ (c : Thread nD τ) none
      (src := srcRow p hp k)
      (dst := (Memref.whole cc0_scratch0).slice (Rect.unit (s := S8192x128) (k0_off2 k) S8x128.size
        (k0_off2_inb k)) (fun _ => rfl))
      () NN rfl (Sd := rowSet (dst1 k)) (row_set _ _ (off2_word k) _ _).le
      (D := piece (F := F) c dst1 (ysLoc c) (K1 p hp c) A (landed dst1 (pay1 p hp A) f)) (j := k.val) (u := 0) k.isLt (Nat.zero_le _)
      ?hD) $$ [Hd Hs HB]
    case hD =>
      refine sep_mono (Entails.of_eq (pointsTo_congr fun y hy => ?_)) .rfl
      refine (row_write (F := F) (slot k.val) _ (off2_word k) _ _ f _ y hy).trans ?_
      rw [landed_hit dst1_inj _ _ y k (mem_rowSet.1 hy)]
      rw [ReadAs.apply_same]
      exact congrFun (ys_read (F := F) _ (hp _ hk) _ (off3_word _ hk5) _ (fun _ => rfl) A) (inRow y)
    · isplitl [Hs]; · iexact Hs
      isplitl [Hd]; · iexact Hd
      iexact HB
    iintro HB
    simp only [ret_bind']
    sl_step
    sl_step
    isplitl [HM]; · iexact HM
    isplitl [HB]; · iexact HB
    iexact HP

set_option warn.classDefReducibility false in
/-- After `k` waits: `k` rows' credit taken off the batch. -/
def loopInv_t2 :
    LoopInvTy_k0_t2 (F := F) Unit ℕ UU ℕ 𝒱₀ c none Set.univ i M hM (Memref.whole main_arg0) (Memref.isWhole_whole _)
      arg3 h3 arg4 h4 arg5 h5 (Memref.whole cc0_scratch0) (Memref.isWhole_whole _) cc0_scratch1 where
  inv k _ := rowsDrain c p hp A f k
  step k acc := by
    iintro ⟨⟨%W, HO⟩, HB⟩
    sl_unfold [k0_t2_body]
    have hk : k.val * NN + 1 * NN ≤ NN * k0_t1_loop.trips := by
      have h : k.val + 1 ≤ k0_t1_loop.trips := by
        have := lt_of_lt_of_eq k.isLt t2_trips
        rw [t1_trips]; exact this
      rw [← Nat.add_mul, Nat.mul_comm NN]
      exact Nat.mul_le_mul_right _ h
    iapply (Transfers.wp_waitBatchMul (EC (F := F)) 𝒱₀ (c : Thread nD τ) none () (N := NN) 1 (Nat.one_mul _).symm (u := k.val * NN) hk) $$ [HB HO]
    · isplitl [HB] <;> iassumption
    iintro ⟨HB, HO⟩
    simp only [ret_bind']
    sl_step
    isplitl [HO]; · iexists _; iexact HO
    rw [Nat.add_mul k.val 1 NN]
    iexact HB

end Rows

section Batches

variable {n : ℕ} (c : Dev nD) (sm : SemLoc sig) (dst : Fin n → ℕ) (ℓ : Loc nD τ sig) (K : Fin n → Finset (Idx ℓ)) (A : Buf (Elt F) ℓ)
  (pay : Fin n → S8x128.Idx → Elt F .f32) (f : S8192x128.Idx → Elt F .f32)

/-- A batch is opened from its semaphore at zero; buffer and source are dealt to its transfers. -/
theorem batch_open (hinj : Function.Injective dst) :
    (iprop((bufLoc c ↦{fullShare} f) ∗ (ℓ ↦{fullShare} A) ∗ semVal ((c : Thread nD τ), sm) 0) : sProp 𝕄)
      ⊢ |={Set.univ}=> iprop(Transfers.Batch (EC (F := F)) (c : Thread nD τ) sm () NN (piece (F := F) c dst ℓ K A (landed dst pay f)) 0 0
        ∗ bigSep (Transfers.pending 0) (piece (F := F) c dst ℓ K A f) ∗ rest (F := F) c dst ℓ K A f) := by
  iintro ⟨Ho, Hs, Hv⟩
  imod (Transfers.batch_alloc' (Lvl := ℕ) (EC (F := F)) (c : Thread nD τ) () NN (piece (F := F) c dst ℓ K A (landed dst pay f)) (sm := sm) (E := Set.univ)) $$ Hv with HB
  imodintro
  ihave H := (split_batch (F := F) c dst ℓ K A hinj f).1 $$ [Ho Hs]
  · isplitl [Ho] <;> iassumption
  icases H with ⟨HP, HR⟩
  isplitl [HB]; · iexact HB
  isplitl [HP]
  · iapply (Entails.of_eq (Transfers.bigSep_pending_zero (piece (F := F) c dst ℓ K A f))) $$ HP
  iexact HR

/-- A drained batch is the buffer with every row landed, the source, and the semaphore at zero. -/
theorem batch_close (hinj : Function.Injective dst) :
    (iprop(Transfers.Batch (EC (F := F)) (c : Thread nD τ) sm () NN (piece (F := F) c dst ℓ K A (landed dst pay f)) n (NN * n)
        ∗ rest (F := F) c dst ℓ K A f) : sProp 𝕄)
      ⊢ |={Set.univ}=> iprop((bufLoc c ↦{fullShare} landed dst pay f) ∗ (ℓ ↦{fullShare} A) ∗ semVal ((c : Thread nD τ), sm) 0) := by
  iintro ⟨HB, HR⟩
  imod (Transfers.batch_collect' (EC (F := F)) (c : Thread nD τ) NN_pos) $$ HB with ⟨HD, Hv⟩
  imodintro
  ihave HR := (Entails.of_eq (rest_landed (F := F) c dst ℓ K A pay f)) $$ HR
  ihave H := (split_batch (F := F) c dst ℓ K A hinj (landed dst pay f)).2 $$ [HD HR]
  · isplitl [HD] <;> iassumption
  icases H with ⟨Ho, Hs⟩
  isplitl [Ho]; · iexact Ho
  isplitl [Hs]; · iexact Hs
  iexact Hv

end Batches

/-! ## The buffer filled -/

/-- The pair whose row the buffer's element is in. -/
def pairOf (y : S8192x128.Idx) : ℕ := (y 0).val / 8 % 256 * 4 + (y 0).val / 8 / 256

theorem pairOf_lt (y : S8192x128.Idx) : pairOf y < 1024 := by
  have h : (y 0).val < 8192 := (y 0).isLt
  unfold pairOf; omega

/-- The buffer once every row has landed. -/
def filled (p : ℕ → ℕ) (hp : ∀ k, k < 1024 → p k < 139264) (A : S1114112x128.Idx → Elt F .f32) : S8192x128.Idx → Elt F .f32 :=
  fun y => ysRow A (p (pairOf y)) (hp _ (pairOf_lt y)) (inRow y)

theorem landed_filled (p : ℕ → ℕ) (hp : ∀ k, k < 1024 → p k < 139264) (A : S1114112x128.Idx → Elt F .f32) (f : S8192x128.Idx → Elt F .f32) :
    landed dst1 (pay1 p hp A) f = filled p hp A := by
  funext y
  have h : (y 0).val < 8192 := (y 0).isLt
  refine landed_hit dst1_inj _ _ y ⟨pairOf y, lt_of_lt_of_eq (pairOf_lt y) t1_trips.symm⟩ ?_
  show (y 0).val / 8 = slot (pairOf y)
  unfold slot pairOf
  omega

end Cert.Kernel3Ideal.Comb
end
-- ==== Proof.YBody.lean ====
module

public import proofs.«01_k».proof.Proof.YLoops
public import Idealize.ShloMosaic.Lib.Pipeline.TableIdle
public import Idealize.ShloMosaic.Lib.Pipeline.Value
public import Idealize.ShloMosaic.Lib.Pipeline.FrameBody
public import Idealize.ShloMosaic.Lib.VecWindow

@[expose] public section

noncomputable section

/-! # One grid point of the combine

The body fills the buffer with the block's chosen rows, then writes the block of the result whole: to every token's
row it adds its four chosen rows, each times its gate. -/

namespace Cert.Kernel3Ideal.Comb

open Cert.Kernel3Ideal Cert.Kernel3Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing

variable {F : FTy → Type} [FloatOps F]

local notation "𝕄" => MT nD τ sig Unit (Elt F) ℕ UU ℕ

/-- Chunk `q` of every token's row of a block: columns from `128 q`. -/
abbrev rc (q : Fin 8) : Rect S256x1024 where
  off := ![0, 128 * q.val]
  size := S256x128.size
  stride := fun _ => 1
  inb := by revert q; decide
  stride_pos := by decide

/-- Chunk `q` of the rows of choice `k`: lines `2048 k + q` and every eighth from there on. -/
def chunk (B : S8192x128.Idx → Elt F .f32) (k : Fin 4) (q : Fin 8) : S256x128.Idx → Elt F .f32 := fun y =>
  B (ValueIdx.ix2 (⟨2048 * k.val + q.val + 8 * (y 0).val, by have : (y 0).val < 256 := (y 0).isLt; omega⟩ : Fin 8192) (⟨(y 1).val, (y 1).isLt⟩ : Fin 128))

section Block
variable (X3 : S256x1024.Idx → Elt F .f32) (X4 : S256x4.Idx → Elt F .f32) (B : S8192x128.Idx → Elt F .f32)

/-- Chunk `q` of the block's rows, the four chosen ones added. -/
def sums (q : Fin 8) : S256x128.Idx → Elt F .f32 :=
  k0_pay3 X4 (fun y => X3 ((rc q).emb y)) (chunk B 0 q) (chunk B 1 q) (chunk B 2 q) (chunk B 3 q)

/-- The block a point writes. -/
def blockOut : S256x1024.Idx → Elt F .f32 := fun j =>
  sums X3 X4 B ⟨(j 1).val / 128, by have : (j 1).val < 1024 := (j 1).isLt; omega⟩
    (ValueIdx.ix2 (⟨(j 0).val, (j 0).isLt⟩ : Fin 256) (⟨(j 1).val % 128, Nat.mod_lt _ (by decide)⟩ : Fin 128))

theorem blockOut_emb (q : Fin 8) (x : (rc q).shape.Idx) : blockOut X3 X4 B ((rc q).emb x) = sums X3 X4 B q x := by
  have h0 : (((rc q).emb x) 0).val = 0 + 1 * (x 0).val := rfl
  have h1 : (((rc q).emb x) 1).val = 128 * q.val + 1 * (x 1).val := rfl
  have hx1 : (x 1).val < 128 := (x 1).isLt
  have e1 : (⟨(((rc q).emb x) 1).val / 128, by rw [h1]; omega⟩ : Fin 8) = q := Fin.ext (by show (((rc q).emb x) 1).val / 128 = q.val; rw [h1]; omega)
  unfold blockOut
  rw [e1]
  refine congrArg (sums X3 X4 B q) (funext fun a => Fin.ext ?_)
  match a with
  | ⟨0, _⟩ => show (((rc q).emb x) 0).val = (x 0).val; rw [h0]; omega
  | ⟨1, _⟩ => show (((rc q).emb x) 1).val % 128 = (x 1).val; rw [h1]; omega

/-- Eight chunks cover a block. -/
theorem mem_rc (y : S256x1024.Idx) : y ∈ (rc ⟨(y 1).val / 128, by have : (y 1).val < 1024 := (y 1).isLt; omega⟩).set := by
  have hy0 : (y 0).val < 256 := (y 0).isLt
  have hy1 : (y 1).val < 1024 := (y 1).isLt
  rw [← Rect.map_emb_univ]
  refine Finset.mem_map.mpr ⟨ValueIdx.ix2 (⟨(y 0).val, by omega⟩ : Fin 256) (⟨(y 1).val % 128, Nat.mod_lt _ (by decide)⟩ : Fin 128), Finset.mem_univ _, ?_⟩
  funext a
  match a with
  | ⟨0, _⟩ => apply Fin.ext; show 0 + 1 * (y 0).val = (y 0).val; omega
  | ⟨1, _⟩ => apply Fin.ext; show 128 * ((y 1).val / 128) + 1 * ((y 1).val % 128) = (y 1).val; omega

/-- What the eight stores leave. -/
theorem stored (v : View sig .tc .vmem S256x1024 .f32) (f : v.ty.Contents (Elt F)) (p0 p1 p2 p3 p4 p5 p6 p7 : S256x128.Idx → Elt F .f32)
    (hp0 : p0 = sums X3 X4 B 0) (hp1 : p1 = sums X3 X4 B 1) (hp2 : p2 = sums X3 X4 B 2) (hp3 : p3 = sums X3 X4 B 3)
    (hp4 : p4 = sums X3 X4 B 4) (hp5 : p5 = sums X3 X4 B 5) (hp6 : p6 = sums X3 X4 B 6) (hp7 : p7 = sums X3 X4 B 7) :
    v.read (Elt F) (v.writes (Elt F) f [⟨rc 7, p7⟩, ⟨rc 6, p6⟩, ⟨rc 5, p5⟩, ⟨rc 4, p4⟩, ⟨rc 3, p3⟩, ⟨rc 2, p2⟩, ⟨rc 1, p1⟩, ⟨rc 0, p0⟩]) = blockOut X3 X4 B := by
  have key : ∀ k : Fin 8, ∃ q ∈ ([⟨rc 7, p7⟩, ⟨rc 6, p6⟩, ⟨rc 5, p5⟩, ⟨rc 4, p4⟩, ⟨rc 3, p3⟩, ⟨rc 2, p2⟩, ⟨rc 1, p1⟩, ⟨rc 0, p0⟩] : List (View.Piece (Elt F) S256x1024 .f32)), q.1 = rc k := by
    intro k
    match k with
    | 0 => exact ⟨⟨rc 0, p0⟩, by simp, rfl⟩
    | 1 => exact ⟨⟨rc 1, p1⟩, by simp, rfl⟩
    | 2 => exact ⟨⟨rc 2, p2⟩, by simp, rfl⟩
    | 3 => exact ⟨⟨rc 3, p3⟩, by simp, rfl⟩
    | 4 => exact ⟨⟨rc 4, p4⟩, by simp, rfl⟩
    | 5 => exact ⟨⟨rc 5, p5⟩, by simp, rfl⟩
    | 6 => exact ⟨⟨rc 6, p6⟩, by simp, rfl⟩
    | 7 => exact ⟨⟨rc 7, p7⟩, by simp, rfl⟩
  have cover : ∀ y : S256x1024.Idx, ∃ q ∈ ([⟨rc 7, p7⟩, ⟨rc 6, p6⟩, ⟨rc 5, p5⟩, ⟨rc 4, p4⟩, ⟨rc 3, p3⟩, ⟨rc 2, p2⟩, ⟨rc 1, p1⟩, ⟨rc 0, p0⟩] : List (View.Piece (Elt F) S256x1024 .f32)), y ∈ q.1.set := by
    intro y
    obtain ⟨q, hq, e⟩ := key _
    exact ⟨q, hq, e ▸ mem_rc y⟩
  rw [View.read_writes_eq_canon _ _ _ cover]
  funext y
  refine View.canon_apply_of_pieces (blockOut X3 X4 B) _ ?_ y (cover y)
  intro q hq x
  subst hp0 hp1 hp2 hp3 hp4 hp5 hp6 hp7
  simp only [List.mem_cons, List.not_mem_nil, or_false] at hq
  rcases hq with rfl | rfl | rfl | rfl | rfl | rfl | rfl | rfl
  · exact (blockOut_emb X3 X4 B 7 x).symm
  · exact (blockOut_emb X3 X4 B 6 x).symm
  · exact (blockOut_emb X3 X4 B 5 x).symm
  · exact (blockOut_emb X3 X4 B 4 x).symm
  · exact (blockOut_emb X3 X4 B 3 x).symm
  · exact (blockOut_emb X3 X4 B 2 x).symm
  · exact (blockOut_emb X3 X4 B 1 x).symm
  · exact (blockOut_emb X3 X4 B 0 x).symm

/-- Chunk `q` of a choice's rows, as the kernel loads it from the buffer. -/
theorem chunk_read (k : Fin 4) (q : Fin 8) (off : Fin 2 → ℕ) (ho : off = ![2048 * k.val + q.val, 0])
    (h : ∀ a, S256x128.size a = 0 ∨ off a + (![8, 1] : Fin 2 → ℕ) a * (S256x128.size a - 1) < S8192x128.size a) :
    View.readAt (Elt F) (Memref.whole cc0_scratch0).view (⟨off, S256x128.size, ![8, 1], h⟩ : LoadRect S8192x128) B = chunk B k q := by
  subst ho
  funext y
  refine congrArg B (funext fun a => Fin.ext ?_)
  match a with
  | ⟨0, _⟩ => rfl
  | ⟨1, _⟩ => show 0 + 1 * (y 1).val = (y 1).val; omega

/-- What is stored of chunk `q`. -/
theorem pay_eq (q : Fin 8) (v2 : S256x4.Idx → Elt F .f32) (v3 b0 b1 b2 b3 : S256x128.Idx → Elt F .f32) (h2 : v2 = X4)
    (h3 : v3 = fun y => X3 ((rc q).emb y)) (e0 : b0 = chunk B 0 q) (e1 : b1 = chunk B 1 q) (e2 : b2 = chunk B 2 q) (e3 : b3 = chunk B 3 q) :
    k0_pay3 v2 v3 b0 b1 b2 b3 = sums X3 X4 B q := by
  subst h2 h3 e0 e1 e2 e3; rfl

end Block

section Point

variable (c : Dev nD) (i : grid0.Coords) (M : Memref sig .tc .smem S1x1x1024 .i32) (hM : M.IsWhole)
  (arg3 : Memref sig .tc .vmem S256x1024 .f32) (h3 : arg3.IsWhole) (arg4 : Memref sig .tc .vmem S256x4 .f32) (h4 : arg4.IsWhole)
  (arg5 : Memref sig .tc .vmem S256x1024 .f32) (h5 : arg5.IsWhole)
  (g : Buf (Elt F) (M.view.loc (c : Thread nD τ))) (p : ℕ → ℕ) (hp : ∀ k, k < 1024 → p k < 139264)
  (A : S1114112x128.Idx → Elt F .f32) (f : S8192x128.Idx → Elt F .f32)
  (X3 : S256x1024.Idx → Elt F .f32) (X4 : S256x4.Idx → Elt F .f32) (X5 : S256x1024.Idx → Elt F .f32)

/-- The body, at a point's memrefs. -/
abbrev bodyAt := cc0_combine_skel (F := F) i M hM (Memref.whole main_arg0) (Memref.isWhole_whole _)
      arg3 h3 arg4 h4 arg5 h5 (Memref.whole cc0_scratch0) (Memref.isWhole_whole _) cc0_scratch1

/-- What a point holds. -/
abbrev Held (f : S8192x128.Idx → Elt F .f32) (X5 : S256x1024.Idx → Elt F .f32) : sProp 𝕄 :=
  iprop((M.view.loc (c : Thread nD τ) ↦[M.view.set]{fullShare} g)
    ∗ (ysLoc c ↦{fullShare} A)
    ∗ ((Memref.whole cc0_scratch0).view.loc (c : Thread nD τ) ↦{fullShare} f)
    ∗ semVal ((c : Thread nD τ), .dma cc0_scratch1.sem) 0
    ∗ (∃ W, owes (c : Thread nD τ) (0 : CellTallies nD τ sig Unit) W)
    ∗ owns (c : Thread nD τ) arg3 fullShare X3 ∗ owns (c : Thread nD τ) arg4 fullShare X4 ∗ owns (c : Thread nD τ) arg5 fullShare X5)

theorem run (hX : ∀ k : Fin 1024, M.view.read (Elt F) g (ix3 0 0 k) = BitVec.ofNat 32 (p k.val)) :
    Held c M arg3 arg4 arg5 g A X3 X4 f X5 ⊢ wp frame (wpE (defs₀ (F := F)) 𝒱₀ (c : Thread nD τ) none) Set.univ (bodyAt i M hM arg3 h3 arg4 h4 arg5 h5)
      fun _ => Held c M arg3 arg4 arg5 g A X3 X4 (filled p hp A) (blockOut X3 X4 (filled p hp A)) := by
  unfold Held
  rw [owns_eq_rep, owns_eq_rep, owns_eq_rep, owns_eq_rep]
  iintro ⟨HM, Hs, Hz, H7, ⟨%W, HO⟩, H3, H4, H5⟩
  imod (batch_open (F := F) c (.dma cc0_scratch1.sem) dst1 (ysLoc c) (K1 p hp c) A (pay1 p hp A) f dst1_inj) $$ [Hz Hs H7] with ⟨HB, HP, HR⟩
  · isplitl [Hz]; · iexact Hz
    isplitl [Hs] <;> iassumption
  sl_unfold [bodyAt]; sl_unfold [cc0_combine_skel]
  sl_exec
  sl_for (fun n (_ : Unit) => rowsAt c M g p hp A f n) $$ [HM HB HP]
  case region => exact (loopInv_t1 c i M hM arg3 h3 arg4 h4 arg5 h5 g p hp A f hX).step
  · isplitl [HM]; · iexact HM
    isplitl [HB] <;> iassumption
  iintro %w ⟨HM, HB, -⟩
  sl_for (fun n (_ : Unit) => rowsDrain c p hp A f n) $$ [HO HB]
  case region => exact (loopInv_t2 c i M hM arg3 h3 arg4 h4 arg5 h5 p hp A f).step
  · isplitl [HO]; · iexists _; iexact HO
    ihave HB := (Entails.of_eq (congrArg (Transfers.Batch (EC (F := F)) (c : Thread nD τ) (.dma cc0_scratch1.sem) () NN
        (piece (F := F) c dst1 (ysLoc c) (K1 p hp c) A (landed dst1 (pay1 p hp A) f)) k0_t1_loop.trips) (Nat.zero_mul NN).symm)) $$ HB
    iexact HB
  iintro %w' ⟨HO, HB⟩
  ihave HB := (Entails.of_eq (congrArg (Transfers.Batch (EC (F := F)) (c : Thread nD τ) (.dma cc0_scratch1.sem) () NN
        (piece (F := F) c dst1 (ysLoc c) (K1 p hp c) A (landed dst1 (pay1 p hp A) f)) k0_t1_loop.trips)
        (show _ = NN * k0_t1_loop.trips from Nat.mul_comm _ _))) $$ HB
  imod (batch_close (F := F) c (.dma cc0_scratch1.sem) dst1 (ysLoc c) (K1 p hp c) A (pay1 p hp A) f dst1_inj) $$ [HB HR] with ⟨Hz, Hs, H7⟩
  · isplitl [HB] <;> iassumption
  rw [landed_filled]
  generalize filled p hp A = B
  ihave Hz := (show (bufLoc c ↦{fullShare} B : sProp 𝕄) ⊢ ((Memref.whole cc0_scratch0).view.loc (c : Thread nD τ) ↦{fullShare} B) from .rfl) $$ Hz
  sl_exec
  sl_step
  isplitl [HM]; · iexact HM
  isplitl [Hs]; · iexact Hs
  isplitl [Hz]; · iexact Hz
  isplitl [H7]; · iexact H7
  isplitl [HO]; · iexact HO
  isplitl [H3]; · iexact H3
  isplitl [H4]; · iexact H4
  iapply (pointsTo_rep_of_read (c : Thread nD τ) arg5 _ fullShare (blockOut X3 X4 B) ?_) $$ H5
  have hr : run.sl.r c arg4 X4 = X4 := by
    unfold run.sl.r
    exact View.readAt_rep_full _ _ _
  refine stored X3 X4 B arg5.view _ _ _ _ _ _ _ _ _ ?_ ?_ ?_ ?_ ?_ ?_ ?_ ?_
  · exact pay_eq X3 X4 B 0 _ _ _ _ _ _ (View.readAt_rep_full _ _ _) (View.readAt_rep _ _ _) (chunk_read B 0 0 _ rfl _) (chunk_read B 1 0 _ rfl _) (chunk_read B 2 0 _ rfl _) (chunk_read B 3 0 _ rfl _)
  · exact pay_eq X3 X4 B 1 _ _ _ _ _ _ hr (View.readAt_rep _ _ _) (chunk_read B 0 1 _ rfl _) (chunk_read B 1 1 _ rfl _) (chunk_read B 2 1 _ rfl _) (chunk_read B 3 1 _ rfl _)
  · exact pay_eq X3 X4 B 2 _ _ _ _ _ _ hr (View.readAt_rep _ _ _) (chunk_read B 0 2 _ rfl _) (chunk_read B 1 2 _ rfl _) (chunk_read B 2 2 _ rfl _) (chunk_read B 3 2 _ rfl _)
  · exact pay_eq X3 X4 B 3 _ _ _ _ _ _ hr (View.readAt_rep _ _ _) (chunk_read B 0 3 _ rfl _) (chunk_read B 1 3 _ rfl _) (chunk_read B 2 3 _ rfl _) (chunk_read B 3 3 _ rfl _)
  · exact pay_eq X3 X4 B 4 _ _ _ _ _ _ hr (View.readAt_rep _ _ _) (chunk_read B 0 4 _ rfl _) (chunk_read B 1 4 _ rfl _) (chunk_read B 2 4 _ rfl _) (chunk_read B 3 4 _ rfl _)
  · exact pay_eq X3 X4 B 5 _ _ _ _ _ _ hr (View.readAt_rep _ _ _) (chunk_read B 0 5 _ rfl _) (chunk_read B 1 5 _ rfl _) (chunk_read B 2 5 _ rfl _) (chunk_read B 3 5 _ rfl _)
  · exact pay_eq X3 X4 B 6 _ _ _ _ _ _ hr (View.readAt_rep _ _ _) (chunk_read B 0 6 _ rfl _) (chunk_read B 1 6 _ rfl _) (chunk_read B 2 6 _ rfl _) (chunk_read B 3 6 _ rfl _)
  · exact pay_eq X3 X4 B 7 _ _ _ _ _ _ hr (View.readAt_rep _ _ _) (chunk_read B 0 7 _ rfl _) (chunk_read B 1 7 _ rfl _) (chunk_read B 2 7 _ rfl _) (chunk_read B 3 7 _ rfl _)

end Point
end Cert.Kernel3Ideal.Comb
end
-- ==== Proof.YLaunch.lean ====
module

public import proofs.«01_k».proof.Proof.YBody
public import proofs.«01_k».proof.Proof.Gen.Kernel3Ideal.Launch
public import Idealize.ShloMosaic.Lib.Pipeline.Regions
public import Idealize.ShloMosaic.Lib.Pipeline.RegionArrays
public import Idealize.ShloMosaic.Lib.StableHlo.RunRead
public import Idealize.ShloMosaic.Lib.StableHlo.ReadAt

@[expose] public section

noncomputable section

/-! # The combine's grid

What every window's buffer holds at every point, the body at a point, and the result after the grid: every token's row is
its point's. -/

namespace Cert.Kernel3Ideal.Comb

open Cert.Kernel3Ideal Cert.Kernel3Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing
open Idealize.ShloMosaic.Pipeline (Dat BodyObligation)

variable {F : FTy → Type} [FloatOps F]

local notation "𝕄" => MT nD τ sig Unit (Elt F) ℕ UU ℕ

section Grid

variable (m : (ℓ : Loc nD τ sig) → Buf (Elt F) ℓ)

def V₀ (c : Dev nD) : Valuation τ sig (Elt F) := fun b => m ((c : Dev nD), b)
def V₁ (c : Dev nD) : Valuation τ sig (Elt F) := StableHlo.after hostOps0 (V₀ m c)

abbrev lc (c : Dev nD) (b : Ref sig .tc) : Loc nD τ sig := (c : Thread nD τ).loc b

/-- The host operation writes no argument. -/
theorem V₁_arg (c : Dev nD) (b : Ref sig .tc) (hb : b = main_arg0 ∨ b = main_arg1 ∨ b = main_arg2 ∨ b = main_arg3) :
    V₁ m c (Proc.devRef .tc b) = m ((c : Thread nD τ).loc b) := by
  rcases hb with rfl | rfl | rfl | rfl <;> unfold V₁ <;> after_reads_simp <;> rfl

/-- The first window's array is the positions, reshaped. -/
theorem V₁_pos (c : Dev nD) : V₁ m c (Proc.devRef .tc main_v0)
    = shapeCast S128x1x1024 (m (lc c main_arg1) : S32768x4.Idx → BitVec 32) shapeCasts_S32768x4_S128x1x1024 := by
  unfold V₁
  after_reads_simp
  rfl

/-- What the launch needs of the memory: the positions as naturals, in bounds. -/
structure Facts (P : ℕ → ℕ) : Prop where
  pos : ∀ (t : Fin 128) (k : Fin 1024), (V₁ m 0 (Proc.devRef .tc main_v0) : S128x1x1024.Idx → BitVec 32) (ix3 t 0 k) = BitVec.ofNat 32 (P (1024 * t.val + k.val))
  lt : ∀ q, q < 131072 → P q < 139264

abbrev adm : (p : Fin 1) → (pcfgs (F := F) p).Adm := fun p => (cfgs p).toPCfg_adm

theorem N128 (t : Fin grid0.N) : t.val < 128 := lt_of_lt_of_eq t.isLt N_0

theorem coords_val (t : Fin grid0.N) : ((grid0.coords t) 0).val = t.val := by
  have h : ∀ t : Fin grid0.N, ((grid0.coords t) 0).val = t.val := by decide +kernel
  exact h t

/-- The positions of a point's choices. -/
abbrev blockP (P : ℕ → ℕ) (t : ℕ) : ℕ → ℕ := fun k => P (1024 * t + k)

/-- The inputs' blocks at a point. -/
def b0 (t : Fin grid0.N) : S1x1x1024.Idx → BitVec 32 := ((cfg0.win 0).blk t).view.read (Elt F) (V₁ m 0 (Proc.devRef .tc main_v0))
def b1 (t : Fin grid0.N) : S256x1024.Idx → Elt F .f32 := ((cfg0.win 1).blk t).view.read (Elt F) (V₁ m 0 (Proc.devRef .tc main_arg2))
def b2 (t : Fin grid0.N) : S256x4.Idx → Elt F .f32 := ((cfg0.win 2).blk t).view.read (Elt F) (V₁ m 0 (Proc.devRef .tc main_arg3))

variable {m} {P : ℕ → ℕ} (h : Facts m P)
include h

theorem blockP_lt (t : Fin grid0.N) (k : ℕ) (hk : k < 1024) : blockP P t.val k < 139264 := h.lt _ (by have := N128 t; omega)

/-- The rows a point gathers. -/
def rowsOf (t : Fin grid0.N) : S8192x128.Idx → Elt F .f32 := filled (blockP P t.val) (blockP_lt h t) (V₁ m 0 (Proc.devRef .tc main_arg0))

/-- The block of the result at a point. -/
def outAt (t : Fin grid0.N) : S256x1024.Idx → Elt F .f32 := blockOut (b1 m t) (b2 m t) (rowsOf h t)

omit h in
/-- Between the points: the buffer at something, the experts' rows, the semaphore at zero. -/
def Φs (m : (ℓ : Loc nD τ sig) → Buf (Elt F) ℓ) (c : Dev nD) : sProp 𝕄 :=
  iprop(∃ Z : S8192x128.Idx → Elt F .f32, ((c : Thread nD τ).loc cc0_scratch0 ↦{fullShare} Z) ∗ (ysLoc c ↦{fullShare} V₁ m 0 (Proc.devRef .tc main_arg0))
    ∗ semVal ((c : Thread nD τ), .dma cc0_scratch1.sem) 0)

def dat (_ : Fin 1) (c : Dev nD) : Dat τ (Elt F) Unit ℕ UU ℕ cfg0 c where
  A w := match w with
    | ⟨0, _⟩ => V₁ m 0 (Proc.devRef .tc main_v0) | ⟨1, _⟩ => V₁ m 0 (Proc.devRef .tc main_arg2) | ⟨2, _⟩ => V₁ m 0 (Proc.devRef .tc main_arg3)
    | ⟨3, _⟩ => V₁ m 0 (Proc.devRef .tc main_v1)
  after w t := match w with
    | ⟨0, _⟩ => b0 m t | ⟨1, _⟩ => b1 m t | ⟨2, _⟩ => b2 m t | ⟨3, _⟩ => outAt h t
  Φ _ := Φs m c
  q _ := fullShare
  owed _ := 0

theorem before0 (c : Dev nD) (t : Fin grid0.N) (d) : (dat h 0 c).before 0 t d = b0 m t :=
  (dat h 0 c).before_in_eq_fetched 0 rfl (fun _ => rfl) (fun _ _ _ => rfl) (fun _ => rfl) t d
theorem before1 (c : Dev nD) (t : Fin grid0.N) (d) : (dat h 0 c).before 1 t d = b1 m t :=
  (dat h 0 c).before_in_eq_fetched 1 rfl (fun _ => rfl) (fun _ _ _ => rfl) (fun _ => rfl) t d
theorem before2 (c : Dev nD) (t : Fin grid0.N) (d) : (dat h 0 c).before 2 t d = b2 m t :=
  (dat h 0 c).before_in_eq_fetched 2 rfl (fun _ => rfl) (fun _ _ _ => rfl) (fun _ => rfl) t d

theorem block_word (t : Fin grid0.N) (k : Fin 1024) :
    b0 m t (ix3 0 0 k) = BitVec.ofNat 32 (blockP P t.val k.val) := by
  unfold blockP
  rw [← h.pos ⟨t.val, N128 t⟩ k]
  unfold b0
  have hc := coords_val t
  have hN := N128 t
  have key : ∀ a : Fin 3, cc0_transform_0 (grid0.coords t) a * S1x1x1024.size a + 1 * ((ix3 (0 : Fin 1) (0 : Fin 1) k : S1x1x1024.Idx) a).val
      = ((ix3 (⟨t.val, N128 t⟩ : Fin 128) (0 : Fin 1) k : S128x1x1024.Idx) a).val := by
    intro a
    fin_cases a
    · show (BitVec.ofNat 32 ((grid0.coords t) 0).val).toNat * 1 + 1 * 0 = t.val
      rw [hc, BitVec.toNat_ofNat]
      omega
    · rfl
    · show 0 * 1024 + 1 * k.val = k.val
      omega
  refine congrArg (V₁ m 0 (Proc.devRef .tc main_v0) : S128x1x1024.Idx → BitVec 32) (funext fun a => Fin.ext ?_)
  exact key a

/-- One grid point. -/
theorem point (c : Dev nD) (t : Fin grid0.N)
    (M : Memref sig .tc .smem S1x1x1024 .i32) (hM : M.IsWhole)
    (arg3 : Memref sig .tc .vmem S256x1024 .f32) (h3 : arg3.IsWhole) (arg4 : Memref sig .tc .vmem S256x4 .f32) (h4 : arg4.IsWhole)
    (arg5 : Memref sig .tc .vmem S256x1024 .f32) (h5 : arg5.IsWhole)
    (X : S1x1x1024.Idx → BitVec 32) (X3 : S256x1024.Idx → Elt F .f32) (X4 : S256x4.Idx → Elt F .f32) (X5 : S256x1024.Idx → Elt F .f32)
    (e0 : X = b0 m t) (e3 : X3 = b1 m t) (e4 : X4 = b2 m t) :
    iprop(Φs m c ∗ (∃ W, owes (c : Thread nD τ) (0 : CellTallies nD τ sig Unit) W) ∗ owns (c : Thread nD τ) M fullShare X ∗ owns (c : Thread nD τ) arg3 fullShare X3
        ∗ owns (c : Thread nD τ) arg4 fullShare X4 ∗ owns (c : Thread nD τ) arg5 fullShare X5)
      ⊢ wp frame (wpE (defs₀ (F := F)) 𝒱₀ (c : Thread nD τ) none) Set.univ (bodyAt (grid0.coords t) M hM arg3 h3 arg4 h4 arg5 h5)
          fun _ => iprop(Φs m c ∗ (∃ W, owes (c : Thread nD τ) (0 : CellTallies nD τ sig Unit) W) ∗ owns (c : Thread nD τ) M fullShare (b0 m t)
            ∗ owns (c : Thread nD τ) arg3 fullShare (b1 m t) ∗ owns (c : Thread nD τ) arg4 fullShare (b2 m t) ∗ owns (c : Thread nD τ) arg5 fullShare (outAt h t)) := by
  subst e0 e3 e4
  unfold Φs
  iintro ⟨⟨%Z, Hz, Hy, Hs⟩, HO, HM, H⟩
  unfold owns
  icases HM with ⟨%g, %hg, HM⟩
  have hr := run c (grid0.coords t) M hM arg3 h3 arg4 h4 arg5 h5 g (blockP P t.val) (blockP_lt h t) (V₁ m 0 (Proc.devRef .tc main_arg0)) Z (b1 m t) (b2 m t) X5
    (fun k => (congrFun hg _).trans (block_word h t k))
  unfold Held owns at hr
  iapply (hr.trans (wp_mono _ _ _ fun _ => ?_)) $$ [HM Hy Hz Hs HO H]
  · iintro ⟨HM, Hy, Hz, Hs, HO, H⟩
    isplitl [Hz Hy Hs]
    · iexists _
      isplitl [Hz]; · iexact Hz
      isplitl [Hy] <;> iassumption
    isplitl [HO]; · iexact HO
    isplitl [HM]
    · iexists g; isplitr; · ipureintro; exact hg
      iexact HM
    iexact H
  · isplitl [HM]; · iexact HM
    isplitl [Hy]; · iexact Hy
    isplitl [Hz]; · iexact Hz
    isplitl [Hs]; · iexact Hs
    isplitl [HO]; · iexact HO
    iexact H

set_option maxHeartbeats 1600000 in
theorem body (c : Dev nD) : BodyObligation (dat h 0 c) (defs₀ (F := F)) 𝒱₀ () Set.univ := fun t => by
  rw [bigSep_W0, bigSep_W0]
  rw [show (dat h 0 c).Φ t.castSucc = Φs m c from rfl, show (dat h 0 c).Φ t.succ = Φs m c from rfl]
  unfold Pipeline.Dat.owesAt Pipeline.owesWithin
  rw [show (dat h 0 c).owed t.castSucc = 0 from rfl, show (dat h 0 c).owed t.succ = 0 from rfl]
  have e : ∀ d0 d1 d2 d3, _ := fun d0 d1 d2 d3 => point h c t
    ((cfg0.win 0).stage (cfg0.slots t 0)) (stage_whole0 0 _) ((cfg0.win 1).stage (cfg0.slots t 1)) (stage_whole0 1 _)
    ((cfg0.win 2).stage (cfg0.slots t 2)) (stage_whole0 2 _) ((cfg0.win 3).stage (cfg0.slots t 3)) (stage_whole0 3 _)
    ((dat h 0 c).before 0 t d0) ((dat h 0 c).before 1 t d1) ((dat h 0 c).before 2 t d2) ((dat h 0 c).before 3 t d3)
    (before0 h c t d0) (before1 h c t d1) (before2 h c t d2)
  iintro ⟨HΦ, ⟨%W, %hW, HO⟩, ⟨%d0, H0⟩, ⟨%d1, H1⟩, ⟨%d2, H2⟩, ⟨%d3, H3⟩⟩
  iapply ((e d0 d1 d2 d3).trans (wp_mono _ _ _ fun _ => ?_)) $$ [HΦ HO H0 H1 H2 H3]
  · iintro ⟨HΦ, ⟨%W', HO⟩, H0, H1, H2, H3⟩
    isplitl [HΦ]; · iexact HΦ
    isplitl [HO]
    · iexists W'; isplitr; · ipureintro; exact fun _ _ => Or.inl trivial
      iexact HO
    isplitl [H0]; · iexact H0
    isplitl [H1]; · iexact H1
    isplitl [H2]; · iexact H2
    iexact H3
  · isplitl [HΦ]; · iexact HΦ
    isplitl [HO]; · iexists W; iexact HO
    isplitl [H0]; · iexact H0
    isplitl [H1]; · iexact H1
    isplitl [H2]; · iexact H2
    iexact H3

/-! ## The result after the grid -/

omit h in
theorem ix_word (t : Fin grid0.N) : (BitVec.ofNat 32 ((grid0.coords t) 0).val).toNat = t.val := by
  have hN := N128 t
  rw [coords_val, BitVec.toNat_ofNat]
  omega

omit h in
theorem index3 (t : Fin grid0.N) (a : Fin 2) : (cfg0.win 3).index t a = (![t.val, 0] : Fin 2 → ℕ) a := by
  fin_cases a
  · exact ix_word t
  · rfl

omit h in
theorem flush3 (t : Fin grid0.N) : (cfg0.win 3).flush t = true := by
  have hN := N_0
  have ht := N128 t
  rw [Pipeline.Window.flush_eq_flushF]
  unfold Pipeline.Window.flushF
  rw [show (cfg0.win 3).isOut = true from rfl, Bool.true_and]
  simp only [Bool.or_eq_true, decide_eq_true_eq]
  by_cases h2 : t.val + 1 = 128
  · exact .inl (h2.trans hN.symm)
  · refine .inr ⟨by show t.val + 1 < grid0.N; omega, (0 : Fin 2), ?_⟩
    rw [index3, index3]
    show t.val + 1 ≠ t.val
    omega

omit h in
/-- Element `x` of point `t`'s block of the rows. -/
def rowIdx (t : Fin grid0.N) (x : S256x1024.Idx) : S32768x1024.Idx :=
  ValueIdx.ix2 (⟨256 * t.val + (x 0).val, by have := N128 t; have : (x 0).val < 256 := (x 0).isLt; omega⟩ : Fin 32768) (⟨(x 1).val, (x 1).isLt⟩ : Fin 1024)

omit h in
theorem emb3 (t : Fin grid0.N) (x : S256x1024.Idx) : ((cfg0.win 3).blk t).view.emb x = rowIdx t x := by
  have key : ∀ a : Fin 2, (![t.val, 0] : Fin 2 → ℕ) a * S256x1024.size a + (x a).val = (rowIdx t x a).val := fun a =>
    match a with
    | ⟨0, _⟩ => by show t.val * 256 + (x 0).val = 256 * t.val + (x 0).val; omega
    | ⟨1, _⟩ => by show 0 * 1024 + (x 1).val = (x 1).val; omega
  funext a
  apply Fin.ext
  have e := Pipeline.Window.rect_emb_val (cfg0.win 3) t x a
  rw [index3] at e
  exact Eq.trans e (key a)

omit h in
/-- The row's place in its block. -/
def inTile (y : S32768x1024.Idx) : S256x1024.Idx :=
  ValueIdx.ix2 (⟨(y 0).val % 256, Nat.mod_lt _ (by decide)⟩ : Fin 256) (⟨(y 1).val, (y 1).isLt⟩ : Fin 1024)

omit h in
def tileOf (y : S32768x1024.Idx) : Fin grid0.N := ⟨(y 0).val / 256, by
  have h1 : (y 0).val < 32768 := (y 0).isLt
  rw [N_0]; omega⟩

/-- The result. -/
def outG (y : S32768x1024.Idx) : Elt F .f32 := outAt h (tileOf y) (inTile y)

theorem outG_rowIdx (t : Fin grid0.N) (x : S256x1024.Idx) : outG h (rowIdx t x) = outAt h t x := by
  have hx : (x 0).val < 256 := (x 0).isLt
  have e1 : tileOf (rowIdx t x) = t := Fin.ext (by show (256 * t.val + (x 0).val) / 256 = t.val; omega)
  have e2 : inTile (rowIdx t x) = x := by
    funext a
    apply Fin.ext
    match a with
    | ⟨0, _⟩ => show (256 * t.val + (x 0).val) % 256 = (x 0).val; omega
    | ⟨1, _⟩ => rfl
  unfold outG
  rw [e1, e2]

/-- The result's array as the grid leaves it. -/
def final (c : Dev nD) : S32768x1024.Idx → Elt F .f32 := (dat h 0 c).arrAt 3 cfg0.N

theorem final_apply (c : Dev nD) (y : S32768x1024.Idx) : final h c y = outG h y := by
  have h1 : (y 0).val < 32768 := (y 0).isLt
  have hG : ∀ t, (cfg0.win 3).flush t = true → (dat h 0 c).flushed 3 t = ((cfg0.win 3).blk t).view.read (Elt F) (outG h) := by
    intro t _
    funext x
    show outAt h t x = outG h (((cfg0.win 3).blk t).view.emb x)
    exact ((congrArg (outG h) (emb3 t x)).trans (outG_rowIdx h t x)).symm
  have ey : rowIdx (tileOf y) (inTile y) = y := by
    funext a
    apply Fin.ext
    match a with
    | ⟨0, _⟩ => show 256 * ((y 0).val / 256) + (y 0).val % 256 = (y 0).val; omega
    | ⟨1, _⟩ => rfl
  refine (dat h 0 c).arrAt_apply_of_mem 3 (outG h) hG cfg0.N (tileOf y) y (tileOf y).isLt (flush3 _) ?_
  have hm := ((cfg0.win 3).blk (tileOf y)).view.emb_mem_set (inTile y)
  rw [emb3, ey] at hm
  exact hm

end Grid

end Cert.Kernel3Ideal.Comb

end
-- ==== Proof.YRun.lean ====
module

public import proofs.«01_k».proof.Proof.YLaunch

@[expose] public section

noncomputable section

/-! # The combine's run

The launch as segments: the positions reshaped, then the grid. -/

namespace Cert.Kernel3Ideal.Comb

open Cert.Kernel3Ideal Cert.Kernel3Ideal.Gen
open Idealize.SL
open Idealize.SL.BI (sProp bigSep bigSepL bigSep_univ_eq_bigSepL bigSep_eq_bigSepL_of_eq Storable)
open scoped Idealize.SL.BI
open Idealize.SL.BI.BIBase Idealize.SL.BI.Laws Idealize.SL.Sem Idealize.SL.ProofMode
open Idealize.SL.RA
open Idealize.ShloMosaic Idealize.ShloMosaic.Tactic Idealize.ShloMosaic.Rounds Idealize.ShloMosaic.TcCoe
open Idealize.ShloMosaic.Routing
open Idealize.ShloMosaic.Pipeline (Dat BodyObligation)

variable {F : FTy → Type} [FloatOps F]

local notation "𝕄" => MT nD τ sig Unit (Elt F) ℕ UU ℕ

abbrev EP : Emb (UR sig nD τ) 𝕄 := embL

/-- The buffers the host operation runs within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, BI.bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The buffers the call and the claims name. -/
def named : Finset (DevRef τ sig) :=
  {Proc.devRef .tc main_arg0, Proc.devRef .tc main_arg1, Proc.devRef .tc main_arg2, Proc.devRef .tc main_arg3, Proc.devRef .tc main_v0, Proc.devRef .tc main_v1}

theorem named_sub : named ⊆ ucRefs := by decide

omit [FloatOps F] in
theorem named_eq (c : Dev nD) (W : Valuation τ sig (Elt F)) : (StableHlo.held (c : Thread nD τ) named W : sProp 𝕄)
    = iprop((lc c main_arg0 ↦{fullShare} W (Proc.devRef .tc main_arg0)) ∗ (lc c main_arg1 ↦{fullShare} W (Proc.devRef .tc main_arg1))
      ∗ (lc c main_arg2 ↦{fullShare} W (Proc.devRef .tc main_arg2)) ∗ (lc c main_arg3 ↦{fullShare} W (Proc.devRef .tc main_arg3))
      ∗ (lc c main_v0 ↦{fullShare} W (Proc.devRef .tc main_v0)) ∗ (lc c main_v1 ↦{fullShare} W (Proc.devRef .tc main_v1))) := by
  unfold StableHlo.held
  rw [bigSep_eq_bigSepL_of_eq [Proc.devRef .tc main_arg0, Proc.devRef .tc main_arg1, Proc.devRef .tc main_arg2, Proc.devRef .tc main_arg3,
    Proc.devRef .tc main_v0, Proc.devRef .tc main_v1] (by decide) (by decide)]
  rfl

omit [FloatOps F] in
theorem held_named (c : Dev nD) (W : Valuation τ sig (Elt F)) :
    (StableHlo.held (c : Thread nD τ) ucRefs W : sProp 𝕄) = iprop(StableHlo.held (c : Thread nD τ) named W ∗ StableHlo.held (c : Thread nD τ) (ucRefs \ named) W) :=
  StableHlo.held_sub_split _ named_sub W

abbrev L : GSem nD τ sig → Finset Unit := fun _ => ∅
abbrev lv : GSem nD τ sig → Unit → ℕ := fun _ _ => 0

/-- What rides beside the buffers: what the core owes. -/
abbrev R (c : Dev nD) : sProp 𝕄 := iprop(∃ W, owes (c : Thread nD τ) (0 : CellTallies nD τ sig Unit) W)

abbrev Host' := Pipeline.HostSeg (Name := ℕ) (U := UU) (pcfgs (F := F)) defs₀ 𝒱₀ L lv

def seg0 (m : (ℓ : Loc nD τ sig) → Buf (Elt F) ℓ) : Host' (F := F) :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- The call prefetches no table. -/
theorem prefHeld_nil (c : Dev nD) (q) (v) : (Pipeline.prefHeld (pcfgs (F := F) 0).pre c q v : sProp 𝕄) = BI.emp :=
  Pipeline.prefHeld_of_none _ rfl c q v

/-- The call's own semaphore. -/
def osem : Fin 1 → SemLoc sig := fun _ => .dma cc0_scratch1.sem

theorem ownSemFacts : Pipeline.OwnSemFacts spec0 osem := by decide

omit [FloatOps F] in
theorem ownSems0_eq (c : Dev nD) :
    (Pipeline.ownSems0 (Ix := Unit) (Name := ℕ) (U := UU) (Lvl := ℕ) (Val := Elt F) (τ := τ) osem c : sProp 𝕄)
      = iprop(semVal ((c : Thread nD τ), .dma cc0_scratch1.sem) 0) :=
  Pipeline.ownSems0_eq_of_list c osem [0] (by decide) (by decide)

section Run

variable {m : (ℓ : Loc nD τ sig) → Buf (Elt F) ℓ} {P : ℕ → ℕ} (h : Facts m P)

theorem cells_inj : Function.Injective (Pipeline.cellOf (nD := nD) (τ := τ) (Pipeline.pin (pcfgs (F := F)) adm)) := cellOf_inj

def u₀ : UU := (initOf (Pipeline.cells (Pipeline.pin (pcfgs (F := F)) adm) cells_inj)
  (Pipeline.launchToks (Pipeline.pin (pcfgs (F := F)) adm) cells_inj), 1)

include h

theorem arrays_eq (c : Dev nD) (A) : ((dat h 0 c).arrays A : sProp 𝕄) = iprop((lc c main_v0 ↦{fullShare} (A 0)) ∗ (lc c main_arg2 ↦{fullShare} (A 1))
    ∗ (lc c main_arg3 ↦{fullShare} (A 2)) ∗ (lc c main_v1 ↦{fullShare} (A 3))) := by
  exact (Pipeline.arrays_eq (Pipeline.pin (pcfgs (F := F)) adm) (dat h) 0 c arr_whole0 ((dat h 0 c).share_full fun _ => rfl) A).trans (bigSep_W0 _)

/-- What the launch ends with. -/
abbrev Tₙ (c : Dev nD) : sProp 𝕄 :=
  iprop((lc c main_v1 ↦{fullShare} final h c)
    ∗ (lc c main_arg0 ↦{fullShare} V₁ m 0 (Proc.devRef .tc main_arg0)) ∗ (lc c main_arg1 ↦{fullShare} V₁ m 0 (Proc.devRef .tc main_arg1))
    ∗ (lc c main_arg2 ↦{fullShare} V₁ m 0 (Proc.devRef .tc main_arg2)) ∗ (lc c main_arg3 ↦{fullShare} V₁ m 0 (Proc.devRef .tc main_arg3)))

set_option backward.isDefEq.respectTransparency.types false in
set_option maxHeartbeats 1600000 in
set_option maxRecDepth 20000 in
def reg0 : Pipeline.RegionSeg (pcfgs (F := F)) adm (dat h) () defs₀ 𝒱₀ L lv 0 where
  win := winFacts0.to₀
  block_pos := block_pos0
  stage_whole := stage_whole0
  K := Fin 1
  osem := osem
  ho := ownSemFacts
  hbody c := (body h c).loose
  hwaits := Pipeline.hwaits_of_owed_zero _ _ _ _ L lv 0 fun _ _ => rfl
  pre c := iprop(StableHlo.held (c : Thread nD τ) ucRefs (V₁ m c) ∗ R c)
  post c := iprop(Tₙ h c ∗ R c)
  X c := iprop((ysLoc c ↦{fullShare} V₁ m 0 (Proc.devRef .tc main_arg0)) ∗ semVal ((c : Thread nD τ), .dma cc0_scratch1.sem) 0)
  Y c := ysLoc c ↦{fullShare} V₁ m 0 (Proc.devRef .tc main_arg0)
  Z c := lc c main_arg1 ↦{fullShare} V₁ m 0 (Proc.devRef .tc main_arg1)
  hentry c := by
    obtain rfl : c = 0 := Subsingleton.elim _ _
    rw [held_named, named_eq, ownSems0_eq, arrays_eq, prefHeld_nil]
    iintro ⟨⟨⟨⟨H0, H1, H2, H3, W0, W1⟩, -⟩, HO⟩, Hs, -⟩
    imodintro
    isplitl [W0 H2 H3 W1]
    · isplitl [W0]; · iexact W0
      isplitl [H2]; · iexact H2
      isplitl [H3]; · iexact H3
      iexact W1
    isplitr; · iempintro
    isplitl [HO]
    · unfold Pipeline.Dat.owesAt Pipeline.owesWithin
      icases HO with ⟨%W, HO⟩; iexists W; isplitr; · ipureintro; exact fun _ _ => Or.inl trivial
      iexact HO
    isplitl [H0 Hs]
    · isplitl [H0]; · iexact H0
      iexact Hs
    iexact H1
  hin c := by
    obtain rfl : c = 0 := Subsingleton.elim _ _
    rw [show (dat h 0 0).Φ 0 = Φs m 0 from rfl, prefHeld_nil, scopedRest0_eq]
    unfold Φs
    iintro ⟨⟨Hy, Hs⟩, -, ⟨%Z, Hz⟩⟩
    iexists Z
    isplitl [Hz]; · iexact Hz
    isplitl [Hy] <;> iassumption
  hout c := by
    rw [ownSems0_eq, scopedRest0_eq, show (dat h 0 c).Φ (Fin.last cfg0.N) = Φs m c from rfl]
    unfold Φs
    iintro ⟨%Z, Hz, Hy, Hs⟩
    isplitl [Hy]; · iexact Hy
    isplitl [Hs]; · iexact Hs
    iexists Z; iexact Hz
  hexit c := by
    obtain rfl : c = 0 := Subsingleton.elim _ _
    rw [arrays_eq, (dat h 0 0).arrAt_in 1 rfl, (dat h 0 0).arrAt_in 2 rfl]
    iintro ⟨⟨-, H2, H3, Ho⟩, HO, H0, H1⟩
    imodintro
    isplitr [HO]
    · isplitl [Ho]; · iexact Ho
      isplitl [H0]; · iexact H0
      isplitl [H1]; · iexact H1
      isplitl [H2]; · iexact H2
      iexact H3
    · unfold Pipeline.Dat.owesAt Pipeline.owesWithin
      icases HO with ⟨%W, -, HO⟩; iexists W; iexact HO

abbrev segs : List (Pipeline.Seg (pcfgs (F := F)) adm (dat h) () defs₀ 𝒱₀ L lv) := [.host (seg0 m), .region (reg0 h)]

theorem main_eq (c : Dev nD) : Pipeline.Seg.run (segs h) = main (F := F) c := by
  exact (Pipeline.Seg.run_eq_chain (segs h)).trans (main_chain (F := F) c).symm

set_option backward.isDefEq.respectTransparency.types false in
/-- The whole run: it ends, the arguments unchanged, every semaphore at zero, the result every point's block. -/
theorem run_main (ρ : Dev nD → PrngReg) :
    θ_run defs (onTc (τ := τ) (main (F := F))) ⟨m, fun _ => 0, ρ⟩ (fun r =>
      (∀ c : Dev nD, (r.2.mem (lc c main_arg0) = m (lc c main_arg0) ∧ r.2.mem (lc c main_arg1) = m (lc c main_arg1) ∧ r.2.mem (lc c main_arg2) = m (lc c main_arg2)
        ∧ r.2.mem (lc c main_arg3) = m (lc c main_arg3))
        ∧ r.2.mem (lc c main_v1) = final h c) ∧ r.2.sem = fun _ => 0) :=
  Pipeline.θ_run_regions_kit_sems (pcfgs (F := F)) adm (dat h) () cells_inj EP defs₀ 𝒱₀ L lv m ρ main (segs h)
    (fun c Q => by rw [main_eq h c])
    (by simp only [segs, Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ h)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => (s.mem (lc c main_arg0) = m (lc c main_arg0) ∧ s.mem (lc c main_arg1) = m (lc c main_arg1) ∧ s.mem (lc c main_arg2) = m (lc c main_arg2)
        ∧ s.mem (lc c main_arg3) = m (lc c main_arg3))
        ∧ s.mem (lc c main_v1) = final h c)
    (hfin := fun c s' => by
      obtain rfl : c = 0 := Subsingleton.elim _ _
      dsimp only [Tₙ]
      rw [V₁_arg m 0 main_arg0 (by simp), V₁_arg m 0 main_arg1 (by simp), V₁_arg m 0 main_arg2 (by simp), V₁_arg m 0 main_arg3 (by simp)]
      iintro ⟨⟨Ho, H0, H1, H2, H3⟩, HSI⟩
      icombine HSI Ho gives %ho
      icombine HSI H0 gives %h0
      icombine HSI H1 gives %h1
      icombine HSI H2 gives %h2
      icombine HSI H3 gives %h3
      imodintro
      isplitr
      · ipureintro
        exact ⟨⟨Buf.eq_of_forall_mem_univ h0, Buf.eq_of_forall_mem_univ h1, Buf.eq_of_forall_mem_univ h2, Buf.eq_of_forall_mem_univ h3⟩, Buf.eq_of_forall_mem_univ ho⟩
      iexact HSI)
    (hQ := fun _ h hz => ⟨h, funext fun g => hz g (.inr (by revert g; decide))⟩)

end Run

end Cert.Kernel3Ideal.Comb

end
-- ==== Proof.YVal.lean ====
module

public import proofs.«01_k».proof.Proof.YRun
public import proofs.«01_k».proof.Proof.XRef
public import proofs.«01_k».proof.Proof.Gen.Pre_placed
public import proofs.«01_k».proof.Proof.Gen.Reference3Ideal.Read

@[expose] public section

noncomputable section

/-! # The combine's value over the reals, and the reference's

Token `t`'s row of the result is its row of `x1` and its four chosen rows, each times its gate. -/

namespace Cert.Placed

open Idealize.ShloMosaic Idealize.ShloMosaic.Routing

variable {F : FTy → Type} [FloatOps F]

/-- What the precondition says of the positions. -/
theorem read (A : FVec F Cert.Pre_placed.S1114112x128 .f32) (pos : IVec Cert.Pre_placed.S32768x4 32) (X : FVec F Cert.Pre_placed.S32768x1024 .f32)
    (G : FVec F Cert.Pre_placed.S32768x4 .f32) (h : Cert.Pre_placed.fn (F := F) A pos X G = fun _ => 1#1) (q : ℕ) (hq : q < 131072) :
    Cert.Routed.pn pos q < 139264 := by
  have h0 := congrFun h ValueIdx.ix0
  unfold Cert.Pre_placed.fn at h0
  unfold Cert.Routed.pn
  rw [dif_pos hq]
  obtain ⟨ha, hb⟩ := IntOp.andi_eq_one.1 (Host.reduce_andi_all _ _ _ _ _ h0 (ValueIdx.ix2 (⟨q / 4, by omega⟩ : Fin 32768) (⟨q % 4, by omega⟩ : Fin 4)))
  have h1 := IntOp.cmpi_sge.1 ha
  have h2 := IntOp.cmpi_slt.1 hb
  have h3 : (pos (ValueIdx.ix2 (⟨q / 4, by omega⟩ : Fin 32768) (⟨q % 4, by omega⟩ : Fin 4))).toInt < ((139264 : ℕ) : Int) := h2
  have h4 := Cert.Routed.toNat_le _ 139263 h1 (by omega)
  exact Nat.lt_succ_of_le h4

theorem pn_at (pos : IVec Cert.Pre_placed.S32768x4 32) (t : Fin 32768) (k : Fin 4) :
    pos (ValueIdx.ix2 t k) = BitVec.ofNat 32 (Cert.Routed.pn pos (4 * t.val + k.val)) := by
  have e1 : (⟨(4 * t.val + k.val) / 4, by omega⟩ : Fin 32768) = t := Fin.ext (by show (4 * t.val + k.val) / 4 = t.val; omega)
  have e2 : (⟨(4 * t.val + k.val) % 4, by omega⟩ : Fin 4) = k := Fin.ext (by show (4 * t.val + k.val) % 4 = k.val; omega)
  unfold Cert.Routed.pn
  rw [dif_pos (show 4 * t.val + k.val < 131072 by omega), e1, e2]
  exact BitVec.eq_of_toNat_eq (by rw [BitVec.toNat_ofNat, Nat.mod_eq_of_lt (pos (ValueIdx.ix2 t k)).isLt])

section
variable (A : (⟨2, ![1114112, 128]⟩ : Shape).Idx → EReal) (P : ℕ → ℕ) (hP : ∀ q, q < 131072 → P q < 139264)

/-- Column `d` of choice `k`'s row of token `t`. -/
def pick (t : Fin 32768) (k : Fin 4) (d : Fin 1024) : EReal :=
  A (ValueIdx.ix2 ⟨8 * P (4 * t.val + k.val) + d.val / 128, by have := hP (4 * t.val + k.val) (by omega); omega⟩ ⟨d.val % 128, by omega⟩)

/-- Token `t`'s row, its four choices added. -/
def comb (X : (⟨2, ![32768, 1024]⟩ : Shape).Idx → EReal) (G : (⟨2, ![32768, 4]⟩ : Shape).Idx → EReal) (t : Fin 32768) (d : Fin 1024) : EReal :=
  X (ValueIdx.ix2 t d) + ∑ k : Fin 4, pick A P hP t k d * G (ValueIdx.ix2 t k)
end

/-- Rows of a matrix by a table of word indices: entry `(t, k, d)` is the entry `(b, d)` of the matrix. -/
theorem gather_tab {α : Type} {nb D n m : ℕ} (g : GatherDims ⟨2, ![nb, D]⟩ ⟨3, ![n, m, 1]⟩ ⟨3, ![n, m, D]⟩) (hoff : g.offsetDims = [2])
    (hcoll : g.collapsedSliceDims = [0]) (hob : g.operandBatchingDims = []) (hsb : g.startIndicesBatchingDims = []) (hsim : g.startIndexMap = [0])
    (hivd : g.indexVectorDim = 2) (x : (⟨2, ![nb, D]⟩ : Shape).Idx → α) (idx : IVec ⟨3, ![n, m, 1]⟩ 32) (t : Fin n) (k : Fin m) (d : Fin D) (b : Fin nb)
    (hb : idx (ValueIdx.ix3 t k (0 : Fin 1)) = BitVec.ofNat 32 b.val) (hnb : nb < 2 ^ 31) :
    Host.gather g x idx (ValueIdx.ix3 t k d) = x (ValueIdx.ix2 b d) := by
  obtain ⟨od, cd, ob, sb, sm, iv, ss, wf⟩ := g
  simp only at hoff hcoll hob hsb hsim hivd
  subst hoff hcoll hob hsb hsim hivd
  unfold Host.gather
  refine congrArg x (funext fun a => Fin.ext ?_)
  match a with
  | ⟨0, _⟩ =>
    have hss := GatherDims.slice_collapsed (⟨[2], [0], [], [], [0], 2, ss, wf⟩ : GatherDims ⟨2, ![nb, D]⟩ ⟨3, ![n, m, 1]⟩ ⟨3, ![n, m, D]⟩) 0 (List.mem_singleton.2 rfl)
    have hs : ss 0 = 1 := hss
    show min (idx _).toInt.toNat (nb - ss 0) + 0 + 0 = b.val
    have hi : (GatherDims.siIdx (⟨[2], [0], [], [], [0], 2, ss, wf⟩ : GatherDims ⟨2, ![nb, D]⟩ ⟨3, ![n, m, 1]⟩ ⟨3, ![n, m, D]⟩) (ValueIdx.ix3 t k d)
        ⟨List.idxOf 0 [0], List.idxOf_lt_length_iff.2 (List.mem_singleton.2 rfl)⟩) = ValueIdx.ix3 t k (0 : Fin 1) := funext fun a => match a with
      | ⟨0, _⟩ => rfl
      | ⟨1, _⟩ => rfl
      | ⟨2, _⟩ => rfl
    have hv := b.isLt
    refine (congrArg (fun w => min (idx w).toInt.toNat (nb - ss 0) + 0 + 0) hi).trans ?_
    show min (idx _).toInt.toNat (nb - ss 0) + 0 + 0 = b.val
    rw [hb, hs, Cert.Routed.toInt_word _ (by omega), Int.toNat_natCast]
    omega
  | ⟨1, _⟩ =>
    show 0 + 0 + d.val = d.val
    omega

end Cert.Placed

namespace Cert.Reference3Ideal.Read

open Cert.Reference3Ideal Cert.Reference3Ideal.Gen
open Idealize.ShloMosaic Idealize.ShloMosaic.TcCoe Idealize.SL.Sem Idealize.ShloMosaic.StableHlo Idealize.ShloMosaic.Routing

section Value
variable (A : FVec Ideal S1114112x128 .f32) (pos : IVec S32768x4 32) (X : FVec Ideal S32768x1024 .f32) (G : FVec Ideal S32768x4 .f32)
  (hP : ∀ q, q < 131072 → Cert.Routed.pn pos q < 139264)
include hP

theorem v6_word (t : Fin 32768) (k : Fin 4) :
    val_main_v6 (F := Ideal) pos (ValueIdx.ix3 t k (0 : Fin 1)) = BitVec.ofNat 32 (Cert.Routed.pn pos (4 * t.val + k.val)) := by
  have hi : idx_main_v6 (ValueIdx.ix3 t k (0 : Fin 1)) = ValueIdx.ix2 t k := funext fun a => match a with | ⟨0, _⟩ => rfl | ⟨1, _⟩ => rfl
  have hb := hP (4 * t.val + k.val) (by omega)
  rw [val_main_v6_apply, hi, val_main_v5_apply, val_main_v2_apply, val_main_v1_apply, val_main_c_apply, ← Cert.Placed.pn_at pos t k]
  refine wrap_of_lt _ _ ?_
  rw [Cert.Placed.pn_at pos t k, BitVec.toNat_ofNat]
  omega

theorem v7_apply (t : Fin 32768) (k : Fin 4) (d : Fin 1024) :
    val_main_v7 (F := Ideal) A pos (ValueIdx.ix3 t k d) = Cert.Placed.pick A (Cert.Routed.pn pos) hP t k d := by
  have hb := hP (4 * t.val + k.val) (by omega)
  unfold val_main_v7
  refine (Cert.Placed.gather_tab gather_S139264x1024_S32768x4x1_S32768x4x1024_2_0_n_n_0_2_11024 rfl rfl rfl rfl rfl rfl _ _ t k d ⟨_, hb⟩
    (v6_word pos hP t k) (by decide)).trans ?_
  rw [val_main_v0_apply]
  unfold Cert.Placed.pick
  refine congrArg A (funext fun a => Fin.ext ?_)
  match a with
  | ⟨0, _⟩ => show (Cert.Routed.pn pos (4 * t.val + k.val) * 1024 + d.val) / 128 = 8 * Cert.Routed.pn pos (4 * t.val + k.val) + d.val / 128; omega
  | ⟨1, _⟩ => show (Cert.Routed.pn pos (4 * t.val + k.val) * 1024 + d.val) % 128 = d.val % 128; omega

/-- The reference's result at an element. -/
theorem ref_apply (t : Fin 32768) (d : Fin 1024) :
    val_main_v12 (F := Ideal) A pos X G (ValueIdx.ix2 t d) = Cert.Placed.comb A (Cert.Routed.pn pos) hP X G t d := by
  rw [val_main_v12_apply, val_main_v11_apply]
  unfold Cert.Placed.comb
  refine congrArg (fun a : EReal => X (ValueIdx.ix2 t d) + a) ?_
  refine Eq.trans (congrArg (fun a : EReal => a + _) (show (val_main_cst (F := Ideal) _ : EReal) = 0 from Ideal.ofBits_zero_f32)) ?_
  refine (zero_add _).trans (Finset.sum_congr rfl fun k _ => ?_)
  have hi : idx_main_v11 (ValueIdx.ix2 t d) k = ValueIdx.ix3 t k d := funext fun a => match a with | ⟨0, _⟩ => rfl | ⟨1, _⟩ => rfl | ⟨2, _⟩ => rfl
  rw [hi, val_main_v10_apply]
  refine congrArg₂ (fun a b : EReal => a * b) (v7_apply A pos hP t k d) ?_
  rw [val_main_v9_apply, val_main_v8_apply]
  refine congrArg G (funext fun a => Fin.ext ?_)
  match a with
  | ⟨0, _⟩ => rfl
  | ⟨1, _⟩ => rfl

end Value

end Cert.Reference3Ideal.Read

namespace Cert.Kernel3Ideal.Comb

open Cert.Kernel3Ideal Cert.Kernel3Ideal.Gen
open Idealize.ShloMosaic Idealize.ShloMosaic.TcCoe Idealize.SL.Sem Idealize.ShloMosaic.StableHlo

/-- The gate of choice `k`, on every column. -/
theorem gate_apply (X4 : S256x4.Idx → Elt Ideal .f32) (off : Fin 2 → ℕ) (hs : S256x4.Slices off S256x1) (k : Fin 4) (ho : off = ![0, k.val]) (a : Fin 256) (b : Fin 128) :
    broadcastTo S256x128 (extractStridedSlice S256x1 off X4 hs) broadcasts_S256x1_S256x128 (ValueIdx.ix2 a b) = X4 (ValueIdx.ix2 a k) := by
  subst ho
  refine (broadcastTo_apply _ _ _ (ValueIdx.ix2 a (0 : Fin 1)) fun i => ?_).trans ?_
  · match i with
    | ⟨0, _⟩ => rfl
    | ⟨1, _⟩ => rfl
  · refine congrArg X4 (funext fun i => Fin.ext ?_)
    match i with
    | ⟨0, _⟩ => show 0 + a.val = a.val; omega
    | ⟨1, _⟩ => show k.val + 0 = k.val; omega

/-- A chunk's element: the row's own and the four chosen ones. -/
theorem sums_apply (X3 : S256x1024.Idx → Elt Ideal .f32) (X4 : S256x4.Idx → Elt Ideal .f32) (B : S8192x128.Idx → Elt Ideal .f32) (q : Fin 8) (a : Fin 256) (b : Fin 128) :
    sums (F := Ideal) X3 X4 B q (ValueIdx.ix2 a b)
      = (X3 (ValueIdx.ix2 a ⟨128 * q.val + b.val, by omega⟩) : EReal)
        + ∑ k : Fin 4, (B (ValueIdx.ix2 ⟨2048 * k.val + q.val + 8 * a.val, by omega⟩ b) : EReal) * X4 (ValueIdx.ix2 a k) := by
  have e3 : X3 ((rc q).emb (ValueIdx.ix2 a b)) = X3 (ValueIdx.ix2 a ⟨128 * q.val + b.val, by omega⟩) :=
    congrArg X3 (funext fun i => Fin.ext (by
      match i with
      | ⟨0, _⟩ => show 0 + 1 * a.val = a.val; omega
      | ⟨1, _⟩ => show 128 * q.val + 1 * b.val = 128 * q.val + b.val; omega))
  have g0 := gate_apply X4 ![0, 0] slices_S256x4_o0_0_S256x1 0 rfl a b
  have g1 := gate_apply X4 ![0, 1] slices_S256x4_o0_1_S256x1 1 rfl a b
  have g2 := gate_apply X4 ![0, 2] slices_S256x4_o0_2_S256x1 2 rfl a b
  have g3 := gate_apply X4 ![0, 3] slices_S256x4_o0_3_S256x1 3 rfl a b
  unfold sums k0_pay3
  show (((((X3 ((rc q).emb (ValueIdx.ix2 a b)) : EReal)
      + broadcastTo S256x128 (extractStridedSlice S256x1 ![0, 0] X4 slices_S256x4_o0_0_S256x1) broadcasts_S256x1_S256x128 (ValueIdx.ix2 a b) * chunk B 0 q (ValueIdx.ix2 a b))
      + broadcastTo S256x128 (extractStridedSlice S256x1 ![0, 1] X4 slices_S256x4_o0_1_S256x1) broadcasts_S256x1_S256x128 (ValueIdx.ix2 a b) * chunk B 1 q (ValueIdx.ix2 a b))
      + broadcastTo S256x128 (extractStridedSlice S256x1 ![0, 2] X4 slices_S256x4_o0_2_S256x1) broadcasts_S256x1_S256x128 (ValueIdx.ix2 a b) * chunk B 2 q (ValueIdx.ix2 a b))
      + broadcastTo S256x128 (extractStridedSlice S256x1 ![0, 3] X4 slices_S256x4_o0_3_S256x1) broadcasts_S256x1_S256x128 (ValueIdx.ix2 a b) * chunk B 3 q (ValueIdx.ix2 a b)) = _
  rw [g0, g1, g2, g3, e3, Fin.sum_univ_four, add_assoc, add_assoc, add_assoc, add_assoc, add_assoc]
  refine congrArg (fun z : EReal => X3 (ValueIdx.ix2 a ⟨128 * q.val + b.val, by omega⟩) + z) ?_
  refine congrArg₂ (fun x y : EReal => x + y) (mul_comm _ _) (congrArg₂ (fun x y : EReal => x + y) (mul_comm _ _)
    (congrArg₂ (fun x y : EReal => x + y) (mul_comm _ _) (mul_comm _ _)))

variable (m : (ℓ : Loc nD τ sig) → Buf (Elt Ideal) ℓ)

abbrev aA (c : Dev nD) : FVec Ideal S1114112x128 .f32 := m (lc c main_arg0)
abbrev aP {F : FTy → Type} [FloatOps F] (m : (ℓ : Loc nD τ sig) → Buf (Elt F) ℓ) (c : Dev nD) : IVec S32768x4 32 := m (lc c main_arg1)
abbrev aX (c : Dev nD) : FVec Ideal S32768x1024 .f32 := m (lc c main_arg2)
abbrev aG (c : Dev nD) : FVec Ideal S32768x4 .f32 := m (lc c main_arg3)

/-- The launch's hypotheses, from the precondition. -/
theorem facts_pre {F : FTy → Type} [FloatOps F] (m : (ℓ : Loc nD τ sig) → Buf (Elt F) ℓ)
    (hp : Cert.Pre_placed.fn (F := F) (m ((0 : Dev nD).tc.loc main_arg0)) (m ((0 : Dev nD).tc.loc main_arg1)) (m ((0 : Dev nD).tc.loc main_arg2))
      (m ((0 : Dev nD).tc.loc main_arg3)) = fun _ => 1#1) : Facts m (Cert.Routed.pn (aP m 0)) where
  pos t k := by
    rw [V₁_pos]
    refine (shapeCast_apply _ _ _ (ValueIdx.ix2 (⟨(1024 * t.val + k.val) / 4, by omega⟩ : Fin 32768) (⟨(1024 * t.val + k.val) % 4, by omega⟩ : Fin 4)) ?_).trans ?_
    · rw [Shape.rowMajor_val_three, Shape.rowMajor_val_two]
      show (1024 * t.val + k.val) / 4 * 4 + (1024 * t.val + k.val) % 4 = (t.val * 1 + 0) * 1024 + k.val
      omega
    · refine (Cert.Placed.pn_at (aP m 0) _ _).trans (congrArg (fun n => BitVec.ofNat 32 (Cert.Routed.pn (aP m 0) n)) ?_)
      show 4 * ((1024 * t.val + k.val) / 4) + (1024 * t.val + k.val) % 4 = _
      omega
  lt q hq := Cert.Placed.read (F := F) _ _ _ _ hp q hq

variable {m} {P : ℕ → ℕ} (h : Facts m P)

/-- Element `y` of the result. -/
theorem outG_apply (t : Fin 32768) (d : Fin 1024) :
    outG h (ValueIdx.ix2 t d) = Cert.Placed.comb (aA m 0) P h.lt (aX m 0) (aG m 0) t d := by
  unfold outG outAt blockOut
  refine (sums_apply _ _ _ _ _ _).trans ?_
  unfold Cert.Placed.comb
  have hw := ix_word (tileOf (ValueIdx.ix2 t d))
  refine congrArg₂ (fun a b : EReal => a + b) ?_ (Finset.sum_congr rfl fun k _ => congrArg₂ (fun a b : EReal => a * b) ?_ ?_)
  · unfold b1 aX
    rw [← V₁_arg m 0 main_arg2 (by simp)]
    have key : ∀ a : Fin 2, cc0_transform_2 (grid0.coords (tileOf (ValueIdx.ix2 t d))) a * S256x1024.size a
        + 1 * ((ValueIdx.ix2 (⟨t.val % 256, by omega⟩ : Fin 256) (⟨128 * (d.val / 128) + d.val % 128, by omega⟩ : Fin 1024) : S256x1024.Idx) a).val
        = ((ValueIdx.ix2 t d : S32768x1024.Idx) a).val := by
      intro a
      match a with
      | ⟨0, _⟩ =>
        show (BitVec.ofNat 32 ((grid0.coords (tileOf (ValueIdx.ix2 t d))) 0).val).toNat * 256 + 1 * (t.val % 256) = t.val
        rw [hw]
        show t.val / 256 * 256 + 1 * (t.val % 256) = t.val
        omega
      | ⟨1, _⟩ =>
        show 0 * 1024 + 1 * (128 * (d.val / 128) + d.val % 128) = d.val
        omega
    refine congrArg (V₁ m 0 (Proc.devRef .tc main_arg2) : S32768x1024.Idx → EReal) (funext fun a => Fin.ext ?_)
    exact key a
  · unfold rowsOf filled ysRow Cert.Placed.pick aA
    rw [← V₁_arg m 0 main_arg0 (by simp)]
    have hpair : 1024 * (t.val / 256) + ((2048 * k.val + d.val / 128 + 8 * (t.val % 256)) / 8 % 256 * 4 + (2048 * k.val + d.val / 128 + 8 * (t.val % 256)) / 8 / 256) = 4 * t.val + k.val := by omega
    refine congrArg (V₁ m 0 (Proc.devRef .tc main_arg0) : S1114112x128.Idx → EReal) (funext fun a => Fin.ext ?_)
    match a with
    | ⟨0, _⟩ =>
      show 8 * P (1024 * (t.val / 256) + ((2048 * k.val + d.val / 128 + 8 * (t.val % 256)) / 8 % 256 * 4 + (2048 * k.val + d.val / 128 + 8 * (t.val % 256)) / 8 / 256))
        + (2048 * k.val + d.val / 128 + 8 * (t.val % 256)) % 8 = 8 * P (4 * t.val + k.val) + d.val / 128
      rw [hpair]
      omega
    | ⟨1, _⟩ => rfl
  · unfold b2 aG
    rw [← V₁_arg m 0 main_arg3 (by simp)]
    have key : ∀ a : Fin 2, cc0_transform_3 (grid0.coords (tileOf (ValueIdx.ix2 t d))) a * S256x4.size a
        + 1 * ((ValueIdx.ix2 (⟨t.val % 256, by omega⟩ : Fin 256) k : S256x4.Idx) a).val
        = ((ValueIdx.ix2 t k : S32768x4.Idx) a).val := by
      intro a
      match a with
      | ⟨0, _⟩ =>
        show (BitVec.ofNat 32 ((grid0.coords (tileOf (ValueIdx.ix2 t d))) 0).val).toNat * 256 + 1 * (t.val % 256) = t.val
        rw [hw]
        show t.val / 256 * 256 + 1 * (t.val % 256) = t.val
        omega
      | ⟨1, _⟩ =>
        show 0 * 4 + 1 * k.val = k.val
        omega
    refine congrArg (V₁ m 0 (Proc.devRef .tc main_arg3) : S32768x4.Idx → EReal) (funext fun a => Fin.ext ?_)
    exact key a

end Cert.Kernel3Ideal.Comb

end
-- ==== Proof.YClaims.lean ====
module

public import proofs.«01_k».proof.Proof.Claims
public import proofs.«01_k».proof.Proof.YVal
public import proofs.«01_k».proof.Proof.Gen.Kernel3
public import proofs.«01_k».proof.Proof.Gen.Kernel3.Skeleton
public import proofs.«01_k».proof.Proof.Gen.Kernel3.Launch
public import proofs.«01_k».proof.Proof.Gen.Reference3Ideal.Run

@[expose] public section

noncomputable section

/-! # The combine's claims -/

namespace Cert.Proof

open Idealize.ShloMosaic Idealize.ShloMosaic.TcCoe Idealize.SL.Sem Idealize.ShloMosaic.StableHlo

set_option maxHeartbeats 4000000 in
/-- The two programs' body tables are one. -/
theorem defs3_eq : Cert.Kernel3.defs (F := Bits) = Cert.Kernel3Ideal.defs (F := Bits) :=
  congrArg (Pipeline.defs _) (show Cert.Kernel3.defs₀ (F := Bits) = Cert.Kernel3Ideal.defs₀ (F := Bits) from
    congrArg Defs.onTc (funext fun l => match l with | 0 => rfl))

theorem ops30_eq : Cert.Kernel3.Gen.hostOps0 (F := Bits) = Cert.Kernel3Ideal.Gen.hostOps0 (F := Bits) := rfl

set_option maxHeartbeats 4000000 in
/-- The two programs' functions are one. -/
theorem main3_eq : Cert.Kernel3.main (F := Bits) = Cert.Kernel3Ideal.main (F := Bits) := by
  funext c
  refine (Cert.Kernel3.Gen.main_chain (F := Bits) c).trans (Eq.trans ?_ (Cert.Kernel3Ideal.Gen.main_chain (F := Bits) c).symm)
  rw [ops30_eq]
  rfl

theorem frame_kernel3 : Cert.quiescent_Kernel3 := fun m ρ hp =>
  moved defs3_eq main3_eq ((θ_run Cert.Kernel3Ideal.defs _ _).mono (fun _ h => ⟨fun c => (h.1 c).1, h.2⟩)
    (Cert.Kernel3Ideal.Comb.run_main (Cert.Kernel3Ideal.Comb.facts_pre (F := Bits) m (hp 0)) ρ))

theorem frame_kernel3Ideal : Cert.quiescent_Kernel3Ideal := fun m ρ hp =>
  (θ_run Cert.Kernel3Ideal.defs _ _).mono (fun _ h => ⟨fun c => (h.1 c).1, h.2⟩)
    (Cert.Kernel3Ideal.Comb.run_main (Cert.Kernel3Ideal.Comb.facts_pre (F := Ideal) m (hp 0)) ρ)

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The result, in the kernel's run and in the reference's. -/
theorem value3 (m : (ℓ : Loc Cert.Kernel3Ideal.nD Cert.Kernel3Ideal.τ Cert.Kernel3Ideal.sig) → Buf (Elt Ideal) ℓ)
    (hf : Cert.Kernel3Ideal.Comb.Facts m (Cert.Routed.pn (Cert.Kernel3Ideal.Comb.aP m 0))) :
    Cert.Kernel3Ideal.Comb.final hf 0 = Cert.Reference3Ideal.Read.val_main_v12 (F := Ideal) (Cert.Kernel3Ideal.Comb.aA m 0) (Cert.Kernel3Ideal.Comb.aP m 0)
      (Cert.Kernel3Ideal.Comb.aX m 0) (Cert.Kernel3Ideal.Comb.aG m 0) := by
  funext y
  have hy : y = ValueIdx.ix2 (y 0) (y 1) := funext fun a => match a with | ⟨0, _⟩ => rfl | ⟨1, _⟩ => rfl
  rw [hy]
  exact (Cert.Kernel3Ideal.Comb.final_apply hf 0 _).trans ((Cert.Kernel3Ideal.Comb.outG_apply hf (y 0) (y 1)).trans
    (Cert.Reference3Ideal.Read.ref_apply _ _ _ _ hf.lt (y 0) (y 1)).symm)

theorem algebraic3 : Cert.algebraic_Kernel3Ideal_Reference3Ideal := by
  intro m ρ m' ρ' hp ha
  have hf := Cert.Kernel3Ideal.Comb.facts_pre (F := Ideal) m (hp 0)
  refine ⟨fun c => Cert.Reference3Ideal.Read.val_main_v12 (F := Ideal) (Cert.Kernel3Ideal.Comb.aA m c) (Cert.Kernel3Ideal.Comb.aP m c)
      (Cert.Kernel3Ideal.Comb.aX m c) (Cert.Kernel3Ideal.Comb.aG m c), ?_, ?_⟩
  · refine (θ_run Cert.Kernel3Ideal.defs _ _).mono (fun r h c => ⟨?_, (h.1 c).1⟩) (Cert.Kernel3Ideal.Comb.run_main hf ρ)
    have e := (h.1 c).2
    obtain rfl : c = 0 := Subsingleton.elim _ _
    exact e.trans (value3 m hf)
  · refine (θ_run Cert.Reference3Ideal.defs _ _).mono (fun r h c => ⟨?_, (h c).2⟩) (Cert.Reference3Ideal.Value.run (F := Ideal) m' ρ')
    refine ((h c).1.trans (Cert.Reference3Ideal.Read.val_main_v12_eq (F := Ideal) _ _ _ _)).trans ?_
    obtain ⟨a0, a1, a2, a3⟩ := ha c
    rw [a0, a1, a2, a3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.Reference.Run
public import proofs.«01_k».proof.Proof.Gen.ReferenceIdeal.Run
public import proofs.«01_k».proof.Proof.Gen.Reference.Read
public import proofs.«01_k».proof.Proof.Gen.ReferenceIdeal.Read
public import proofs.«01_k».proof.Proof.Gen.Pre_routed
public import proofs.«01_k».proof.Proof.Gen.On_rows_in_use
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal.Run
public import proofs.«01_k».proof.Proof.Gen.Reference2Ideal.Read
public import proofs.«01_k».proof.Proof.Gen.Pre_counted
public import proofs.«01_k».proof.Proof.Gen.On_tiles_in_use
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Reference3Ideal.Run
public import proofs.«01_k».proof.Proof.Gen.Reference3Ideal.Read
public import proofs.«01_k».proof.Proof.Gen.Pre_placed
public import proofs.«01_k».proof.Proof.Claims
public import proofs.«01_k».proof.Proof.XClaims
public import proofs.«01_k».proof.Proof.YClaims

@[expose] public section

noncomputable section

namespace Cert.Proof

theorem claim : Cert.Claim :=
  ⟨Cert.Kernel.Gen.facts, Cert.KernelIdeal.Gen.facts, Cert.Reference.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_routed.Gen.facts, Cert.Pre_counted.Gen.facts, Cert.Pre_placed.Gen.facts, Cert.On_rows_in_use.Gen.facts, Cert.On_tiles_in_use.Gen.facts,
    frame_kernel, frame_kernelIdeal, frame_reference, frame_referenceIdeal, frame_kernel2, frame_kernel2Ideal, frame_reference2Ideal,
    frame_kernel3, frame_kernel3Ideal, frame_reference3Ideal,
    trivial, bitexact, algebraic, trivial, algebraic2, trivial, algebraic3⟩

end Cert.Proof

end
